-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S2x128x4x64 : Shape := ⟨4, ![2, 128, 4, 64]⟩
abbrev S256x256 : Shape := ⟨2, ![256, 256]⟩
abbrev S32x8x512 : Shape := ⟨3, ![32, 8, 512]⟩
abbrev S2 : Shape := ⟨1, ![2]⟩
abbrev S31 : Shape := ⟨1, ![31]⟩
abbrev S32 : Shape := ⟨1, ![32]⟩
abbrev S1 : Shape := ⟨1, ![1]⟩
abbrev S_ : Shape := ⟨0, ![]⟩
abbrev S128x64 : Shape := ⟨2, ![128, 64]⟩
abbrev S1x128x1x64 : Shape := ⟨4, ![1, 128, 1, 64]⟩
abbrev S128x128 : Shape := ⟨2, ![128, 128]⟩
abbrev S128 : Shape := ⟨1, ![128]⟩
abbrev S128x1 : Shape := ⟨2, ![128, 1]⟩
abbrev S1x8x512 : Shape := ⟨3, ![1, 8, 512]⟩
abbrev S8x512 : Shape := ⟨2, ![8, 512]⟩

abbrev nBuf : Space → Nat
  | .hbm => 6
  | .vmem => 10
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x128x64, .f32⟩
  | .hbm, ⟨3, _⟩ => ⟨S2x128x128x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S2x128x4x64, .f32⟩
  | .local _ .vmem, ⟨5, _⟩ => ⟨S2x128x4x64, .f32⟩
  | .local _ .vmem, ⟨6, _⟩ => ⟨S256x256, .f32⟩
  | .local _ .vmem, ⟨7, _⟩ => ⟨S32x8x512, .bf16⟩
  | .local _ .vmem, ⟨8, _⟩ => ⟨S32x8x512, .bf16⟩
  | .local _ .vmem, ⟨9, _⟩ => ⟨S32x8x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 132 → Bool
  | ⟨i, _⟩ => dmaSemScopedAt i

abbrev sig : RefSig :=
  (ofTc nBuf bufTy 1 132 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32_0 : BitVec 32 := 0#32
  let c0_i32_1 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v3 : BitVec 32 := Scalar.muli v2 c4_i32
  let c0_i32_2 : BitVec 32 := 0#32
  ![0, 0, v3.toNat, 0]
def k0_dev1 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_88 : BitVec 32 := 1#32
  let v238 : BitVec 32 := Scalar.addi v2 c1_i32_88
  let c32_i32_89 : BitVec 32 := 32#32
  let c0_i32_90 : BitVec 32 := 0#32
  let v239 : BitVec 1 := Scalar.cmpi .eq c32_i32_89 c0_i32_90
  let c1_i32_91 : BitVec 32 := 1#32
  let v240 : BitVec 32 := Scalar.select v239 c1_i32_91 c32_i32_89
  let v241 : BitVec 32 := Scalar.remsi v238 v240
  let c0_i32_93 : BitVec 32 := 0#32
  let v243 : BitVec 1 := Scalar.cmpi .slt v241 c0_i32_93
  let c0_i32_94 : BitVec 32 := 0#32
  let v244 : BitVec 1 := Scalar.cmpi .slt v240 c0_i32_94
  let v245 : BitVec 1 := Scalar.xori v243 v244
  let c0_i32_92 : BitVec 32 := 0#32
  let v242 : BitVec 1 := Scalar.cmpi .ne v241 c0_i32_92
  let v246 : BitVec 1 := Scalar.andi v245 v242
  let v247 : BitVec 32 := Scalar.addi v241 v240
  let v248 : BitVec 32 := Scalar.select v246 v247 v241
  let c1_i32_96 : BitVec 32 := 1#32
  let v249 : BitVec 32 := Scalar.muli v248 c1_i32_96
  let v250 : BitVec 32 := Scalar.addi c0_i32_97 v249
  v250.toNat
def k0_dev2 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v251 : BitVec 32 := Scalar.addi v2 c2_i32
  let c32_i32_98 : BitVec 32 := 32#32
  let c0_i32_99 : BitVec 32 := 0#32
  let v252 : BitVec 1 := Scalar.cmpi .eq c32_i32_98 c0_i32_99
  let c1_i32_100 : BitVec 32 := 1#32
  let v253 : BitVec 32 := Scalar.select v252 c1_i32_100 c32_i32_98
  let v254 : BitVec 32 := Scalar.remsi v251 v253
  let c0_i32_102 : BitVec 32 := 0#32
  let v256 : BitVec 1 := Scalar.cmpi .slt v254 c0_i32_102
  let c0_i32_103 : BitVec 32 := 0#32
  let v257 : BitVec 1 := Scalar.cmpi .slt v253 c0_i32_103
  let v258 : BitVec 1 := Scalar.xori v256 v257
  let c0_i32_101 : BitVec 32 := 0#32
  let v255 : BitVec 1 := Scalar.cmpi .ne v254 c0_i32_101
  let v259 : BitVec 1 := Scalar.andi v258 v255
  let v260 : BitVec 32 := Scalar.addi v254 v253
  let v261 : BitVec 32 := Scalar.select v259 v260 v254
  let c1_i32_105 : BitVec 32 := 1#32
  let v262 : BitVec 32 := Scalar.muli v261 c1_i32_105
  let v263 : BitVec 32 := Scalar.addi c0_i32_106 v262
  v263.toNat
def k0_dev3 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v264 : BitVec 32 := Scalar.addi v2 c3_i32
  let c32_i32_107 : BitVec 32 := 32#32
  let c0_i32_108 : BitVec 32 := 0#32
  let v265 : BitVec 1 := Scalar.cmpi .eq c32_i32_107 c0_i32_108
  let c1_i32_109 : BitVec 32 := 1#32
  let v266 : BitVec 32 := Scalar.select v265 c1_i32_109 c32_i32_107
  let v267 : BitVec 32 := Scalar.remsi v264 v266
  let c0_i32_111 : BitVec 32 := 0#32
  let v269 : BitVec 1 := Scalar.cmpi .slt v267 c0_i32_111
  let c0_i32_112 : BitVec 32 := 0#32
  let v270 : BitVec 1 := Scalar.cmpi .slt v266 c0_i32_112
  let v271 : BitVec 1 := Scalar.xori v269 v270
  let c0_i32_110 : BitVec 32 := 0#32
  let v268 : BitVec 1 := Scalar.cmpi .ne v267 c0_i32_110
  let v272 : BitVec 1 := Scalar.andi v271 v268
  let v273 : BitVec 32 := Scalar.addi v267 v266
  let v274 : BitVec 32 := Scalar.select v272 v273 v267
  let c1_i32_114 : BitVec 32 := 1#32
  let v275 : BitVec 32 := Scalar.muli v274 c1_i32_114
  let v276 : BitVec 32 := Scalar.addi c0_i32_115 v275
  v276.toNat
def k0_dev4 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_116 : BitVec 32 := 4#32
  let v277 : BitVec 32 := Scalar.addi v2 c4_i32_116
  let c32_i32_117 : BitVec 32 := 32#32
  let c0_i32_118 : BitVec 32 := 0#32
  let v278 : BitVec 1 := Scalar.cmpi .eq c32_i32_117 c0_i32_118
  let c1_i32_119 : BitVec 32 := 1#32
  let v279 : BitVec 32 := Scalar.select v278 c1_i32_119 c32_i32_117
  let v280 : BitVec 32 := Scalar.remsi v277 v279
  let c0_i32_121 : BitVec 32 := 0#32
  let v282 : BitVec 1 := Scalar.cmpi .slt v280 c0_i32_121
  let c0_i32_122 : BitVec 32 := 0#32
  let v283 : BitVec 1 := Scalar.cmpi .slt v279 c0_i32_122
  let v284 : BitVec 1 := Scalar.xori v282 v283
  let c0_i32_120 : BitVec 32 := 0#32
  let v281 : BitVec 1 := Scalar.cmpi .ne v280 c0_i32_120
  let v285 : BitVec 1 := Scalar.andi v284 v281
  let v286 : BitVec 32 := Scalar.addi v280 v279
  let v287 : BitVec 32 := Scalar.select v285 v286 v280
  let c1_i32_124 : BitVec 32 := 1#32
  let v288 : BitVec 32 := Scalar.muli v287 c1_i32_124
  let v289 : BitVec 32 := Scalar.addi c0_i32_125 v288
  v289.toNat
def k0_dev5 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v290 : BitVec 32 := Scalar.addi v2 c5_i32
  let c32_i32_126 : BitVec 32 := 32#32
  let c0_i32_127 : BitVec 32 := 0#32
  let v291 : BitVec 1 := Scalar.cmpi .eq c32_i32_126 c0_i32_127
  let c1_i32_128 : BitVec 32 := 1#32
  let v292 : BitVec 32 := Scalar.select v291 c1_i32_128 c32_i32_126
  let v293 : BitVec 32 := Scalar.remsi v290 v292
  let c0_i32_130 : BitVec 32 := 0#32
  let v295 : BitVec 1 := Scalar.cmpi .slt v293 c0_i32_130
  let c0_i32_131 : BitVec 32 := 0#32
  let v296 : BitVec 1 := Scalar.cmpi .slt v292 c0_i32_131
  let v297 : BitVec 1 := Scalar.xori v295 v296
  let c0_i32_129 : BitVec 32 := 0#32
  let v294 : BitVec 1 := Scalar.cmpi .ne v293 c0_i32_129
  let v298 : BitVec 1 := Scalar.andi v297 v294
  let v299 : BitVec 32 := Scalar.addi v293 v292
  let v300 : BitVec 32 := Scalar.select v298 v299 v293
  let c1_i32_133 : BitVec 32 := 1#32
  let v301 : BitVec 32 := Scalar.muli v300 c1_i32_133
  let v302 : BitVec 32 := Scalar.addi c0_i32_134 v301
  v302.toNat
def k0_dev6 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v303 : BitVec 32 := Scalar.addi v2 c6_i32
  let c32_i32_135 : BitVec 32 := 32#32
  let c0_i32_136 : BitVec 32 := 0#32
  let v304 : BitVec 1 := Scalar.cmpi .eq c32_i32_135 c0_i32_136
  let c1_i32_137 : BitVec 32 := 1#32
  let v305 : BitVec 32 := Scalar.select v304 c1_i32_137 c32_i32_135
  let v306 : BitVec 32 := Scalar.remsi v303 v305
  let c0_i32_139 : BitVec 32 := 0#32
  let v308 : BitVec 1 := Scalar.cmpi .slt v306 c0_i32_139
  let c0_i32_140 : BitVec 32 := 0#32
  let v309 : BitVec 1 := Scalar.cmpi .slt v305 c0_i32_140
  let v310 : BitVec 1 := Scalar.xori v308 v309
  let c0_i32_138 : BitVec 32 := 0#32
  let v307 : BitVec 1 := Scalar.cmpi .ne v306 c0_i32_138
  let v311 : BitVec 1 := Scalar.andi v310 v307
  let v312 : BitVec 32 := Scalar.addi v306 v305
  let v313 : BitVec 32 := Scalar.select v311 v312 v306
  let c1_i32_142 : BitVec 32 := 1#32
  let v314 : BitVec 32 := Scalar.muli v313 c1_i32_142
  let v315 : BitVec 32 := Scalar.addi c0_i32_143 v314
  v315.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v316 : BitVec 32 := Scalar.addi v2 c7_i32
  let c32_i32_144 : BitVec 32 := 32#32
  let c0_i32_145 : BitVec 32 := 0#32
  let v317 : BitVec 1 := Scalar.cmpi .eq c32_i32_144 c0_i32_145
  let c1_i32_146 : BitVec 32 := 1#32
  let v318 : BitVec 32 := Scalar.select v317 c1_i32_146 c32_i32_144
  let v319 : BitVec 32 := Scalar.remsi v316 v318
  let c0_i32_148 : BitVec 32 := 0#32
  let v321 : BitVec 1 := Scalar.cmpi .slt v319 c0_i32_148
  let c0_i32_149 : BitVec 32 := 0#32
  let v322 : BitVec 1 := Scalar.cmpi .slt v318 c0_i32_149
  let v323 : BitVec 1 := Scalar.xori v321 v322
  let c0_i32_147 : BitVec 32 := 0#32
  let v320 : BitVec 1 := Scalar.cmpi .ne v319 c0_i32_147
  let v324 : BitVec 1 := Scalar.andi v323 v320
  let v325 : BitVec 32 := Scalar.addi v319 v318
  let v326 : BitVec 32 := Scalar.select v324 v325 v319
  let c1_i32_151 : BitVec 32 := 1#32
  let v327 : BitVec 32 := Scalar.muli v326 c1_i32_151
  let v328 : BitVec 32 := Scalar.addi c0_i32_152 v327
  v328.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v329 : BitVec 32 := Scalar.addi v2 c8_i32
  let c32_i32_153 : BitVec 32 := 32#32
  let c0_i32_154 : BitVec 32 := 0#32
  let v330 : BitVec 1 := Scalar.cmpi .eq c32_i32_153 c0_i32_154
  let c1_i32_155 : BitVec 32 := 1#32
  let v331 : BitVec 32 := Scalar.select v330 c1_i32_155 c32_i32_153
  let v332 : BitVec 32 := Scalar.remsi v329 v331
  let c0_i32_157 : BitVec 32 := 0#32
  let v334 : BitVec 1 := Scalar.cmpi .slt v332 c0_i32_157
  let c0_i32_158 : BitVec 32 := 0#32
  let v335 : BitVec 1 := Scalar.cmpi .slt v331 c0_i32_158
  let v336 : BitVec 1 := Scalar.xori v334 v335
  let c0_i32_156 : BitVec 32 := 0#32
  let v333 : BitVec 1 := Scalar.cmpi .ne v332 c0_i32_156
  let v337 : BitVec 1 := Scalar.andi v336 v333
  let v338 : BitVec 32 := Scalar.addi v332 v331
  let v339 : BitVec 32 := Scalar.select v337 v338 v332
  let c1_i32_160 : BitVec 32 := 1#32
  let v340 : BitVec 32 := Scalar.muli v339 c1_i32_160
  let v341 : BitVec 32 := Scalar.addi c0_i32_161 v340
  v341.toNat
def k0_dev9 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v342 : BitVec 32 := Scalar.addi v2 c9_i32
  let c32_i32_162 : BitVec 32 := 32#32
  let c0_i32_163 : BitVec 32 := 0#32
  let v343 : BitVec 1 := Scalar.cmpi .eq c32_i32_162 c0_i32_163
  let c1_i32_164 : BitVec 32 := 1#32
  let v344 : BitVec 32 := Scalar.select v343 c1_i32_164 c32_i32_162
  let v345 : BitVec 32 := Scalar.remsi v342 v344
  let c0_i32_166 : BitVec 32 := 0#32
  let v347 : BitVec 1 := Scalar.cmpi .slt v345 c0_i32_166
  let c0_i32_167 : BitVec 32 := 0#32
  let v348 : BitVec 1 := Scalar.cmpi .slt v344 c0_i32_167
  let v349 : BitVec 1 := Scalar.xori v347 v348
  let c0_i32_165 : BitVec 32 := 0#32
  let v346 : BitVec 1 := Scalar.cmpi .ne v345 c0_i32_165
  let v350 : BitVec 1 := Scalar.andi v349 v346
  let v351 : BitVec 32 := Scalar.addi v345 v344
  let v352 : BitVec 32 := Scalar.select v350 v351 v345
  let c1_i32_169 : BitVec 32 := 1#32
  let v353 : BitVec 32 := Scalar.muli v352 c1_i32_169
  let v354 : BitVec 32 := Scalar.addi c0_i32_170 v353
  v354.toNat
def k0_dev10 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v355 : BitVec 32 := Scalar.addi v2 c10_i32
  let c32_i32_171 : BitVec 32 := 32#32
  let c0_i32_172 : BitVec 32 := 0#32
  let v356 : BitVec 1 := Scalar.cmpi .eq c32_i32_171 c0_i32_172
  let c1_i32_173 : BitVec 32 := 1#32
  let v357 : BitVec 32 := Scalar.select v356 c1_i32_173 c32_i32_171
  let v358 : BitVec 32 := Scalar.remsi v355 v357
  let c0_i32_175 : BitVec 32 := 0#32
  let v360 : BitVec 1 := Scalar.cmpi .slt v358 c0_i32_175
  let c0_i32_176 : BitVec 32 := 0#32
  let v361 : BitVec 1 := Scalar.cmpi .slt v357 c0_i32_176
  let v362 : BitVec 1 := Scalar.xori v360 v361
  let c0_i32_174 : BitVec 32 := 0#32
  let v359 : BitVec 1 := Scalar.cmpi .ne v358 c0_i32_174
  let v363 : BitVec 1 := Scalar.andi v362 v359
  let v364 : BitVec 32 := Scalar.addi v358 v357
  let v365 : BitVec 32 := Scalar.select v363 v364 v358
  let c1_i32_178 : BitVec 32 := 1#32
  let v366 : BitVec 32 := Scalar.muli v365 c1_i32_178
  let v367 : BitVec 32 := Scalar.addi c0_i32_179 v366
  v367.toNat
def k0_dev11 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v368 : BitVec 32 := Scalar.addi v2 c11_i32
  let c32_i32_180 : BitVec 32 := 32#32
  let c0_i32_181 : BitVec 32 := 0#32
  let v369 : BitVec 1 := Scalar.cmpi .eq c32_i32_180 c0_i32_181
  let c1_i32_182 : BitVec 32 := 1#32
  let v370 : BitVec 32 := Scalar.select v369 c1_i32_182 c32_i32_180
  let v371 : BitVec 32 := Scalar.remsi v368 v370
  let c0_i32_184 : BitVec 32 := 0#32
  let v373 : BitVec 1 := Scalar.cmpi .slt v371 c0_i32_184
  let c0_i32_185 : BitVec 32 := 0#32
  let v374 : BitVec 1 := Scalar.cmpi .slt v370 c0_i32_185
  let v375 : BitVec 1 := Scalar.xori v373 v374
  let c0_i32_183 : BitVec 32 := 0#32
  let v372 : BitVec 1 := Scalar.cmpi .ne v371 c0_i32_183
  let v376 : BitVec 1 := Scalar.andi v375 v372
  let v377 : BitVec 32 := Scalar.addi v371 v370
  let v378 : BitVec 32 := Scalar.select v376 v377 v371
  let c1_i32_187 : BitVec 32 := 1#32
  let v379 : BitVec 32 := Scalar.muli v378 c1_i32_187
  let v380 : BitVec 32 := Scalar.addi c0_i32_188 v379
  v380.toNat
def k0_dev12 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v381 : BitVec 32 := Scalar.addi v2 c12_i32
  let c32_i32_189 : BitVec 32 := 32#32
  let c0_i32_190 : BitVec 32 := 0#32
  let v382 : BitVec 1 := Scalar.cmpi .eq c32_i32_189 c0_i32_190
  let c1_i32_191 : BitVec 32 := 1#32
  let v383 : BitVec 32 := Scalar.select v382 c1_i32_191 c32_i32_189
  let v384 : BitVec 32 := Scalar.remsi v381 v383
  let c0_i32_193 : BitVec 32 := 0#32
  let v386 : BitVec 1 := Scalar.cmpi .slt v384 c0_i32_193
  let c0_i32_194 : BitVec 32 := 0#32
  let v387 : BitVec 1 := Scalar.cmpi .slt v383 c0_i32_194
  let v388 : BitVec 1 := Scalar.xori v386 v387
  let c0_i32_192 : BitVec 32 := 0#32
  let v385 : BitVec 1 := Scalar.cmpi .ne v384 c0_i32_192
  let v389 : BitVec 1 := Scalar.andi v388 v385
  let v390 : BitVec 32 := Scalar.addi v384 v383
  let v391 : BitVec 32 := Scalar.select v389 v390 v384
  let c1_i32_196 : BitVec 32 := 1#32
  let v392 : BitVec 32 := Scalar.muli v391 c1_i32_196
  let v393 : BitVec 32 := Scalar.addi c0_i32_197 v392
  v393.toNat
def k0_dev13 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v394 : BitVec 32 := Scalar.addi v2 c13_i32
  let c32_i32_198 : BitVec 32 := 32#32
  let c0_i32_199 : BitVec 32 := 0#32
  let v395 : BitVec 1 := Scalar.cmpi .eq c32_i32_198 c0_i32_199
  let c1_i32_200 : BitVec 32 := 1#32
  let v396 : BitVec 32 := Scalar.select v395 c1_i32_200 c32_i32_198
  let v397 : BitVec 32 := Scalar.remsi v394 v396
  let c0_i32_202 : BitVec 32 := 0#32
  let v399 : BitVec 1 := Scalar.cmpi .slt v397 c0_i32_202
  let c0_i32_203 : BitVec 32 := 0#32
  let v400 : BitVec 1 := Scalar.cmpi .slt v396 c0_i32_203
  let v401 : BitVec 1 := Scalar.xori v399 v400
  let c0_i32_201 : BitVec 32 := 0#32
  let v398 : BitVec 1 := Scalar.cmpi .ne v397 c0_i32_201
  let v402 : BitVec 1 := Scalar.andi v401 v398
  let v403 : BitVec 32 := Scalar.addi v397 v396
  let v404 : BitVec 32 := Scalar.select v402 v403 v397
  let c1_i32_205 : BitVec 32 := 1#32
  let v405 : BitVec 32 := Scalar.muli v404 c1_i32_205
  let v406 : BitVec 32 := Scalar.addi c0_i32_206 v405
  v406.toNat
def k0_dev14 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v407 : BitVec 32 := Scalar.addi v2 c14_i32
  let c32_i32_207 : BitVec 32 := 32#32
  let c0_i32_208 : BitVec 32 := 0#32
  let v408 : BitVec 1 := Scalar.cmpi .eq c32_i32_207 c0_i32_208
  let c1_i32_209 : BitVec 32 := 1#32
  let v409 : BitVec 32 := Scalar.select v408 c1_i32_209 c32_i32_207
  let v410 : BitVec 32 := Scalar.remsi v407 v409
  let c0_i32_211 : BitVec 32 := 0#32
  let v412 : BitVec 1 := Scalar.cmpi .slt v410 c0_i32_211
  let c0_i32_212 : BitVec 32 := 0#32
  let v413 : BitVec 1 := Scalar.cmpi .slt v409 c0_i32_212
  let v414 : BitVec 1 := Scalar.xori v412 v413
  let c0_i32_210 : BitVec 32 := 0#32
  let v411 : BitVec 1 := Scalar.cmpi .ne v410 c0_i32_210
  let v415 : BitVec 1 := Scalar.andi v414 v411
  let v416 : BitVec 32 := Scalar.addi v410 v409
  let v417 : BitVec 32 := Scalar.select v415 v416 v410
  let c1_i32_214 : BitVec 32 := 1#32
  let v418 : BitVec 32 := Scalar.muli v417 c1_i32_214
  let v419 : BitVec 32 := Scalar.addi c0_i32_215 v418
  v419.toNat
def k0_dev15 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v420 : BitVec 32 := Scalar.addi v2 c15_i32
  let c32_i32_216 : BitVec 32 := 32#32
  let c0_i32_217 : BitVec 32 := 0#32
  let v421 : BitVec 1 := Scalar.cmpi .eq c32_i32_216 c0_i32_217
  let c1_i32_218 : BitVec 32 := 1#32
  let v422 : BitVec 32 := Scalar.select v421 c1_i32_218 c32_i32_216
  let v423 : BitVec 32 := Scalar.remsi v420 v422
  let c0_i32_220 : BitVec 32 := 0#32
  let v425 : BitVec 1 := Scalar.cmpi .slt v423 c0_i32_220
  let c0_i32_221 : BitVec 32 := 0#32
  let v426 : BitVec 1 := Scalar.cmpi .slt v422 c0_i32_221
  let v427 : BitVec 1 := Scalar.xori v425 v426
  let c0_i32_219 : BitVec 32 := 0#32
  let v424 : BitVec 1 := Scalar.cmpi .ne v423 c0_i32_219
  let v428 : BitVec 1 := Scalar.andi v427 v424
  let v429 : BitVec 32 := Scalar.addi v423 v422
  let v430 : BitVec 32 := Scalar.select v428 v429 v423
  let c1_i32_223 : BitVec 32 := 1#32
  let v431 : BitVec 32 := Scalar.muli v430 c1_i32_223
  let v432 : BitVec 32 := Scalar.addi c0_i32_224 v431
  v432.toNat
def k0_dev16 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v433 : BitVec 32 := Scalar.addi v2 c16_i32
  let c32_i32_225 : BitVec 32 := 32#32
  let c0_i32_226 : BitVec 32 := 0#32
  let v434 : BitVec 1 := Scalar.cmpi .eq c32_i32_225 c0_i32_226
  let c1_i32_227 : BitVec 32 := 1#32
  let v435 : BitVec 32 := Scalar.select v434 c1_i32_227 c32_i32_225
  let v436 : BitVec 32 := Scalar.remsi v433 v435
  let c0_i32_229 : BitVec 32 := 0#32
  let v438 : BitVec 1 := Scalar.cmpi .slt v436 c0_i32_229
  let c0_i32_230 : BitVec 32 := 0#32
  let v439 : BitVec 1 := Scalar.cmpi .slt v435 c0_i32_230
  let v440 : BitVec 1 := Scalar.xori v438 v439
  let c0_i32_228 : BitVec 32 := 0#32
  let v437 : BitVec 1 := Scalar.cmpi .ne v436 c0_i32_228
  let v441 : BitVec 1 := Scalar.andi v440 v437
  let v442 : BitVec 32 := Scalar.addi v436 v435
  let v443 : BitVec 32 := Scalar.select v441 v442 v436
  let c1_i32_232 : BitVec 32 := 1#32
  let v444 : BitVec 32 := Scalar.muli v443 c1_i32_232
  let v445 : BitVec 32 := Scalar.addi c0_i32_233 v444
  v445.toNat
def k0_dev17 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v446 : BitVec 32 := Scalar.addi v2 c17_i32
  let c32_i32_234 : BitVec 32 := 32#32
  let c0_i32_235 : BitVec 32 := 0#32
  let v447 : BitVec 1 := Scalar.cmpi .eq c32_i32_234 c0_i32_235
  let c1_i32_236 : BitVec 32 := 1#32
  let v448 : BitVec 32 := Scalar.select v447 c1_i32_236 c32_i32_234
  let v449 : BitVec 32 := Scalar.remsi v446 v448
  let c0_i32_238 : BitVec 32 := 0#32
  let v451 : BitVec 1 := Scalar.cmpi .slt v449 c0_i32_238
  let c0_i32_239 : BitVec 32 := 0#32
  let v452 : BitVec 1 := Scalar.cmpi .slt v448 c0_i32_239
  let v453 : BitVec 1 := Scalar.xori v451 v452
  let c0_i32_237 : BitVec 32 := 0#32
  let v450 : BitVec 1 := Scalar.cmpi .ne v449 c0_i32_237
  let v454 : BitVec 1 := Scalar.andi v453 v450
  let v455 : BitVec 32 := Scalar.addi v449 v448
  let v456 : BitVec 32 := Scalar.select v454 v455 v449
  let c1_i32_241 : BitVec 32 := 1#32
  let v457 : BitVec 32 := Scalar.muli v456 c1_i32_241
  let v458 : BitVec 32 := Scalar.addi c0_i32_242 v457
  v458.toNat
def k0_dev18 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v459 : BitVec 32 := Scalar.addi v2 c18_i32
  let c32_i32_243 : BitVec 32 := 32#32
  let c0_i32_244 : BitVec 32 := 0#32
  let v460 : BitVec 1 := Scalar.cmpi .eq c32_i32_243 c0_i32_244
  let c1_i32_245 : BitVec 32 := 1#32
  let v461 : BitVec 32 := Scalar.select v460 c1_i32_245 c32_i32_243
  let v462 : BitVec 32 := Scalar.remsi v459 v461
  let c0_i32_247 : BitVec 32 := 0#32
  let v464 : BitVec 1 := Scalar.cmpi .slt v462 c0_i32_247
  let c0_i32_248 : BitVec 32 := 0#32
  let v465 : BitVec 1 := Scalar.cmpi .slt v461 c0_i32_248
  let v466 : BitVec 1 := Scalar.xori v464 v465
  let c0_i32_246 : BitVec 32 := 0#32
  let v463 : BitVec 1 := Scalar.cmpi .ne v462 c0_i32_246
  let v467 : BitVec 1 := Scalar.andi v466 v463
  let v468 : BitVec 32 := Scalar.addi v462 v461
  let v469 : BitVec 32 := Scalar.select v467 v468 v462
  let c1_i32_250 : BitVec 32 := 1#32
  let v470 : BitVec 32 := Scalar.muli v469 c1_i32_250
  let v471 : BitVec 32 := Scalar.addi c0_i32_251 v470
  v471.toNat
def k0_dev19 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v472 : BitVec 32 := Scalar.addi v2 c19_i32
  let c32_i32_252 : BitVec 32 := 32#32
  let c0_i32_253 : BitVec 32 := 0#32
  let v473 : BitVec 1 := Scalar.cmpi .eq c32_i32_252 c0_i32_253
  let c1_i32_254 : BitVec 32 := 1#32
  let v474 : BitVec 32 := Scalar.select v473 c1_i32_254 c32_i32_252
  let v475 : BitVec 32 := Scalar.remsi v472 v474
  let c0_i32_256 : BitVec 32 := 0#32
  let v477 : BitVec 1 := Scalar.cmpi .slt v475 c0_i32_256
  let c0_i32_257 : BitVec 32 := 0#32
  let v478 : BitVec 1 := Scalar.cmpi .slt v474 c0_i32_257
  let v479 : BitVec 1 := Scalar.xori v477 v478
  let c0_i32_255 : BitVec 32 := 0#32
  let v476 : BitVec 1 := Scalar.cmpi .ne v475 c0_i32_255
  let v480 : BitVec 1 := Scalar.andi v479 v476
  let v481 : BitVec 32 := Scalar.addi v475 v474
  let v482 : BitVec 32 := Scalar.select v480 v481 v475
  let c1_i32_259 : BitVec 32 := 1#32
  let v483 : BitVec 32 := Scalar.muli v482 c1_i32_259
  let v484 : BitVec 32 := Scalar.addi c0_i32_260 v483
  v484.toNat
def k0_dev20 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v485 : BitVec 32 := Scalar.addi v2 c20_i32
  let c32_i32_261 : BitVec 32 := 32#32
  let c0_i32_262 : BitVec 32 := 0#32
  let v486 : BitVec 1 := Scalar.cmpi .eq c32_i32_261 c0_i32_262
  let c1_i32_263 : BitVec 32 := 1#32
  let v487 : BitVec 32 := Scalar.select v486 c1_i32_263 c32_i32_261
  let v488 : BitVec 32 := Scalar.remsi v485 v487
  let c0_i32_265 : BitVec 32 := 0#32
  let v490 : BitVec 1 := Scalar.cmpi .slt v488 c0_i32_265
  let c0_i32_266 : BitVec 32 := 0#32
  let v491 : BitVec 1 := Scalar.cmpi .slt v487 c0_i32_266
  let v492 : BitVec 1 := Scalar.xori v490 v491
  let c0_i32_264 : BitVec 32 := 0#32
  let v489 : BitVec 1 := Scalar.cmpi .ne v488 c0_i32_264
  let v493 : BitVec 1 := Scalar.andi v492 v489
  let v494 : BitVec 32 := Scalar.addi v488 v487
  let v495 : BitVec 32 := Scalar.select v493 v494 v488
  let c1_i32_268 : BitVec 32 := 1#32
  let v496 : BitVec 32 := Scalar.muli v495 c1_i32_268
  let v497 : BitVec 32 := Scalar.addi c0_i32_269 v496
  v497.toNat
def k0_dev21 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v498 : BitVec 32 := Scalar.addi v2 c21_i32
  let c32_i32_270 : BitVec 32 := 32#32
  let c0_i32_271 : BitVec 32 := 0#32
  let v499 : BitVec 1 := Scalar.cmpi .eq c32_i32_270 c0_i32_271
  let c1_i32_272 : BitVec 32 := 1#32
  let v500 : BitVec 32 := Scalar.select v499 c1_i32_272 c32_i32_270
  let v501 : BitVec 32 := Scalar.remsi v498 v500
  let c0_i32_274 : BitVec 32 := 0#32
  let v503 : BitVec 1 := Scalar.cmpi .slt v501 c0_i32_274
  let c0_i32_275 : BitVec 32 := 0#32
  let v504 : BitVec 1 := Scalar.cmpi .slt v500 c0_i32_275
  let v505 : BitVec 1 := Scalar.xori v503 v504
  let c0_i32_273 : BitVec 32 := 0#32
  let v502 : BitVec 1 := Scalar.cmpi .ne v501 c0_i32_273
  let v506 : BitVec 1 := Scalar.andi v505 v502
  let v507 : BitVec 32 := Scalar.addi v501 v500
  let v508 : BitVec 32 := Scalar.select v506 v507 v501
  let c1_i32_277 : BitVec 32 := 1#32
  let v509 : BitVec 32 := Scalar.muli v508 c1_i32_277
  let v510 : BitVec 32 := Scalar.addi c0_i32_278 v509
  v510.toNat
def k0_dev22 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v511 : BitVec 32 := Scalar.addi v2 c22_i32
  let c32_i32_279 : BitVec 32 := 32#32
  let c0_i32_280 : BitVec 32 := 0#32
  let v512 : BitVec 1 := Scalar.cmpi .eq c32_i32_279 c0_i32_280
  let c1_i32_281 : BitVec 32 := 1#32
  let v513 : BitVec 32 := Scalar.select v512 c1_i32_281 c32_i32_279
  let v514 : BitVec 32 := Scalar.remsi v511 v513
  let c0_i32_283 : BitVec 32 := 0#32
  let v516 : BitVec 1 := Scalar.cmpi .slt v514 c0_i32_283
  let c0_i32_284 : BitVec 32 := 0#32
  let v517 : BitVec 1 := Scalar.cmpi .slt v513 c0_i32_284
  let v518 : BitVec 1 := Scalar.xori v516 v517
  let c0_i32_282 : BitVec 32 := 0#32
  let v515 : BitVec 1 := Scalar.cmpi .ne v514 c0_i32_282
  let v519 : BitVec 1 := Scalar.andi v518 v515
  let v520 : BitVec 32 := Scalar.addi v514 v513
  let v521 : BitVec 32 := Scalar.select v519 v520 v514
  let c1_i32_286 : BitVec 32 := 1#32
  let v522 : BitVec 32 := Scalar.muli v521 c1_i32_286
  let v523 : BitVec 32 := Scalar.addi c0_i32_287 v522
  v523.toNat
def k0_dev23 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v524 : BitVec 32 := Scalar.addi v2 c23_i32
  let c32_i32_288 : BitVec 32 := 32#32
  let c0_i32_289 : BitVec 32 := 0#32
  let v525 : BitVec 1 := Scalar.cmpi .eq c32_i32_288 c0_i32_289
  let c1_i32_290 : BitVec 32 := 1#32
  let v526 : BitVec 32 := Scalar.select v525 c1_i32_290 c32_i32_288
  let v527 : BitVec 32 := Scalar.remsi v524 v526
  let c0_i32_292 : BitVec 32 := 0#32
  let v529 : BitVec 1 := Scalar.cmpi .slt v527 c0_i32_292
  let c0_i32_293 : BitVec 32 := 0#32
  let v530 : BitVec 1 := Scalar.cmpi .slt v526 c0_i32_293
  let v531 : BitVec 1 := Scalar.xori v529 v530
  let c0_i32_291 : BitVec 32 := 0#32
  let v528 : BitVec 1 := Scalar.cmpi .ne v527 c0_i32_291
  let v532 : BitVec 1 := Scalar.andi v531 v528
  let v533 : BitVec 32 := Scalar.addi v527 v526
  let v534 : BitVec 32 := Scalar.select v532 v533 v527
  let c1_i32_295 : BitVec 32 := 1#32
  let v535 : BitVec 32 := Scalar.muli v534 c1_i32_295
  let v536 : BitVec 32 := Scalar.addi c0_i32_296 v535
  v536.toNat
def k0_dev24 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v537 : BitVec 32 := Scalar.addi v2 c24_i32
  let c32_i32_297 : BitVec 32 := 32#32
  let c0_i32_298 : BitVec 32 := 0#32
  let v538 : BitVec 1 := Scalar.cmpi .eq c32_i32_297 c0_i32_298
  let c1_i32_299 : BitVec 32 := 1#32
  let v539 : BitVec 32 := Scalar.select v538 c1_i32_299 c32_i32_297
  let v540 : BitVec 32 := Scalar.remsi v537 v539
  let c0_i32_301 : BitVec 32 := 0#32
  let v542 : BitVec 1 := Scalar.cmpi .slt v540 c0_i32_301
  let c0_i32_302 : BitVec 32 := 0#32
  let v543 : BitVec 1 := Scalar.cmpi .slt v539 c0_i32_302
  let v544 : BitVec 1 := Scalar.xori v542 v543
  let c0_i32_300 : BitVec 32 := 0#32
  let v541 : BitVec 1 := Scalar.cmpi .ne v540 c0_i32_300
  let v545 : BitVec 1 := Scalar.andi v544 v541
  let v546 : BitVec 32 := Scalar.addi v540 v539
  let v547 : BitVec 32 := Scalar.select v545 v546 v540
  let c1_i32_304 : BitVec 32 := 1#32
  let v548 : BitVec 32 := Scalar.muli v547 c1_i32_304
  let v549 : BitVec 32 := Scalar.addi c0_i32_305 v548
  v549.toNat
def k0_dev25 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v550 : BitVec 32 := Scalar.addi v2 c25_i32
  let c32_i32_306 : BitVec 32 := 32#32
  let c0_i32_307 : BitVec 32 := 0#32
  let v551 : BitVec 1 := Scalar.cmpi .eq c32_i32_306 c0_i32_307
  let c1_i32_308 : BitVec 32 := 1#32
  let v552 : BitVec 32 := Scalar.select v551 c1_i32_308 c32_i32_306
  let v553 : BitVec 32 := Scalar.remsi v550 v552
  let c0_i32_310 : BitVec 32 := 0#32
  let v555 : BitVec 1 := Scalar.cmpi .slt v553 c0_i32_310
  let c0_i32_311 : BitVec 32 := 0#32
  let v556 : BitVec 1 := Scalar.cmpi .slt v552 c0_i32_311
  let v557 : BitVec 1 := Scalar.xori v555 v556
  let c0_i32_309 : BitVec 32 := 0#32
  let v554 : BitVec 1 := Scalar.cmpi .ne v553 c0_i32_309
  let v558 : BitVec 1 := Scalar.andi v557 v554
  let v559 : BitVec 32 := Scalar.addi v553 v552
  let v560 : BitVec 32 := Scalar.select v558 v559 v553
  let c1_i32_313 : BitVec 32 := 1#32
  let v561 : BitVec 32 := Scalar.muli v560 c1_i32_313
  let v562 : BitVec 32 := Scalar.addi c0_i32_314 v561
  v562.toNat
def k0_dev26 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v563 : BitVec 32 := Scalar.addi v2 c26_i32
  let c32_i32_315 : BitVec 32 := 32#32
  let c0_i32_316 : BitVec 32 := 0#32
  let v564 : BitVec 1 := Scalar.cmpi .eq c32_i32_315 c0_i32_316
  let c1_i32_317 : BitVec 32 := 1#32
  let v565 : BitVec 32 := Scalar.select v564 c1_i32_317 c32_i32_315
  let v566 : BitVec 32 := Scalar.remsi v563 v565
  let c0_i32_319 : BitVec 32 := 0#32
  let v568 : BitVec 1 := Scalar.cmpi .slt v566 c0_i32_319
  let c0_i32_320 : BitVec 32 := 0#32
  let v569 : BitVec 1 := Scalar.cmpi .slt v565 c0_i32_320
  let v570 : BitVec 1 := Scalar.xori v568 v569
  let c0_i32_318 : BitVec 32 := 0#32
  let v567 : BitVec 1 := Scalar.cmpi .ne v566 c0_i32_318
  let v571 : BitVec 1 := Scalar.andi v570 v567
  let v572 : BitVec 32 := Scalar.addi v566 v565
  let v573 : BitVec 32 := Scalar.select v571 v572 v566
  let c1_i32_322 : BitVec 32 := 1#32
  let v574 : BitVec 32 := Scalar.muli v573 c1_i32_322
  let v575 : BitVec 32 := Scalar.addi c0_i32_323 v574
  v575.toNat
def k0_dev27 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v576 : BitVec 32 := Scalar.addi v2 c27_i32
  let c32_i32_324 : BitVec 32 := 32#32
  let c0_i32_325 : BitVec 32 := 0#32
  let v577 : BitVec 1 := Scalar.cmpi .eq c32_i32_324 c0_i32_325
  let c1_i32_326 : BitVec 32 := 1#32
  let v578 : BitVec 32 := Scalar.select v577 c1_i32_326 c32_i32_324
  let v579 : BitVec 32 := Scalar.remsi v576 v578
  let c0_i32_328 : BitVec 32 := 0#32
  let v581 : BitVec 1 := Scalar.cmpi .slt v579 c0_i32_328
  let c0_i32_329 : BitVec 32 := 0#32
  let v582 : BitVec 1 := Scalar.cmpi .slt v578 c0_i32_329
  let v583 : BitVec 1 := Scalar.xori v581 v582
  let c0_i32_327 : BitVec 32 := 0#32
  let v580 : BitVec 1 := Scalar.cmpi .ne v579 c0_i32_327
  let v584 : BitVec 1 := Scalar.andi v583 v580
  let v585 : BitVec 32 := Scalar.addi v579 v578
  let v586 : BitVec 32 := Scalar.select v584 v585 v579
  let c1_i32_331 : BitVec 32 := 1#32
  let v587 : BitVec 32 := Scalar.muli v586 c1_i32_331
  let v588 : BitVec 32 := Scalar.addi c0_i32_332 v587
  v588.toNat
def k0_dev28 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v589 : BitVec 32 := Scalar.addi v2 c28_i32
  let c32_i32_333 : BitVec 32 := 32#32
  let c0_i32_334 : BitVec 32 := 0#32
  let v590 : BitVec 1 := Scalar.cmpi .eq c32_i32_333 c0_i32_334
  let c1_i32_335 : BitVec 32 := 1#32
  let v591 : BitVec 32 := Scalar.select v590 c1_i32_335 c32_i32_333
  let v592 : BitVec 32 := Scalar.remsi v589 v591
  let c0_i32_337 : BitVec 32 := 0#32
  let v594 : BitVec 1 := Scalar.cmpi .slt v592 c0_i32_337
  let c0_i32_338 : BitVec 32 := 0#32
  let v595 : BitVec 1 := Scalar.cmpi .slt v591 c0_i32_338
  let v596 : BitVec 1 := Scalar.xori v594 v595
  let c0_i32_336 : BitVec 32 := 0#32
  let v593 : BitVec 1 := Scalar.cmpi .ne v592 c0_i32_336
  let v597 : BitVec 1 := Scalar.andi v596 v593
  let v598 : BitVec 32 := Scalar.addi v592 v591
  let v599 : BitVec 32 := Scalar.select v597 v598 v592
  let c1_i32_340 : BitVec 32 := 1#32
  let v600 : BitVec 32 := Scalar.muli v599 c1_i32_340
  let v601 : BitVec 32 := Scalar.addi c0_i32_341 v600
  v601.toNat
def k0_dev29 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v602 : BitVec 32 := Scalar.addi v2 c29_i32
  let c32_i32_342 : BitVec 32 := 32#32
  let c0_i32_343 : BitVec 32 := 0#32
  let v603 : BitVec 1 := Scalar.cmpi .eq c32_i32_342 c0_i32_343
  let c1_i32_344 : BitVec 32 := 1#32
  let v604 : BitVec 32 := Scalar.select v603 c1_i32_344 c32_i32_342
  let v605 : BitVec 32 := Scalar.remsi v602 v604
  let c0_i32_346 : BitVec 32 := 0#32
  let v607 : BitVec 1 := Scalar.cmpi .slt v605 c0_i32_346
  let c0_i32_347 : BitVec 32 := 0#32
  let v608 : BitVec 1 := Scalar.cmpi .slt v604 c0_i32_347
  let v609 : BitVec 1 := Scalar.xori v607 v608
  let c0_i32_345 : BitVec 32 := 0#32
  let v606 : BitVec 1 := Scalar.cmpi .ne v605 c0_i32_345
  let v610 : BitVec 1 := Scalar.andi v609 v606
  let v611 : BitVec 32 := Scalar.addi v605 v604
  let v612 : BitVec 32 := Scalar.select v610 v611 v605
  let c1_i32_349 : BitVec 32 := 1#32
  let v613 : BitVec 32 := Scalar.muli v612 c1_i32_349
  let v614 : BitVec 32 := Scalar.addi c0_i32_350 v613
  v614.toNat
def k0_dev30 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v615 : BitVec 32 := Scalar.addi v2 c30_i32
  let c32_i32_351 : BitVec 32 := 32#32
  let c0_i32_352 : BitVec 32 := 0#32
  let v616 : BitVec 1 := Scalar.cmpi .eq c32_i32_351 c0_i32_352
  let c1_i32_353 : BitVec 32 := 1#32
  let v617 : BitVec 32 := Scalar.select v616 c1_i32_353 c32_i32_351
  let v618 : BitVec 32 := Scalar.remsi v615 v617
  let c0_i32_355 : BitVec 32 := 0#32
  let v620 : BitVec 1 := Scalar.cmpi .slt v618 c0_i32_355
  let c0_i32_356 : BitVec 32 := 0#32
  let v621 : BitVec 1 := Scalar.cmpi .slt v617 c0_i32_356
  let v622 : BitVec 1 := Scalar.xori v620 v621
  let c0_i32_354 : BitVec 32 := 0#32
  let v619 : BitVec 1 := Scalar.cmpi .ne v618 c0_i32_354
  let v623 : BitVec 1 := Scalar.andi v622 v619
  let v624 : BitVec 32 := Scalar.addi v618 v617
  let v625 : BitVec 32 := Scalar.select v623 v624 v618
  let c1_i32_358 : BitVec 32 := 1#32
  let v626 : BitVec 32 := Scalar.muli v625 c1_i32_358
  let v627 : BitVec 32 := Scalar.addi c0_i32_359 v626
  v627.toNat
def k0_dev31 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v628 : BitVec 32 := Scalar.addi v2 c31_i32
  let c32_i32_360 : BitVec 32 := 32#32
  let c0_i32_361 : BitVec 32 := 0#32
  let v629 : BitVec 1 := Scalar.cmpi .eq c32_i32_360 c0_i32_361
  let c1_i32_362 : BitVec 32 := 1#32
  let v630 : BitVec 32 := Scalar.select v629 c1_i32_362 c32_i32_360
  let v631 : BitVec 32 := Scalar.remsi v628 v630
  let c0_i32_364 : BitVec 32 := 0#32
  let v633 : BitVec 1 := Scalar.cmpi .slt v631 c0_i32_364
  let c0_i32_365 : BitVec 32 := 0#32
  let v634 : BitVec 1 := Scalar.cmpi .slt v630 c0_i32_365
  let v635 : BitVec 1 := Scalar.xori v633 v634
  let c0_i32_363 : BitVec 32 := 0#32
  let v632 : BitVec 1 := Scalar.cmpi .ne v631 c0_i32_363
  let v636 : BitVec 1 := Scalar.andi v635 v632
  let v637 : BitVec 32 := Scalar.addi v631 v630
  let v638 : BitVec 32 := Scalar.select v636 v637 v631
  let c1_i32_367 : BitVec 32 := 1#32
  let v639 : BitVec 32 := Scalar.muli v638 c1_i32_367
  let v640 : BitVec 32 := Scalar.addi c0_i32_368 v639
  v640.toNat
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_380 : BitVec 32 := 0#32
  let c0_i32_381 : BitVec 32 := 0#32
  ![v2.toNat, 0, 0]
def k0_off4 (d0 : Dev nD) (c1_i32_370 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v641 : BitVec 32 := Scalar.addi v2 c1_i32_370
  let c32_i32_371 : BitVec 32 := 32#32
  let c0_i32_372 : BitVec 32 := 0#32
  let v642 : BitVec 1 := Scalar.cmpi .eq c32_i32_371 c0_i32_372
  let c1_i32_373 : BitVec 32 := 1#32
  let v643 : BitVec 32 := Scalar.select v642 c1_i32_373 c32_i32_371
  let v644 : BitVec 32 := Scalar.remsi v641 v643
  let c0_i32_375 : BitVec 32 := 0#32
  let v646 : BitVec 1 := Scalar.cmpi .slt v644 c0_i32_375
  let c0_i32_376 : BitVec 32 := 0#32
  let v647 : BitVec 1 := Scalar.cmpi .slt v643 c0_i32_376
  let v648 : BitVec 1 := Scalar.xori v646 v647
  let c0_i32_374 : BitVec 32 := 0#32
  let v645 : BitVec 1 := Scalar.cmpi .ne v644 c0_i32_374
  let v649 : BitVec 1 := Scalar.andi v648 v645
  let v650 : BitVec 32 := Scalar.addi v644 v643
  let v651 : BitVec 32 := Scalar.select v649 v650 v644
  let c0_i32_382 : BitVec 32 := 0#32
  let c0_i32_383 : BitVec 32 := 0#32
  ![v651.toNat, 0, 0]
def k0_dev32 (d0 : Dev nD) : Nat :=
  let c0_i32_379 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_370 : BitVec 32 := 1#32
  let v641 : BitVec 32 := Scalar.addi v2 c1_i32_370
  let c32_i32_371 : BitVec 32 := 32#32
  let c0_i32_372 : BitVec 32 := 0#32
  let v642 : BitVec 1 := Scalar.cmpi .eq c32_i32_371 c0_i32_372
  let c1_i32_373 : BitVec 32 := 1#32
  let v643 : BitVec 32 := Scalar.select v642 c1_i32_373 c32_i32_371
  let v644 : BitVec 32 := Scalar.remsi v641 v643
  let c0_i32_375 : BitVec 32 := 0#32
  let v646 : BitVec 1 := Scalar.cmpi .slt v644 c0_i32_375
  let c0_i32_376 : BitVec 32 := 0#32
  let v647 : BitVec 1 := Scalar.cmpi .slt v643 c0_i32_376
  let v648 : BitVec 1 := Scalar.xori v646 v647
  let c0_i32_374 : BitVec 32 := 0#32
  let v645 : BitVec 1 := Scalar.cmpi .ne v644 c0_i32_374
  let v649 : BitVec 1 := Scalar.andi v648 v645
  let v650 : BitVec 32 := Scalar.addi v644 v643
  let v651 : BitVec 32 := Scalar.select v649 v650 v644
  let c1_i32_378 : BitVec 32 := 1#32
  let v652 : BitVec 32 := Scalar.muli v651 c1_i32_378
  let v653 : BitVec 32 := Scalar.addi c0_i32_379 v652
  v653.toNat
def k0_dev33 (d0 : Dev nD) : Nat :=
  let c0_i32_393 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_384 : BitVec 32 := 2#32
  let v662 : BitVec 32 := Scalar.addi v2 c2_i32_384
  let c32_i32_385 : BitVec 32 := 32#32
  let c0_i32_386 : BitVec 32 := 0#32
  let v663 : BitVec 1 := Scalar.cmpi .eq c32_i32_385 c0_i32_386
  let c1_i32_387 : BitVec 32 := 1#32
  let v664 : BitVec 32 := Scalar.select v663 c1_i32_387 c32_i32_385
  let v665 : BitVec 32 := Scalar.remsi v662 v664
  let c0_i32_389 : BitVec 32 := 0#32
  let v667 : BitVec 1 := Scalar.cmpi .slt v665 c0_i32_389
  let c0_i32_390 : BitVec 32 := 0#32
  let v668 : BitVec 1 := Scalar.cmpi .slt v664 c0_i32_390
  let v669 : BitVec 1 := Scalar.xori v667 v668
  let c0_i32_388 : BitVec 32 := 0#32
  let v666 : BitVec 1 := Scalar.cmpi .ne v665 c0_i32_388
  let v670 : BitVec 1 := Scalar.andi v669 v666
  let v671 : BitVec 32 := Scalar.addi v665 v664
  let v672 : BitVec 32 := Scalar.select v670 v671 v665
  let c1_i32_392 : BitVec 32 := 1#32
  let v673 : BitVec 32 := Scalar.muli v672 c1_i32_392
  let v674 : BitVec 32 := Scalar.addi c0_i32_393 v673
  v674.toNat
def k0_dev34 (d0 : Dev nD) : Nat :=
  let c0_i32_407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_398 : BitVec 32 := 3#32
  let v683 : BitVec 32 := Scalar.addi v2 c3_i32_398
  let c32_i32_399 : BitVec 32 := 32#32
  let c0_i32_400 : BitVec 32 := 0#32
  let v684 : BitVec 1 := Scalar.cmpi .eq c32_i32_399 c0_i32_400
  let c1_i32_401 : BitVec 32 := 1#32
  let v685 : BitVec 32 := Scalar.select v684 c1_i32_401 c32_i32_399
  let v686 : BitVec 32 := Scalar.remsi v683 v685
  let c0_i32_403 : BitVec 32 := 0#32
  let v688 : BitVec 1 := Scalar.cmpi .slt v686 c0_i32_403
  let c0_i32_404 : BitVec 32 := 0#32
  let v689 : BitVec 1 := Scalar.cmpi .slt v685 c0_i32_404
  let v690 : BitVec 1 := Scalar.xori v688 v689
  let c0_i32_402 : BitVec 32 := 0#32
  let v687 : BitVec 1 := Scalar.cmpi .ne v686 c0_i32_402
  let v691 : BitVec 1 := Scalar.andi v690 v687
  let v692 : BitVec 32 := Scalar.addi v686 v685
  let v693 : BitVec 32 := Scalar.select v691 v692 v686
  let c1_i32_406 : BitVec 32 := 1#32
  let v694 : BitVec 32 := Scalar.muli v693 c1_i32_406
  let v695 : BitVec 32 := Scalar.addi c0_i32_407 v694
  v695.toNat
def k0_dev35 (d0 : Dev nD) : Nat :=
  let c0_i32_421 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_412 : BitVec 32 := 4#32
  let v704 : BitVec 32 := Scalar.addi v2 c4_i32_412
  let c32_i32_413 : BitVec 32 := 32#32
  let c0_i32_414 : BitVec 32 := 0#32
  let v705 : BitVec 1 := Scalar.cmpi .eq c32_i32_413 c0_i32_414
  let c1_i32_415 : BitVec 32 := 1#32
  let v706 : BitVec 32 := Scalar.select v705 c1_i32_415 c32_i32_413
  let v707 : BitVec 32 := Scalar.remsi v704 v706
  let c0_i32_417 : BitVec 32 := 0#32
  let v709 : BitVec 1 := Scalar.cmpi .slt v707 c0_i32_417
  let c0_i32_418 : BitVec 32 := 0#32
  let v710 : BitVec 1 := Scalar.cmpi .slt v706 c0_i32_418
  let v711 : BitVec 1 := Scalar.xori v709 v710
  let c0_i32_416 : BitVec 32 := 0#32
  let v708 : BitVec 1 := Scalar.cmpi .ne v707 c0_i32_416
  let v712 : BitVec 1 := Scalar.andi v711 v708
  let v713 : BitVec 32 := Scalar.addi v707 v706
  let v714 : BitVec 32 := Scalar.select v712 v713 v707
  let c1_i32_420 : BitVec 32 := 1#32
  let v715 : BitVec 32 := Scalar.muli v714 c1_i32_420
  let v716 : BitVec 32 := Scalar.addi c0_i32_421 v715
  v716.toNat
def k0_dev36 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_426 : BitVec 32 := 5#32
  let v725 : BitVec 32 := Scalar.addi v2 c5_i32_426
  let c32_i32_427 : BitVec 32 := 32#32
  let c0_i32_428 : BitVec 32 := 0#32
  let v726 : BitVec 1 := Scalar.cmpi .eq c32_i32_427 c0_i32_428
  let c1_i32_429 : BitVec 32 := 1#32
  let v727 : BitVec 32 := Scalar.select v726 c1_i32_429 c32_i32_427
  let v728 : BitVec 32 := Scalar.remsi v725 v727
  let c0_i32_431 : BitVec 32 := 0#32
  let v730 : BitVec 1 := Scalar.cmpi .slt v728 c0_i32_431
  let c0_i32_432 : BitVec 32 := 0#32
  let v731 : BitVec 1 := Scalar.cmpi .slt v727 c0_i32_432
  let v732 : BitVec 1 := Scalar.xori v730 v731
  let c0_i32_430 : BitVec 32 := 0#32
  let v729 : BitVec 1 := Scalar.cmpi .ne v728 c0_i32_430
  let v733 : BitVec 1 := Scalar.andi v732 v729
  let v734 : BitVec 32 := Scalar.addi v728 v727
  let v735 : BitVec 32 := Scalar.select v733 v734 v728
  let c1_i32_434 : BitVec 32 := 1#32
  let v736 : BitVec 32 := Scalar.muli v735 c1_i32_434
  let v737 : BitVec 32 := Scalar.addi c0_i32_435 v736
  v737.toNat
def k0_dev37 (d0 : Dev nD) : Nat :=
  let c0_i32_449 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_440 : BitVec 32 := 6#32
  let v746 : BitVec 32 := Scalar.addi v2 c6_i32_440
  let c32_i32_441 : BitVec 32 := 32#32
  let c0_i32_442 : BitVec 32 := 0#32
  let v747 : BitVec 1 := Scalar.cmpi .eq c32_i32_441 c0_i32_442
  let c1_i32_443 : BitVec 32 := 1#32
  let v748 : BitVec 32 := Scalar.select v747 c1_i32_443 c32_i32_441
  let v749 : BitVec 32 := Scalar.remsi v746 v748
  let c0_i32_445 : BitVec 32 := 0#32
  let v751 : BitVec 1 := Scalar.cmpi .slt v749 c0_i32_445
  let c0_i32_446 : BitVec 32 := 0#32
  let v752 : BitVec 1 := Scalar.cmpi .slt v748 c0_i32_446
  let v753 : BitVec 1 := Scalar.xori v751 v752
  let c0_i32_444 : BitVec 32 := 0#32
  let v750 : BitVec 1 := Scalar.cmpi .ne v749 c0_i32_444
  let v754 : BitVec 1 := Scalar.andi v753 v750
  let v755 : BitVec 32 := Scalar.addi v749 v748
  let v756 : BitVec 32 := Scalar.select v754 v755 v749
  let c1_i32_448 : BitVec 32 := 1#32
  let v757 : BitVec 32 := Scalar.muli v756 c1_i32_448
  let v758 : BitVec 32 := Scalar.addi c0_i32_449 v757
  v758.toNat
def k0_dev38 (d0 : Dev nD) : Nat :=
  let c0_i32_463 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_454 : BitVec 32 := 7#32
  let v767 : BitVec 32 := Scalar.addi v2 c7_i32_454
  let c32_i32_455 : BitVec 32 := 32#32
  let c0_i32_456 : BitVec 32 := 0#32
  let v768 : BitVec 1 := Scalar.cmpi .eq c32_i32_455 c0_i32_456
  let c1_i32_457 : BitVec 32 := 1#32
  let v769 : BitVec 32 := Scalar.select v768 c1_i32_457 c32_i32_455
  let v770 : BitVec 32 := Scalar.remsi v767 v769
  let c0_i32_459 : BitVec 32 := 0#32
  let v772 : BitVec 1 := Scalar.cmpi .slt v770 c0_i32_459
  let c0_i32_460 : BitVec 32 := 0#32
  let v773 : BitVec 1 := Scalar.cmpi .slt v769 c0_i32_460
  let v774 : BitVec 1 := Scalar.xori v772 v773
  let c0_i32_458 : BitVec 32 := 0#32
  let v771 : BitVec 1 := Scalar.cmpi .ne v770 c0_i32_458
  let v775 : BitVec 1 := Scalar.andi v774 v771
  let v776 : BitVec 32 := Scalar.addi v770 v769
  let v777 : BitVec 32 := Scalar.select v775 v776 v770
  let c1_i32_462 : BitVec 32 := 1#32
  let v778 : BitVec 32 := Scalar.muli v777 c1_i32_462
  let v779 : BitVec 32 := Scalar.addi c0_i32_463 v778
  v779.toNat
def k0_dev39 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_468 : BitVec 32 := 8#32
  let v788 : BitVec 32 := Scalar.addi v2 c8_i32_468
  let c32_i32_469 : BitVec 32 := 32#32
  let c0_i32_470 : BitVec 32 := 0#32
  let v789 : BitVec 1 := Scalar.cmpi .eq c32_i32_469 c0_i32_470
  let c1_i32_471 : BitVec 32 := 1#32
  let v790 : BitVec 32 := Scalar.select v789 c1_i32_471 c32_i32_469
  let v791 : BitVec 32 := Scalar.remsi v788 v790
  let c0_i32_473 : BitVec 32 := 0#32
  let v793 : BitVec 1 := Scalar.cmpi .slt v791 c0_i32_473
  let c0_i32_474 : BitVec 32 := 0#32
  let v794 : BitVec 1 := Scalar.cmpi .slt v790 c0_i32_474
  let v795 : BitVec 1 := Scalar.xori v793 v794
  let c0_i32_472 : BitVec 32 := 0#32
  let v792 : BitVec 1 := Scalar.cmpi .ne v791 c0_i32_472
  let v796 : BitVec 1 := Scalar.andi v795 v792
  let v797 : BitVec 32 := Scalar.addi v791 v790
  let v798 : BitVec 32 := Scalar.select v796 v797 v791
  let c1_i32_476 : BitVec 32 := 1#32
  let v799 : BitVec 32 := Scalar.muli v798 c1_i32_476
  let v800 : BitVec 32 := Scalar.addi c0_i32_477 v799
  v800.toNat
def k0_dev40 (d0 : Dev nD) : Nat :=
  let c0_i32_491 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_482 : BitVec 32 := 9#32
  let v809 : BitVec 32 := Scalar.addi v2 c9_i32_482
  let c32_i32_483 : BitVec 32 := 32#32
  let c0_i32_484 : BitVec 32 := 0#32
  let v810 : BitVec 1 := Scalar.cmpi .eq c32_i32_483 c0_i32_484
  let c1_i32_485 : BitVec 32 := 1#32
  let v811 : BitVec 32 := Scalar.select v810 c1_i32_485 c32_i32_483
  let v812 : BitVec 32 := Scalar.remsi v809 v811
  let c0_i32_487 : BitVec 32 := 0#32
  let v814 : BitVec 1 := Scalar.cmpi .slt v812 c0_i32_487
  let c0_i32_488 : BitVec 32 := 0#32
  let v815 : BitVec 1 := Scalar.cmpi .slt v811 c0_i32_488
  let v816 : BitVec 1 := Scalar.xori v814 v815
  let c0_i32_486 : BitVec 32 := 0#32
  let v813 : BitVec 1 := Scalar.cmpi .ne v812 c0_i32_486
  let v817 : BitVec 1 := Scalar.andi v816 v813
  let v818 : BitVec 32 := Scalar.addi v812 v811
  let v819 : BitVec 32 := Scalar.select v817 v818 v812
  let c1_i32_490 : BitVec 32 := 1#32
  let v820 : BitVec 32 := Scalar.muli v819 c1_i32_490
  let v821 : BitVec 32 := Scalar.addi c0_i32_491 v820
  v821.toNat
def k0_dev41 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_496 : BitVec 32 := 10#32
  let v830 : BitVec 32 := Scalar.addi v2 c10_i32_496
  let c32_i32_497 : BitVec 32 := 32#32
  let c0_i32_498 : BitVec 32 := 0#32
  let v831 : BitVec 1 := Scalar.cmpi .eq c32_i32_497 c0_i32_498
  let c1_i32_499 : BitVec 32 := 1#32
  let v832 : BitVec 32 := Scalar.select v831 c1_i32_499 c32_i32_497
  let v833 : BitVec 32 := Scalar.remsi v830 v832
  let c0_i32_501 : BitVec 32 := 0#32
  let v835 : BitVec 1 := Scalar.cmpi .slt v833 c0_i32_501
  let c0_i32_502 : BitVec 32 := 0#32
  let v836 : BitVec 1 := Scalar.cmpi .slt v832 c0_i32_502
  let v837 : BitVec 1 := Scalar.xori v835 v836
  let c0_i32_500 : BitVec 32 := 0#32
  let v834 : BitVec 1 := Scalar.cmpi .ne v833 c0_i32_500
  let v838 : BitVec 1 := Scalar.andi v837 v834
  let v839 : BitVec 32 := Scalar.addi v833 v832
  let v840 : BitVec 32 := Scalar.select v838 v839 v833
  let c1_i32_504 : BitVec 32 := 1#32
  let v841 : BitVec 32 := Scalar.muli v840 c1_i32_504
  let v842 : BitVec 32 := Scalar.addi c0_i32_505 v841
  v842.toNat
def k0_dev42 (d0 : Dev nD) : Nat :=
  let c0_i32_519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_510 : BitVec 32 := 11#32
  let v851 : BitVec 32 := Scalar.addi v2 c11_i32_510
  let c32_i32_511 : BitVec 32 := 32#32
  let c0_i32_512 : BitVec 32 := 0#32
  let v852 : BitVec 1 := Scalar.cmpi .eq c32_i32_511 c0_i32_512
  let c1_i32_513 : BitVec 32 := 1#32
  let v853 : BitVec 32 := Scalar.select v852 c1_i32_513 c32_i32_511
  let v854 : BitVec 32 := Scalar.remsi v851 v853
  let c0_i32_515 : BitVec 32 := 0#32
  let v856 : BitVec 1 := Scalar.cmpi .slt v854 c0_i32_515
  let c0_i32_516 : BitVec 32 := 0#32
  let v857 : BitVec 1 := Scalar.cmpi .slt v853 c0_i32_516
  let v858 : BitVec 1 := Scalar.xori v856 v857
  let c0_i32_514 : BitVec 32 := 0#32
  let v855 : BitVec 1 := Scalar.cmpi .ne v854 c0_i32_514
  let v859 : BitVec 1 := Scalar.andi v858 v855
  let v860 : BitVec 32 := Scalar.addi v854 v853
  let v861 : BitVec 32 := Scalar.select v859 v860 v854
  let c1_i32_518 : BitVec 32 := 1#32
  let v862 : BitVec 32 := Scalar.muli v861 c1_i32_518
  let v863 : BitVec 32 := Scalar.addi c0_i32_519 v862
  v863.toNat
def k0_dev43 (d0 : Dev nD) : Nat :=
  let c0_i32_533 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_524 : BitVec 32 := 12#32
  let v872 : BitVec 32 := Scalar.addi v2 c12_i32_524
  let c32_i32_525 : BitVec 32 := 32#32
  let c0_i32_526 : BitVec 32 := 0#32
  let v873 : BitVec 1 := Scalar.cmpi .eq c32_i32_525 c0_i32_526
  let c1_i32_527 : BitVec 32 := 1#32
  let v874 : BitVec 32 := Scalar.select v873 c1_i32_527 c32_i32_525
  let v875 : BitVec 32 := Scalar.remsi v872 v874
  let c0_i32_529 : BitVec 32 := 0#32
  let v877 : BitVec 1 := Scalar.cmpi .slt v875 c0_i32_529
  let c0_i32_530 : BitVec 32 := 0#32
  let v878 : BitVec 1 := Scalar.cmpi .slt v874 c0_i32_530
  let v879 : BitVec 1 := Scalar.xori v877 v878
  let c0_i32_528 : BitVec 32 := 0#32
  let v876 : BitVec 1 := Scalar.cmpi .ne v875 c0_i32_528
  let v880 : BitVec 1 := Scalar.andi v879 v876
  let v881 : BitVec 32 := Scalar.addi v875 v874
  let v882 : BitVec 32 := Scalar.select v880 v881 v875
  let c1_i32_532 : BitVec 32 := 1#32
  let v883 : BitVec 32 := Scalar.muli v882 c1_i32_532
  let v884 : BitVec 32 := Scalar.addi c0_i32_533 v883
  v884.toNat
def k0_dev44 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_538 : BitVec 32 := 13#32
  let v893 : BitVec 32 := Scalar.addi v2 c13_i32_538
  let c32_i32_539 : BitVec 32 := 32#32
  let c0_i32_540 : BitVec 32 := 0#32
  let v894 : BitVec 1 := Scalar.cmpi .eq c32_i32_539 c0_i32_540
  let c1_i32_541 : BitVec 32 := 1#32
  let v895 : BitVec 32 := Scalar.select v894 c1_i32_541 c32_i32_539
  let v896 : BitVec 32 := Scalar.remsi v893 v895
  let c0_i32_543 : BitVec 32 := 0#32
  let v898 : BitVec 1 := Scalar.cmpi .slt v896 c0_i32_543
  let c0_i32_544 : BitVec 32 := 0#32
  let v899 : BitVec 1 := Scalar.cmpi .slt v895 c0_i32_544
  let v900 : BitVec 1 := Scalar.xori v898 v899
  let c0_i32_542 : BitVec 32 := 0#32
  let v897 : BitVec 1 := Scalar.cmpi .ne v896 c0_i32_542
  let v901 : BitVec 1 := Scalar.andi v900 v897
  let v902 : BitVec 32 := Scalar.addi v896 v895
  let v903 : BitVec 32 := Scalar.select v901 v902 v896
  let c1_i32_546 : BitVec 32 := 1#32
  let v904 : BitVec 32 := Scalar.muli v903 c1_i32_546
  let v905 : BitVec 32 := Scalar.addi c0_i32_547 v904
  v905.toNat
def k0_dev45 (d0 : Dev nD) : Nat :=
  let c0_i32_561 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_552 : BitVec 32 := 14#32
  let v914 : BitVec 32 := Scalar.addi v2 c14_i32_552
  let c32_i32_553 : BitVec 32 := 32#32
  let c0_i32_554 : BitVec 32 := 0#32
  let v915 : BitVec 1 := Scalar.cmpi .eq c32_i32_553 c0_i32_554
  let c1_i32_555 : BitVec 32 := 1#32
  let v916 : BitVec 32 := Scalar.select v915 c1_i32_555 c32_i32_553
  let v917 : BitVec 32 := Scalar.remsi v914 v916
  let c0_i32_557 : BitVec 32 := 0#32
  let v919 : BitVec 1 := Scalar.cmpi .slt v917 c0_i32_557
  let c0_i32_558 : BitVec 32 := 0#32
  let v920 : BitVec 1 := Scalar.cmpi .slt v916 c0_i32_558
  let v921 : BitVec 1 := Scalar.xori v919 v920
  let c0_i32_556 : BitVec 32 := 0#32
  let v918 : BitVec 1 := Scalar.cmpi .ne v917 c0_i32_556
  let v922 : BitVec 1 := Scalar.andi v921 v918
  let v923 : BitVec 32 := Scalar.addi v917 v916
  let v924 : BitVec 32 := Scalar.select v922 v923 v917
  let c1_i32_560 : BitVec 32 := 1#32
  let v925 : BitVec 32 := Scalar.muli v924 c1_i32_560
  let v926 : BitVec 32 := Scalar.addi c0_i32_561 v925
  v926.toNat
def k0_dev46 (d0 : Dev nD) : Nat :=
  let c0_i32_575 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_566 : BitVec 32 := 15#32
  let v935 : BitVec 32 := Scalar.addi v2 c15_i32_566
  let c32_i32_567 : BitVec 32 := 32#32
  let c0_i32_568 : BitVec 32 := 0#32
  let v936 : BitVec 1 := Scalar.cmpi .eq c32_i32_567 c0_i32_568
  let c1_i32_569 : BitVec 32 := 1#32
  let v937 : BitVec 32 := Scalar.select v936 c1_i32_569 c32_i32_567
  let v938 : BitVec 32 := Scalar.remsi v935 v937
  let c0_i32_571 : BitVec 32 := 0#32
  let v940 : BitVec 1 := Scalar.cmpi .slt v938 c0_i32_571
  let c0_i32_572 : BitVec 32 := 0#32
  let v941 : BitVec 1 := Scalar.cmpi .slt v937 c0_i32_572
  let v942 : BitVec 1 := Scalar.xori v940 v941
  let c0_i32_570 : BitVec 32 := 0#32
  let v939 : BitVec 1 := Scalar.cmpi .ne v938 c0_i32_570
  let v943 : BitVec 1 := Scalar.andi v942 v939
  let v944 : BitVec 32 := Scalar.addi v938 v937
  let v945 : BitVec 32 := Scalar.select v943 v944 v938
  let c1_i32_574 : BitVec 32 := 1#32
  let v946 : BitVec 32 := Scalar.muli v945 c1_i32_574
  let v947 : BitVec 32 := Scalar.addi c0_i32_575 v946
  v947.toNat
def k0_dev47 (d0 : Dev nD) : Nat :=
  let c0_i32_589 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_580 : BitVec 32 := 16#32
  let v956 : BitVec 32 := Scalar.addi v2 c16_i32_580
  let c32_i32_581 : BitVec 32 := 32#32
  let c0_i32_582 : BitVec 32 := 0#32
  let v957 : BitVec 1 := Scalar.cmpi .eq c32_i32_581 c0_i32_582
  let c1_i32_583 : BitVec 32 := 1#32
  let v958 : BitVec 32 := Scalar.select v957 c1_i32_583 c32_i32_581
  let v959 : BitVec 32 := Scalar.remsi v956 v958
  let c0_i32_585 : BitVec 32 := 0#32
  let v961 : BitVec 1 := Scalar.cmpi .slt v959 c0_i32_585
  let c0_i32_586 : BitVec 32 := 0#32
  let v962 : BitVec 1 := Scalar.cmpi .slt v958 c0_i32_586
  let v963 : BitVec 1 := Scalar.xori v961 v962
  let c0_i32_584 : BitVec 32 := 0#32
  let v960 : BitVec 1 := Scalar.cmpi .ne v959 c0_i32_584
  let v964 : BitVec 1 := Scalar.andi v963 v960
  let v965 : BitVec 32 := Scalar.addi v959 v958
  let v966 : BitVec 32 := Scalar.select v964 v965 v959
  let c1_i32_588 : BitVec 32 := 1#32
  let v967 : BitVec 32 := Scalar.muli v966 c1_i32_588
  let v968 : BitVec 32 := Scalar.addi c0_i32_589 v967
  v968.toNat
def k0_dev48 (d0 : Dev nD) : Nat :=
  let c0_i32_603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_594 : BitVec 32 := 17#32
  let v977 : BitVec 32 := Scalar.addi v2 c17_i32_594
  let c32_i32_595 : BitVec 32 := 32#32
  let c0_i32_596 : BitVec 32 := 0#32
  let v978 : BitVec 1 := Scalar.cmpi .eq c32_i32_595 c0_i32_596
  let c1_i32_597 : BitVec 32 := 1#32
  let v979 : BitVec 32 := Scalar.select v978 c1_i32_597 c32_i32_595
  let v980 : BitVec 32 := Scalar.remsi v977 v979
  let c0_i32_599 : BitVec 32 := 0#32
  let v982 : BitVec 1 := Scalar.cmpi .slt v980 c0_i32_599
  let c0_i32_600 : BitVec 32 := 0#32
  let v983 : BitVec 1 := Scalar.cmpi .slt v979 c0_i32_600
  let v984 : BitVec 1 := Scalar.xori v982 v983
  let c0_i32_598 : BitVec 32 := 0#32
  let v981 : BitVec 1 := Scalar.cmpi .ne v980 c0_i32_598
  let v985 : BitVec 1 := Scalar.andi v984 v981
  let v986 : BitVec 32 := Scalar.addi v980 v979
  let v987 : BitVec 32 := Scalar.select v985 v986 v980
  let c1_i32_602 : BitVec 32 := 1#32
  let v988 : BitVec 32 := Scalar.muli v987 c1_i32_602
  let v989 : BitVec 32 := Scalar.addi c0_i32_603 v988
  v989.toNat
def k0_dev49 (d0 : Dev nD) : Nat :=
  let c0_i32_617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_608 : BitVec 32 := 18#32
  let v998 : BitVec 32 := Scalar.addi v2 c18_i32_608
  let c32_i32_609 : BitVec 32 := 32#32
  let c0_i32_610 : BitVec 32 := 0#32
  let v999 : BitVec 1 := Scalar.cmpi .eq c32_i32_609 c0_i32_610
  let c1_i32_611 : BitVec 32 := 1#32
  let v1000 : BitVec 32 := Scalar.select v999 c1_i32_611 c32_i32_609
  let v1001 : BitVec 32 := Scalar.remsi v998 v1000
  let c0_i32_613 : BitVec 32 := 0#32
  let v1003 : BitVec 1 := Scalar.cmpi .slt v1001 c0_i32_613
  let c0_i32_614 : BitVec 32 := 0#32
  let v1004 : BitVec 1 := Scalar.cmpi .slt v1000 c0_i32_614
  let v1005 : BitVec 1 := Scalar.xori v1003 v1004
  let c0_i32_612 : BitVec 32 := 0#32
  let v1002 : BitVec 1 := Scalar.cmpi .ne v1001 c0_i32_612
  let v1006 : BitVec 1 := Scalar.andi v1005 v1002
  let v1007 : BitVec 32 := Scalar.addi v1001 v1000
  let v1008 : BitVec 32 := Scalar.select v1006 v1007 v1001
  let c1_i32_616 : BitVec 32 := 1#32
  let v1009 : BitVec 32 := Scalar.muli v1008 c1_i32_616
  let v1010 : BitVec 32 := Scalar.addi c0_i32_617 v1009
  v1010.toNat
def k0_dev50 (d0 : Dev nD) : Nat :=
  let c0_i32_631 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_622 : BitVec 32 := 19#32
  let v1019 : BitVec 32 := Scalar.addi v2 c19_i32_622
  let c32_i32_623 : BitVec 32 := 32#32
  let c0_i32_624 : BitVec 32 := 0#32
  let v1020 : BitVec 1 := Scalar.cmpi .eq c32_i32_623 c0_i32_624
  let c1_i32_625 : BitVec 32 := 1#32
  let v1021 : BitVec 32 := Scalar.select v1020 c1_i32_625 c32_i32_623
  let v1022 : BitVec 32 := Scalar.remsi v1019 v1021
  let c0_i32_627 : BitVec 32 := 0#32
  let v1024 : BitVec 1 := Scalar.cmpi .slt v1022 c0_i32_627
  let c0_i32_628 : BitVec 32 := 0#32
  let v1025 : BitVec 1 := Scalar.cmpi .slt v1021 c0_i32_628
  let v1026 : BitVec 1 := Scalar.xori v1024 v1025
  let c0_i32_626 : BitVec 32 := 0#32
  let v1023 : BitVec 1 := Scalar.cmpi .ne v1022 c0_i32_626
  let v1027 : BitVec 1 := Scalar.andi v1026 v1023
  let v1028 : BitVec 32 := Scalar.addi v1022 v1021
  let v1029 : BitVec 32 := Scalar.select v1027 v1028 v1022
  let c1_i32_630 : BitVec 32 := 1#32
  let v1030 : BitVec 32 := Scalar.muli v1029 c1_i32_630
  let v1031 : BitVec 32 := Scalar.addi c0_i32_631 v1030
  v1031.toNat
def k0_dev51 (d0 : Dev nD) : Nat :=
  let c0_i32_645 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_636 : BitVec 32 := 20#32
  let v1040 : BitVec 32 := Scalar.addi v2 c20_i32_636
  let c32_i32_637 : BitVec 32 := 32#32
  let c0_i32_638 : BitVec 32 := 0#32
  let v1041 : BitVec 1 := Scalar.cmpi .eq c32_i32_637 c0_i32_638
  let c1_i32_639 : BitVec 32 := 1#32
  let v1042 : BitVec 32 := Scalar.select v1041 c1_i32_639 c32_i32_637
  let v1043 : BitVec 32 := Scalar.remsi v1040 v1042
  let c0_i32_641 : BitVec 32 := 0#32
  let v1045 : BitVec 1 := Scalar.cmpi .slt v1043 c0_i32_641
  let c0_i32_642 : BitVec 32 := 0#32
  let v1046 : BitVec 1 := Scalar.cmpi .slt v1042 c0_i32_642
  let v1047 : BitVec 1 := Scalar.xori v1045 v1046
  let c0_i32_640 : BitVec 32 := 0#32
  let v1044 : BitVec 1 := Scalar.cmpi .ne v1043 c0_i32_640
  let v1048 : BitVec 1 := Scalar.andi v1047 v1044
  let v1049 : BitVec 32 := Scalar.addi v1043 v1042
  let v1050 : BitVec 32 := Scalar.select v1048 v1049 v1043
  let c1_i32_644 : BitVec 32 := 1#32
  let v1051 : BitVec 32 := Scalar.muli v1050 c1_i32_644
  let v1052 : BitVec 32 := Scalar.addi c0_i32_645 v1051
  v1052.toNat
def k0_dev52 (d0 : Dev nD) : Nat :=
  let c0_i32_659 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_650 : BitVec 32 := 21#32
  let v1061 : BitVec 32 := Scalar.addi v2 c21_i32_650
  let c32_i32_651 : BitVec 32 := 32#32
  let c0_i32_652 : BitVec 32 := 0#32
  let v1062 : BitVec 1 := Scalar.cmpi .eq c32_i32_651 c0_i32_652
  let c1_i32_653 : BitVec 32 := 1#32
  let v1063 : BitVec 32 := Scalar.select v1062 c1_i32_653 c32_i32_651
  let v1064 : BitVec 32 := Scalar.remsi v1061 v1063
  let c0_i32_655 : BitVec 32 := 0#32
  let v1066 : BitVec 1 := Scalar.cmpi .slt v1064 c0_i32_655
  let c0_i32_656 : BitVec 32 := 0#32
  let v1067 : BitVec 1 := Scalar.cmpi .slt v1063 c0_i32_656
  let v1068 : BitVec 1 := Scalar.xori v1066 v1067
  let c0_i32_654 : BitVec 32 := 0#32
  let v1065 : BitVec 1 := Scalar.cmpi .ne v1064 c0_i32_654
  let v1069 : BitVec 1 := Scalar.andi v1068 v1065
  let v1070 : BitVec 32 := Scalar.addi v1064 v1063
  let v1071 : BitVec 32 := Scalar.select v1069 v1070 v1064
  let c1_i32_658 : BitVec 32 := 1#32
  let v1072 : BitVec 32 := Scalar.muli v1071 c1_i32_658
  let v1073 : BitVec 32 := Scalar.addi c0_i32_659 v1072
  v1073.toNat
def k0_dev53 (d0 : Dev nD) : Nat :=
  let c0_i32_673 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_664 : BitVec 32 := 22#32
  let v1082 : BitVec 32 := Scalar.addi v2 c22_i32_664
  let c32_i32_665 : BitVec 32 := 32#32
  let c0_i32_666 : BitVec 32 := 0#32
  let v1083 : BitVec 1 := Scalar.cmpi .eq c32_i32_665 c0_i32_666
  let c1_i32_667 : BitVec 32 := 1#32
  let v1084 : BitVec 32 := Scalar.select v1083 c1_i32_667 c32_i32_665
  let v1085 : BitVec 32 := Scalar.remsi v1082 v1084
  let c0_i32_669 : BitVec 32 := 0#32
  let v1087 : BitVec 1 := Scalar.cmpi .slt v1085 c0_i32_669
  let c0_i32_670 : BitVec 32 := 0#32
  let v1088 : BitVec 1 := Scalar.cmpi .slt v1084 c0_i32_670
  let v1089 : BitVec 1 := Scalar.xori v1087 v1088
  let c0_i32_668 : BitVec 32 := 0#32
  let v1086 : BitVec 1 := Scalar.cmpi .ne v1085 c0_i32_668
  let v1090 : BitVec 1 := Scalar.andi v1089 v1086
  let v1091 : BitVec 32 := Scalar.addi v1085 v1084
  let v1092 : BitVec 32 := Scalar.select v1090 v1091 v1085
  let c1_i32_672 : BitVec 32 := 1#32
  let v1093 : BitVec 32 := Scalar.muli v1092 c1_i32_672
  let v1094 : BitVec 32 := Scalar.addi c0_i32_673 v1093
  v1094.toNat
def k0_dev54 (d0 : Dev nD) : Nat :=
  let c0_i32_687 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_678 : BitVec 32 := 23#32
  let v1103 : BitVec 32 := Scalar.addi v2 c23_i32_678
  let c32_i32_679 : BitVec 32 := 32#32
  let c0_i32_680 : BitVec 32 := 0#32
  let v1104 : BitVec 1 := Scalar.cmpi .eq c32_i32_679 c0_i32_680
  let c1_i32_681 : BitVec 32 := 1#32
  let v1105 : BitVec 32 := Scalar.select v1104 c1_i32_681 c32_i32_679
  let v1106 : BitVec 32 := Scalar.remsi v1103 v1105
  let c0_i32_683 : BitVec 32 := 0#32
  let v1108 : BitVec 1 := Scalar.cmpi .slt v1106 c0_i32_683
  let c0_i32_684 : BitVec 32 := 0#32
  let v1109 : BitVec 1 := Scalar.cmpi .slt v1105 c0_i32_684
  let v1110 : BitVec 1 := Scalar.xori v1108 v1109
  let c0_i32_682 : BitVec 32 := 0#32
  let v1107 : BitVec 1 := Scalar.cmpi .ne v1106 c0_i32_682
  let v1111 : BitVec 1 := Scalar.andi v1110 v1107
  let v1112 : BitVec 32 := Scalar.addi v1106 v1105
  let v1113 : BitVec 32 := Scalar.select v1111 v1112 v1106
  let c1_i32_686 : BitVec 32 := 1#32
  let v1114 : BitVec 32 := Scalar.muli v1113 c1_i32_686
  let v1115 : BitVec 32 := Scalar.addi c0_i32_687 v1114
  v1115.toNat
def k0_dev55 (d0 : Dev nD) : Nat :=
  let c0_i32_701 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_692 : BitVec 32 := 24#32
  let v1124 : BitVec 32 := Scalar.addi v2 c24_i32_692
  let c32_i32_693 : BitVec 32 := 32#32
  let c0_i32_694 : BitVec 32 := 0#32
  let v1125 : BitVec 1 := Scalar.cmpi .eq c32_i32_693 c0_i32_694
  let c1_i32_695 : BitVec 32 := 1#32
  let v1126 : BitVec 32 := Scalar.select v1125 c1_i32_695 c32_i32_693
  let v1127 : BitVec 32 := Scalar.remsi v1124 v1126
  let c0_i32_697 : BitVec 32 := 0#32
  let v1129 : BitVec 1 := Scalar.cmpi .slt v1127 c0_i32_697
  let c0_i32_698 : BitVec 32 := 0#32
  let v1130 : BitVec 1 := Scalar.cmpi .slt v1126 c0_i32_698
  let v1131 : BitVec 1 := Scalar.xori v1129 v1130
  let c0_i32_696 : BitVec 32 := 0#32
  let v1128 : BitVec 1 := Scalar.cmpi .ne v1127 c0_i32_696
  let v1132 : BitVec 1 := Scalar.andi v1131 v1128
  let v1133 : BitVec 32 := Scalar.addi v1127 v1126
  let v1134 : BitVec 32 := Scalar.select v1132 v1133 v1127
  let c1_i32_700 : BitVec 32 := 1#32
  let v1135 : BitVec 32 := Scalar.muli v1134 c1_i32_700
  let v1136 : BitVec 32 := Scalar.addi c0_i32_701 v1135
  v1136.toNat
def k0_dev56 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_706 : BitVec 32 := 25#32
  let v1145 : BitVec 32 := Scalar.addi v2 c25_i32_706
  let c32_i32_707 : BitVec 32 := 32#32
  let c0_i32_708 : BitVec 32 := 0#32
  let v1146 : BitVec 1 := Scalar.cmpi .eq c32_i32_707 c0_i32_708
  let c1_i32_709 : BitVec 32 := 1#32
  let v1147 : BitVec 32 := Scalar.select v1146 c1_i32_709 c32_i32_707
  let v1148 : BitVec 32 := Scalar.remsi v1145 v1147
  let c0_i32_711 : BitVec 32 := 0#32
  let v1150 : BitVec 1 := Scalar.cmpi .slt v1148 c0_i32_711
  let c0_i32_712 : BitVec 32 := 0#32
  let v1151 : BitVec 1 := Scalar.cmpi .slt v1147 c0_i32_712
  let v1152 : BitVec 1 := Scalar.xori v1150 v1151
  let c0_i32_710 : BitVec 32 := 0#32
  let v1149 : BitVec 1 := Scalar.cmpi .ne v1148 c0_i32_710
  let v1153 : BitVec 1 := Scalar.andi v1152 v1149
  let v1154 : BitVec 32 := Scalar.addi v1148 v1147
  let v1155 : BitVec 32 := Scalar.select v1153 v1154 v1148
  let c1_i32_714 : BitVec 32 := 1#32
  let v1156 : BitVec 32 := Scalar.muli v1155 c1_i32_714
  let v1157 : BitVec 32 := Scalar.addi c0_i32_715 v1156
  v1157.toNat
def k0_dev57 (d0 : Dev nD) : Nat :=
  let c0_i32_729 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_720 : BitVec 32 := 26#32
  let v1166 : BitVec 32 := Scalar.addi v2 c26_i32_720
  let c32_i32_721 : BitVec 32 := 32#32
  let c0_i32_722 : BitVec 32 := 0#32
  let v1167 : BitVec 1 := Scalar.cmpi .eq c32_i32_721 c0_i32_722
  let c1_i32_723 : BitVec 32 := 1#32
  let v1168 : BitVec 32 := Scalar.select v1167 c1_i32_723 c32_i32_721
  let v1169 : BitVec 32 := Scalar.remsi v1166 v1168
  let c0_i32_725 : BitVec 32 := 0#32
  let v1171 : BitVec 1 := Scalar.cmpi .slt v1169 c0_i32_725
  let c0_i32_726 : BitVec 32 := 0#32
  let v1172 : BitVec 1 := Scalar.cmpi .slt v1168 c0_i32_726
  let v1173 : BitVec 1 := Scalar.xori v1171 v1172
  let c0_i32_724 : BitVec 32 := 0#32
  let v1170 : BitVec 1 := Scalar.cmpi .ne v1169 c0_i32_724
  let v1174 : BitVec 1 := Scalar.andi v1173 v1170
  let v1175 : BitVec 32 := Scalar.addi v1169 v1168
  let v1176 : BitVec 32 := Scalar.select v1174 v1175 v1169
  let c1_i32_728 : BitVec 32 := 1#32
  let v1177 : BitVec 32 := Scalar.muli v1176 c1_i32_728
  let v1178 : BitVec 32 := Scalar.addi c0_i32_729 v1177
  v1178.toNat
def k0_dev58 (d0 : Dev nD) : Nat :=
  let c0_i32_743 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_734 : BitVec 32 := 27#32
  let v1187 : BitVec 32 := Scalar.addi v2 c27_i32_734
  let c32_i32_735 : BitVec 32 := 32#32
  let c0_i32_736 : BitVec 32 := 0#32
  let v1188 : BitVec 1 := Scalar.cmpi .eq c32_i32_735 c0_i32_736
  let c1_i32_737 : BitVec 32 := 1#32
  let v1189 : BitVec 32 := Scalar.select v1188 c1_i32_737 c32_i32_735
  let v1190 : BitVec 32 := Scalar.remsi v1187 v1189
  let c0_i32_739 : BitVec 32 := 0#32
  let v1192 : BitVec 1 := Scalar.cmpi .slt v1190 c0_i32_739
  let c0_i32_740 : BitVec 32 := 0#32
  let v1193 : BitVec 1 := Scalar.cmpi .slt v1189 c0_i32_740
  let v1194 : BitVec 1 := Scalar.xori v1192 v1193
  let c0_i32_738 : BitVec 32 := 0#32
  let v1191 : BitVec 1 := Scalar.cmpi .ne v1190 c0_i32_738
  let v1195 : BitVec 1 := Scalar.andi v1194 v1191
  let v1196 : BitVec 32 := Scalar.addi v1190 v1189
  let v1197 : BitVec 32 := Scalar.select v1195 v1196 v1190
  let c1_i32_742 : BitVec 32 := 1#32
  let v1198 : BitVec 32 := Scalar.muli v1197 c1_i32_742
  let v1199 : BitVec 32 := Scalar.addi c0_i32_743 v1198
  v1199.toNat
def k0_dev59 (d0 : Dev nD) : Nat :=
  let c0_i32_757 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_748 : BitVec 32 := 28#32
  let v1208 : BitVec 32 := Scalar.addi v2 c28_i32_748
  let c32_i32_749 : BitVec 32 := 32#32
  let c0_i32_750 : BitVec 32 := 0#32
  let v1209 : BitVec 1 := Scalar.cmpi .eq c32_i32_749 c0_i32_750
  let c1_i32_751 : BitVec 32 := 1#32
  let v1210 : BitVec 32 := Scalar.select v1209 c1_i32_751 c32_i32_749
  let v1211 : BitVec 32 := Scalar.remsi v1208 v1210
  let c0_i32_753 : BitVec 32 := 0#32
  let v1213 : BitVec 1 := Scalar.cmpi .slt v1211 c0_i32_753
  let c0_i32_754 : BitVec 32 := 0#32
  let v1214 : BitVec 1 := Scalar.cmpi .slt v1210 c0_i32_754
  let v1215 : BitVec 1 := Scalar.xori v1213 v1214
  let c0_i32_752 : BitVec 32 := 0#32
  let v1212 : BitVec 1 := Scalar.cmpi .ne v1211 c0_i32_752
  let v1216 : BitVec 1 := Scalar.andi v1215 v1212
  let v1217 : BitVec 32 := Scalar.addi v1211 v1210
  let v1218 : BitVec 32 := Scalar.select v1216 v1217 v1211
  let c1_i32_756 : BitVec 32 := 1#32
  let v1219 : BitVec 32 := Scalar.muli v1218 c1_i32_756
  let v1220 : BitVec 32 := Scalar.addi c0_i32_757 v1219
  v1220.toNat
def k0_dev60 (d0 : Dev nD) : Nat :=
  let c0_i32_771 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_762 : BitVec 32 := 29#32
  let v1229 : BitVec 32 := Scalar.addi v2 c29_i32_762
  let c32_i32_763 : BitVec 32 := 32#32
  let c0_i32_764 : BitVec 32 := 0#32
  let v1230 : BitVec 1 := Scalar.cmpi .eq c32_i32_763 c0_i32_764
  let c1_i32_765 : BitVec 32 := 1#32
  let v1231 : BitVec 32 := Scalar.select v1230 c1_i32_765 c32_i32_763
  let v1232 : BitVec 32 := Scalar.remsi v1229 v1231
  let c0_i32_767 : BitVec 32 := 0#32
  let v1234 : BitVec 1 := Scalar.cmpi .slt v1232 c0_i32_767
  let c0_i32_768 : BitVec 32 := 0#32
  let v1235 : BitVec 1 := Scalar.cmpi .slt v1231 c0_i32_768
  let v1236 : BitVec 1 := Scalar.xori v1234 v1235
  let c0_i32_766 : BitVec 32 := 0#32
  let v1233 : BitVec 1 := Scalar.cmpi .ne v1232 c0_i32_766
  let v1237 : BitVec 1 := Scalar.andi v1236 v1233
  let v1238 : BitVec 32 := Scalar.addi v1232 v1231
  let v1239 : BitVec 32 := Scalar.select v1237 v1238 v1232
  let c1_i32_770 : BitVec 32 := 1#32
  let v1240 : BitVec 32 := Scalar.muli v1239 c1_i32_770
  let v1241 : BitVec 32 := Scalar.addi c0_i32_771 v1240
  v1241.toNat
def k0_dev61 (d0 : Dev nD) : Nat :=
  let c0_i32_785 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_776 : BitVec 32 := 30#32
  let v1250 : BitVec 32 := Scalar.addi v2 c30_i32_776
  let c32_i32_777 : BitVec 32 := 32#32
  let c0_i32_778 : BitVec 32 := 0#32
  let v1251 : BitVec 1 := Scalar.cmpi .eq c32_i32_777 c0_i32_778
  let c1_i32_779 : BitVec 32 := 1#32
  let v1252 : BitVec 32 := Scalar.select v1251 c1_i32_779 c32_i32_777
  let v1253 : BitVec 32 := Scalar.remsi v1250 v1252
  let c0_i32_781 : BitVec 32 := 0#32
  let v1255 : BitVec 1 := Scalar.cmpi .slt v1253 c0_i32_781
  let c0_i32_782 : BitVec 32 := 0#32
  let v1256 : BitVec 1 := Scalar.cmpi .slt v1252 c0_i32_782
  let v1257 : BitVec 1 := Scalar.xori v1255 v1256
  let c0_i32_780 : BitVec 32 := 0#32
  let v1254 : BitVec 1 := Scalar.cmpi .ne v1253 c0_i32_780
  let v1258 : BitVec 1 := Scalar.andi v1257 v1254
  let v1259 : BitVec 32 := Scalar.addi v1253 v1252
  let v1260 : BitVec 32 := Scalar.select v1258 v1259 v1253
  let c1_i32_784 : BitVec 32 := 1#32
  let v1261 : BitVec 32 := Scalar.muli v1260 c1_i32_784
  let v1262 : BitVec 32 := Scalar.addi c0_i32_785 v1261
  v1262.toNat
def k0_dev62 (d0 : Dev nD) : Nat :=
  let c0_i32_799 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_790 : BitVec 32 := 31#32
  let v1271 : BitVec 32 := Scalar.addi v2 c31_i32_790
  let c32_i32_791 : BitVec 32 := 32#32
  let c0_i32_792 : BitVec 32 := 0#32
  let v1272 : BitVec 1 := Scalar.cmpi .eq c32_i32_791 c0_i32_792
  let c1_i32_793 : BitVec 32 := 1#32
  let v1273 : BitVec 32 := Scalar.select v1272 c1_i32_793 c32_i32_791
  let v1274 : BitVec 32 := Scalar.remsi v1271 v1273
  let c0_i32_795 : BitVec 32 := 0#32
  let v1276 : BitVec 1 := Scalar.cmpi .slt v1274 c0_i32_795
  let c0_i32_796 : BitVec 32 := 0#32
  let v1277 : BitVec 1 := Scalar.cmpi .slt v1273 c0_i32_796
  let v1278 : BitVec 1 := Scalar.xori v1276 v1277
  let c0_i32_794 : BitVec 32 := 0#32
  let v1275 : BitVec 1 := Scalar.cmpi .ne v1274 c0_i32_794
  let v1279 : BitVec 1 := Scalar.andi v1278 v1275
  let v1280 : BitVec 32 := Scalar.addi v1274 v1273
  let v1281 : BitVec 32 := Scalar.select v1279 v1280 v1274
  let c1_i32_798 : BitVec 32 := 1#32
  let v1282 : BitVec 32 := Scalar.muli v1281 c1_i32_798
  let v1283 : BitVec 32 := Scalar.addi c0_i32_799 v1282
  v1283.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1292 : Index := Scalar.indexCast v2
  let c0_804 : Index := 0#32
  let c0_805 : Index := 0#32
  ![v1292.toNat, 0, 0]
def k0_off6 (d0 : Dev nD) (c1_i32_807 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_806 : BitVec 32 := 32#32
  let v1296 : BitVec 32 := Scalar.addi v2 c32_i32_806
  let v1297 : BitVec 32 := Scalar.subi v1296 c1_i32_807
  let c32_i32_808 : BitVec 32 := 32#32
  let c0_i32_809 : BitVec 32 := 0#32
  let v1298 : BitVec 1 := Scalar.cmpi .eq c32_i32_808 c0_i32_809
  let c1_i32_810 : BitVec 32 := 1#32
  let v1299 : BitVec 32 := Scalar.select v1298 c1_i32_810 c32_i32_808
  let v1300 : BitVec 32 := Scalar.remsi v1297 v1299
  let c0_i32_812 : BitVec 32 := 0#32
  let v1302 : BitVec 1 := Scalar.cmpi .slt v1300 c0_i32_812
  let c0_i32_813 : BitVec 32 := 0#32
  let v1303 : BitVec 1 := Scalar.cmpi .slt v1299 c0_i32_813
  let v1304 : BitVec 1 := Scalar.xori v1302 v1303
  let c0_i32_811 : BitVec 32 := 0#32
  let v1301 : BitVec 1 := Scalar.cmpi .ne v1300 c0_i32_811
  let v1305 : BitVec 1 := Scalar.andi v1304 v1301
  let v1306 : BitVec 32 := Scalar.addi v1300 v1299
  let v1307 : BitVec 32 := Scalar.select v1305 v1306 v1300
  ![v1307.toNat]
def k0_off7 (d0 : Dev nD) (c1_i32_807 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_806 : BitVec 32 := 32#32
  let v1296 : BitVec 32 := Scalar.addi v2 c32_i32_806
  let v1297 : BitVec 32 := Scalar.subi v1296 c1_i32_807
  let c32_i32_808 : BitVec 32 := 32#32
  let c0_i32_809 : BitVec 32 := 0#32
  let v1298 : BitVec 1 := Scalar.cmpi .eq c32_i32_808 c0_i32_809
  let c1_i32_810 : BitVec 32 := 1#32
  let v1299 : BitVec 32 := Scalar.select v1298 c1_i32_810 c32_i32_808
  let v1300 : BitVec 32 := Scalar.remsi v1297 v1299
  let c0_i32_812 : BitVec 32 := 0#32
  let v1302 : BitVec 1 := Scalar.cmpi .slt v1300 c0_i32_812
  let c0_i32_813 : BitVec 32 := 0#32
  let v1303 : BitVec 1 := Scalar.cmpi .slt v1299 c0_i32_813
  let v1304 : BitVec 1 := Scalar.xori v1302 v1303
  let c0_i32_811 : BitVec 32 := 0#32
  let v1301 : BitVec 1 := Scalar.cmpi .ne v1300 c0_i32_811
  let v1305 : BitVec 1 := Scalar.andi v1304 v1301
  let v1306 : BitVec 32 := Scalar.addi v1300 v1299
  let v1307 : BitVec 32 := Scalar.select v1305 v1306 v1300
  let c0_i32_818 : BitVec 32 := 0#32
  let c0_i32_819 : BitVec 32 := 0#32
  ![v1307.toNat, 0, 0]
def k0_off8 (d0 : Dev nD) (c1_i32_807 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_806 : BitVec 32 := 32#32
  let v1296 : BitVec 32 := Scalar.addi v2 c32_i32_806
  let v1297 : BitVec 32 := Scalar.subi v1296 c1_i32_807
  let c32_i32_808 : BitVec 32 := 32#32
  let c0_i32_809 : BitVec 32 := 0#32
  let v1298 : BitVec 1 := Scalar.cmpi .eq c32_i32_808 c0_i32_809
  let c1_i32_810 : BitVec 32 := 1#32
  let v1299 : BitVec 32 := Scalar.select v1298 c1_i32_810 c32_i32_808
  let v1300 : BitVec 32 := Scalar.remsi v1297 v1299
  let c0_i32_812 : BitVec 32 := 0#32
  let v1302 : BitVec 1 := Scalar.cmpi .slt v1300 c0_i32_812
  let c0_i32_813 : BitVec 32 := 0#32
  let v1303 : BitVec 1 := Scalar.cmpi .slt v1299 c0_i32_813
  let v1304 : BitVec 1 := Scalar.xori v1302 v1303
  let c0_i32_811 : BitVec 32 := 0#32
  let v1301 : BitVec 1 := Scalar.cmpi .ne v1300 c0_i32_811
  let v1305 : BitVec 1 := Scalar.andi v1304 v1301
  let v1306 : BitVec 32 := Scalar.addi v1300 v1299
  let v1307 : BitVec 32 := Scalar.select v1305 v1306 v1300
  let v1316 : Index := Scalar.indexCast v1307
  let c0_822 : Index := 0#32
  let c0_823 : Index := 0#32
  ![v1316.toNat, 0, 0]
def k0_dev63 (d0 : Dev nD) : Nat :=
  let c0_i32_1375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1366 : BitVec 32 := 1#32
  let v2076 : BitVec 32 := Scalar.addi v2 c1_i32_1366
  let c32_i32_1367 : BitVec 32 := 32#32
  let c0_i32_1368 : BitVec 32 := 0#32
  let v2077 : BitVec 1 := Scalar.cmpi .eq c32_i32_1367 c0_i32_1368
  let c1_i32_1369 : BitVec 32 := 1#32
  let v2078 : BitVec 32 := Scalar.select v2077 c1_i32_1369 c32_i32_1367
  let v2079 : BitVec 32 := Scalar.remsi v2076 v2078
  let c0_i32_1371 : BitVec 32 := 0#32
  let v2081 : BitVec 1 := Scalar.cmpi .slt v2079 c0_i32_1371
  let c0_i32_1372 : BitVec 32 := 0#32
  let v2082 : BitVec 1 := Scalar.cmpi .slt v2078 c0_i32_1372
  let v2083 : BitVec 1 := Scalar.xori v2081 v2082
  let c0_i32_1370 : BitVec 32 := 0#32
  let v2080 : BitVec 1 := Scalar.cmpi .ne v2079 c0_i32_1370
  let v2084 : BitVec 1 := Scalar.andi v2083 v2080
  let v2085 : BitVec 32 := Scalar.addi v2079 v2078
  let v2086 : BitVec 32 := Scalar.select v2084 v2085 v2079
  let c1_i32_1374 : BitVec 32 := 1#32
  let v2087 : BitVec 32 := Scalar.muli v2086 c1_i32_1374
  let v2088 : BitVec 32 := Scalar.addi c0_i32_1375 v2087
  v2088.toNat
def k0_dev64 (d0 : Dev nD) : Nat :=
  let c0_i32_1389 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1380 : BitVec 32 := 2#32
  let v2097 : BitVec 32 := Scalar.addi v2 c2_i32_1380
  let c32_i32_1381 : BitVec 32 := 32#32
  let c0_i32_1382 : BitVec 32 := 0#32
  let v2098 : BitVec 1 := Scalar.cmpi .eq c32_i32_1381 c0_i32_1382
  let c1_i32_1383 : BitVec 32 := 1#32
  let v2099 : BitVec 32 := Scalar.select v2098 c1_i32_1383 c32_i32_1381
  let v2100 : BitVec 32 := Scalar.remsi v2097 v2099
  let c0_i32_1385 : BitVec 32 := 0#32
  let v2102 : BitVec 1 := Scalar.cmpi .slt v2100 c0_i32_1385
  let c0_i32_1386 : BitVec 32 := 0#32
  let v2103 : BitVec 1 := Scalar.cmpi .slt v2099 c0_i32_1386
  let v2104 : BitVec 1 := Scalar.xori v2102 v2103
  let c0_i32_1384 : BitVec 32 := 0#32
  let v2101 : BitVec 1 := Scalar.cmpi .ne v2100 c0_i32_1384
  let v2105 : BitVec 1 := Scalar.andi v2104 v2101
  let v2106 : BitVec 32 := Scalar.addi v2100 v2099
  let v2107 : BitVec 32 := Scalar.select v2105 v2106 v2100
  let c1_i32_1388 : BitVec 32 := 1#32
  let v2108 : BitVec 32 := Scalar.muli v2107 c1_i32_1388
  let v2109 : BitVec 32 := Scalar.addi c0_i32_1389 v2108
  v2109.toNat
def k0_dev65 (d0 : Dev nD) : Nat :=
  let c0_i32_1403 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1394 : BitVec 32 := 3#32
  let v2118 : BitVec 32 := Scalar.addi v2 c3_i32_1394
  let c32_i32_1395 : BitVec 32 := 32#32
  let c0_i32_1396 : BitVec 32 := 0#32
  let v2119 : BitVec 1 := Scalar.cmpi .eq c32_i32_1395 c0_i32_1396
  let c1_i32_1397 : BitVec 32 := 1#32
  let v2120 : BitVec 32 := Scalar.select v2119 c1_i32_1397 c32_i32_1395
  let v2121 : BitVec 32 := Scalar.remsi v2118 v2120
  let c0_i32_1399 : BitVec 32 := 0#32
  let v2123 : BitVec 1 := Scalar.cmpi .slt v2121 c0_i32_1399
  let c0_i32_1400 : BitVec 32 := 0#32
  let v2124 : BitVec 1 := Scalar.cmpi .slt v2120 c0_i32_1400
  let v2125 : BitVec 1 := Scalar.xori v2123 v2124
  let c0_i32_1398 : BitVec 32 := 0#32
  let v2122 : BitVec 1 := Scalar.cmpi .ne v2121 c0_i32_1398
  let v2126 : BitVec 1 := Scalar.andi v2125 v2122
  let v2127 : BitVec 32 := Scalar.addi v2121 v2120
  let v2128 : BitVec 32 := Scalar.select v2126 v2127 v2121
  let c1_i32_1402 : BitVec 32 := 1#32
  let v2129 : BitVec 32 := Scalar.muli v2128 c1_i32_1402
  let v2130 : BitVec 32 := Scalar.addi c0_i32_1403 v2129
  v2130.toNat
def k0_dev66 (d0 : Dev nD) : Nat :=
  let c0_i32_1417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1408 : BitVec 32 := 4#32
  let v2139 : BitVec 32 := Scalar.addi v2 c4_i32_1408
  let c32_i32_1409 : BitVec 32 := 32#32
  let c0_i32_1410 : BitVec 32 := 0#32
  let v2140 : BitVec 1 := Scalar.cmpi .eq c32_i32_1409 c0_i32_1410
  let c1_i32_1411 : BitVec 32 := 1#32
  let v2141 : BitVec 32 := Scalar.select v2140 c1_i32_1411 c32_i32_1409
  let v2142 : BitVec 32 := Scalar.remsi v2139 v2141
  let c0_i32_1413 : BitVec 32 := 0#32
  let v2144 : BitVec 1 := Scalar.cmpi .slt v2142 c0_i32_1413
  let c0_i32_1414 : BitVec 32 := 0#32
  let v2145 : BitVec 1 := Scalar.cmpi .slt v2141 c0_i32_1414
  let v2146 : BitVec 1 := Scalar.xori v2144 v2145
  let c0_i32_1412 : BitVec 32 := 0#32
  let v2143 : BitVec 1 := Scalar.cmpi .ne v2142 c0_i32_1412
  let v2147 : BitVec 1 := Scalar.andi v2146 v2143
  let v2148 : BitVec 32 := Scalar.addi v2142 v2141
  let v2149 : BitVec 32 := Scalar.select v2147 v2148 v2142
  let c1_i32_1416 : BitVec 32 := 1#32
  let v2150 : BitVec 32 := Scalar.muli v2149 c1_i32_1416
  let v2151 : BitVec 32 := Scalar.addi c0_i32_1417 v2150
  v2151.toNat
def k0_dev67 (d0 : Dev nD) : Nat :=
  let c0_i32_1431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1422 : BitVec 32 := 5#32
  let v2160 : BitVec 32 := Scalar.addi v2 c5_i32_1422
  let c32_i32_1423 : BitVec 32 := 32#32
  let c0_i32_1424 : BitVec 32 := 0#32
  let v2161 : BitVec 1 := Scalar.cmpi .eq c32_i32_1423 c0_i32_1424
  let c1_i32_1425 : BitVec 32 := 1#32
  let v2162 : BitVec 32 := Scalar.select v2161 c1_i32_1425 c32_i32_1423
  let v2163 : BitVec 32 := Scalar.remsi v2160 v2162
  let c0_i32_1427 : BitVec 32 := 0#32
  let v2165 : BitVec 1 := Scalar.cmpi .slt v2163 c0_i32_1427
  let c0_i32_1428 : BitVec 32 := 0#32
  let v2166 : BitVec 1 := Scalar.cmpi .slt v2162 c0_i32_1428
  let v2167 : BitVec 1 := Scalar.xori v2165 v2166
  let c0_i32_1426 : BitVec 32 := 0#32
  let v2164 : BitVec 1 := Scalar.cmpi .ne v2163 c0_i32_1426
  let v2168 : BitVec 1 := Scalar.andi v2167 v2164
  let v2169 : BitVec 32 := Scalar.addi v2163 v2162
  let v2170 : BitVec 32 := Scalar.select v2168 v2169 v2163
  let c1_i32_1430 : BitVec 32 := 1#32
  let v2171 : BitVec 32 := Scalar.muli v2170 c1_i32_1430
  let v2172 : BitVec 32 := Scalar.addi c0_i32_1431 v2171
  v2172.toNat
def k0_dev68 (d0 : Dev nD) : Nat :=
  let c0_i32_1445 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1436 : BitVec 32 := 6#32
  let v2181 : BitVec 32 := Scalar.addi v2 c6_i32_1436
  let c32_i32_1437 : BitVec 32 := 32#32
  let c0_i32_1438 : BitVec 32 := 0#32
  let v2182 : BitVec 1 := Scalar.cmpi .eq c32_i32_1437 c0_i32_1438
  let c1_i32_1439 : BitVec 32 := 1#32
  let v2183 : BitVec 32 := Scalar.select v2182 c1_i32_1439 c32_i32_1437
  let v2184 : BitVec 32 := Scalar.remsi v2181 v2183
  let c0_i32_1441 : BitVec 32 := 0#32
  let v2186 : BitVec 1 := Scalar.cmpi .slt v2184 c0_i32_1441
  let c0_i32_1442 : BitVec 32 := 0#32
  let v2187 : BitVec 1 := Scalar.cmpi .slt v2183 c0_i32_1442
  let v2188 : BitVec 1 := Scalar.xori v2186 v2187
  let c0_i32_1440 : BitVec 32 := 0#32
  let v2185 : BitVec 1 := Scalar.cmpi .ne v2184 c0_i32_1440
  let v2189 : BitVec 1 := Scalar.andi v2188 v2185
  let v2190 : BitVec 32 := Scalar.addi v2184 v2183
  let v2191 : BitVec 32 := Scalar.select v2189 v2190 v2184
  let c1_i32_1444 : BitVec 32 := 1#32
  let v2192 : BitVec 32 := Scalar.muli v2191 c1_i32_1444
  let v2193 : BitVec 32 := Scalar.addi c0_i32_1445 v2192
  v2193.toNat
def k0_dev69 (d0 : Dev nD) : Nat :=
  let c0_i32_1459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1450 : BitVec 32 := 7#32
  let v2202 : BitVec 32 := Scalar.addi v2 c7_i32_1450
  let c32_i32_1451 : BitVec 32 := 32#32
  let c0_i32_1452 : BitVec 32 := 0#32
  let v2203 : BitVec 1 := Scalar.cmpi .eq c32_i32_1451 c0_i32_1452
  let c1_i32_1453 : BitVec 32 := 1#32
  let v2204 : BitVec 32 := Scalar.select v2203 c1_i32_1453 c32_i32_1451
  let v2205 : BitVec 32 := Scalar.remsi v2202 v2204
  let c0_i32_1455 : BitVec 32 := 0#32
  let v2207 : BitVec 1 := Scalar.cmpi .slt v2205 c0_i32_1455
  let c0_i32_1456 : BitVec 32 := 0#32
  let v2208 : BitVec 1 := Scalar.cmpi .slt v2204 c0_i32_1456
  let v2209 : BitVec 1 := Scalar.xori v2207 v2208
  let c0_i32_1454 : BitVec 32 := 0#32
  let v2206 : BitVec 1 := Scalar.cmpi .ne v2205 c0_i32_1454
  let v2210 : BitVec 1 := Scalar.andi v2209 v2206
  let v2211 : BitVec 32 := Scalar.addi v2205 v2204
  let v2212 : BitVec 32 := Scalar.select v2210 v2211 v2205
  let c1_i32_1458 : BitVec 32 := 1#32
  let v2213 : BitVec 32 := Scalar.muli v2212 c1_i32_1458
  let v2214 : BitVec 32 := Scalar.addi c0_i32_1459 v2213
  v2214.toNat
def k0_dev70 (d0 : Dev nD) : Nat :=
  let c0_i32_1473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1464 : BitVec 32 := 8#32
  let v2223 : BitVec 32 := Scalar.addi v2 c8_i32_1464
  let c32_i32_1465 : BitVec 32 := 32#32
  let c0_i32_1466 : BitVec 32 := 0#32
  let v2224 : BitVec 1 := Scalar.cmpi .eq c32_i32_1465 c0_i32_1466
  let c1_i32_1467 : BitVec 32 := 1#32
  let v2225 : BitVec 32 := Scalar.select v2224 c1_i32_1467 c32_i32_1465
  let v2226 : BitVec 32 := Scalar.remsi v2223 v2225
  let c0_i32_1469 : BitVec 32 := 0#32
  let v2228 : BitVec 1 := Scalar.cmpi .slt v2226 c0_i32_1469
  let c0_i32_1470 : BitVec 32 := 0#32
  let v2229 : BitVec 1 := Scalar.cmpi .slt v2225 c0_i32_1470
  let v2230 : BitVec 1 := Scalar.xori v2228 v2229
  let c0_i32_1468 : BitVec 32 := 0#32
  let v2227 : BitVec 1 := Scalar.cmpi .ne v2226 c0_i32_1468
  let v2231 : BitVec 1 := Scalar.andi v2230 v2227
  let v2232 : BitVec 32 := Scalar.addi v2226 v2225
  let v2233 : BitVec 32 := Scalar.select v2231 v2232 v2226
  let c1_i32_1472 : BitVec 32 := 1#32
  let v2234 : BitVec 32 := Scalar.muli v2233 c1_i32_1472
  let v2235 : BitVec 32 := Scalar.addi c0_i32_1473 v2234
  v2235.toNat
def k0_dev71 (d0 : Dev nD) : Nat :=
  let c0_i32_1487 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1478 : BitVec 32 := 9#32
  let v2244 : BitVec 32 := Scalar.addi v2 c9_i32_1478
  let c32_i32_1479 : BitVec 32 := 32#32
  let c0_i32_1480 : BitVec 32 := 0#32
  let v2245 : BitVec 1 := Scalar.cmpi .eq c32_i32_1479 c0_i32_1480
  let c1_i32_1481 : BitVec 32 := 1#32
  let v2246 : BitVec 32 := Scalar.select v2245 c1_i32_1481 c32_i32_1479
  let v2247 : BitVec 32 := Scalar.remsi v2244 v2246
  let c0_i32_1483 : BitVec 32 := 0#32
  let v2249 : BitVec 1 := Scalar.cmpi .slt v2247 c0_i32_1483
  let c0_i32_1484 : BitVec 32 := 0#32
  let v2250 : BitVec 1 := Scalar.cmpi .slt v2246 c0_i32_1484
  let v2251 : BitVec 1 := Scalar.xori v2249 v2250
  let c0_i32_1482 : BitVec 32 := 0#32
  let v2248 : BitVec 1 := Scalar.cmpi .ne v2247 c0_i32_1482
  let v2252 : BitVec 1 := Scalar.andi v2251 v2248
  let v2253 : BitVec 32 := Scalar.addi v2247 v2246
  let v2254 : BitVec 32 := Scalar.select v2252 v2253 v2247
  let c1_i32_1486 : BitVec 32 := 1#32
  let v2255 : BitVec 32 := Scalar.muli v2254 c1_i32_1486
  let v2256 : BitVec 32 := Scalar.addi c0_i32_1487 v2255
  v2256.toNat
def k0_dev72 (d0 : Dev nD) : Nat :=
  let c0_i32_1501 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1492 : BitVec 32 := 10#32
  let v2265 : BitVec 32 := Scalar.addi v2 c10_i32_1492
  let c32_i32_1493 : BitVec 32 := 32#32
  let c0_i32_1494 : BitVec 32 := 0#32
  let v2266 : BitVec 1 := Scalar.cmpi .eq c32_i32_1493 c0_i32_1494
  let c1_i32_1495 : BitVec 32 := 1#32
  let v2267 : BitVec 32 := Scalar.select v2266 c1_i32_1495 c32_i32_1493
  let v2268 : BitVec 32 := Scalar.remsi v2265 v2267
  let c0_i32_1497 : BitVec 32 := 0#32
  let v2270 : BitVec 1 := Scalar.cmpi .slt v2268 c0_i32_1497
  let c0_i32_1498 : BitVec 32 := 0#32
  let v2271 : BitVec 1 := Scalar.cmpi .slt v2267 c0_i32_1498
  let v2272 : BitVec 1 := Scalar.xori v2270 v2271
  let c0_i32_1496 : BitVec 32 := 0#32
  let v2269 : BitVec 1 := Scalar.cmpi .ne v2268 c0_i32_1496
  let v2273 : BitVec 1 := Scalar.andi v2272 v2269
  let v2274 : BitVec 32 := Scalar.addi v2268 v2267
  let v2275 : BitVec 32 := Scalar.select v2273 v2274 v2268
  let c1_i32_1500 : BitVec 32 := 1#32
  let v2276 : BitVec 32 := Scalar.muli v2275 c1_i32_1500
  let v2277 : BitVec 32 := Scalar.addi c0_i32_1501 v2276
  v2277.toNat
def k0_dev73 (d0 : Dev nD) : Nat :=
  let c0_i32_1515 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1506 : BitVec 32 := 11#32
  let v2286 : BitVec 32 := Scalar.addi v2 c11_i32_1506
  let c32_i32_1507 : BitVec 32 := 32#32
  let c0_i32_1508 : BitVec 32 := 0#32
  let v2287 : BitVec 1 := Scalar.cmpi .eq c32_i32_1507 c0_i32_1508
  let c1_i32_1509 : BitVec 32 := 1#32
  let v2288 : BitVec 32 := Scalar.select v2287 c1_i32_1509 c32_i32_1507
  let v2289 : BitVec 32 := Scalar.remsi v2286 v2288
  let c0_i32_1511 : BitVec 32 := 0#32
  let v2291 : BitVec 1 := Scalar.cmpi .slt v2289 c0_i32_1511
  let c0_i32_1512 : BitVec 32 := 0#32
  let v2292 : BitVec 1 := Scalar.cmpi .slt v2288 c0_i32_1512
  let v2293 : BitVec 1 := Scalar.xori v2291 v2292
  let c0_i32_1510 : BitVec 32 := 0#32
  let v2290 : BitVec 1 := Scalar.cmpi .ne v2289 c0_i32_1510
  let v2294 : BitVec 1 := Scalar.andi v2293 v2290
  let v2295 : BitVec 32 := Scalar.addi v2289 v2288
  let v2296 : BitVec 32 := Scalar.select v2294 v2295 v2289
  let c1_i32_1514 : BitVec 32 := 1#32
  let v2297 : BitVec 32 := Scalar.muli v2296 c1_i32_1514
  let v2298 : BitVec 32 := Scalar.addi c0_i32_1515 v2297
  v2298.toNat
def k0_dev74 (d0 : Dev nD) : Nat :=
  let c0_i32_1529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1520 : BitVec 32 := 12#32
  let v2307 : BitVec 32 := Scalar.addi v2 c12_i32_1520
  let c32_i32_1521 : BitVec 32 := 32#32
  let c0_i32_1522 : BitVec 32 := 0#32
  let v2308 : BitVec 1 := Scalar.cmpi .eq c32_i32_1521 c0_i32_1522
  let c1_i32_1523 : BitVec 32 := 1#32
  let v2309 : BitVec 32 := Scalar.select v2308 c1_i32_1523 c32_i32_1521
  let v2310 : BitVec 32 := Scalar.remsi v2307 v2309
  let c0_i32_1525 : BitVec 32 := 0#32
  let v2312 : BitVec 1 := Scalar.cmpi .slt v2310 c0_i32_1525
  let c0_i32_1526 : BitVec 32 := 0#32
  let v2313 : BitVec 1 := Scalar.cmpi .slt v2309 c0_i32_1526
  let v2314 : BitVec 1 := Scalar.xori v2312 v2313
  let c0_i32_1524 : BitVec 32 := 0#32
  let v2311 : BitVec 1 := Scalar.cmpi .ne v2310 c0_i32_1524
  let v2315 : BitVec 1 := Scalar.andi v2314 v2311
  let v2316 : BitVec 32 := Scalar.addi v2310 v2309
  let v2317 : BitVec 32 := Scalar.select v2315 v2316 v2310
  let c1_i32_1528 : BitVec 32 := 1#32
  let v2318 : BitVec 32 := Scalar.muli v2317 c1_i32_1528
  let v2319 : BitVec 32 := Scalar.addi c0_i32_1529 v2318
  v2319.toNat
def k0_dev75 (d0 : Dev nD) : Nat :=
  let c0_i32_1543 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1534 : BitVec 32 := 13#32
  let v2328 : BitVec 32 := Scalar.addi v2 c13_i32_1534
  let c32_i32_1535 : BitVec 32 := 32#32
  let c0_i32_1536 : BitVec 32 := 0#32
  let v2329 : BitVec 1 := Scalar.cmpi .eq c32_i32_1535 c0_i32_1536
  let c1_i32_1537 : BitVec 32 := 1#32
  let v2330 : BitVec 32 := Scalar.select v2329 c1_i32_1537 c32_i32_1535
  let v2331 : BitVec 32 := Scalar.remsi v2328 v2330
  let c0_i32_1539 : BitVec 32 := 0#32
  let v2333 : BitVec 1 := Scalar.cmpi .slt v2331 c0_i32_1539
  let c0_i32_1540 : BitVec 32 := 0#32
  let v2334 : BitVec 1 := Scalar.cmpi .slt v2330 c0_i32_1540
  let v2335 : BitVec 1 := Scalar.xori v2333 v2334
  let c0_i32_1538 : BitVec 32 := 0#32
  let v2332 : BitVec 1 := Scalar.cmpi .ne v2331 c0_i32_1538
  let v2336 : BitVec 1 := Scalar.andi v2335 v2332
  let v2337 : BitVec 32 := Scalar.addi v2331 v2330
  let v2338 : BitVec 32 := Scalar.select v2336 v2337 v2331
  let c1_i32_1542 : BitVec 32 := 1#32
  let v2339 : BitVec 32 := Scalar.muli v2338 c1_i32_1542
  let v2340 : BitVec 32 := Scalar.addi c0_i32_1543 v2339
  v2340.toNat
def k0_dev76 (d0 : Dev nD) : Nat :=
  let c0_i32_1557 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1548 : BitVec 32 := 14#32
  let v2349 : BitVec 32 := Scalar.addi v2 c14_i32_1548
  let c32_i32_1549 : BitVec 32 := 32#32
  let c0_i32_1550 : BitVec 32 := 0#32
  let v2350 : BitVec 1 := Scalar.cmpi .eq c32_i32_1549 c0_i32_1550
  let c1_i32_1551 : BitVec 32 := 1#32
  let v2351 : BitVec 32 := Scalar.select v2350 c1_i32_1551 c32_i32_1549
  let v2352 : BitVec 32 := Scalar.remsi v2349 v2351
  let c0_i32_1553 : BitVec 32 := 0#32
  let v2354 : BitVec 1 := Scalar.cmpi .slt v2352 c0_i32_1553
  let c0_i32_1554 : BitVec 32 := 0#32
  let v2355 : BitVec 1 := Scalar.cmpi .slt v2351 c0_i32_1554
  let v2356 : BitVec 1 := Scalar.xori v2354 v2355
  let c0_i32_1552 : BitVec 32 := 0#32
  let v2353 : BitVec 1 := Scalar.cmpi .ne v2352 c0_i32_1552
  let v2357 : BitVec 1 := Scalar.andi v2356 v2353
  let v2358 : BitVec 32 := Scalar.addi v2352 v2351
  let v2359 : BitVec 32 := Scalar.select v2357 v2358 v2352
  let c1_i32_1556 : BitVec 32 := 1#32
  let v2360 : BitVec 32 := Scalar.muli v2359 c1_i32_1556
  let v2361 : BitVec 32 := Scalar.addi c0_i32_1557 v2360
  v2361.toNat
def k0_dev77 (d0 : Dev nD) : Nat :=
  let c0_i32_1571 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1562 : BitVec 32 := 15#32
  let v2370 : BitVec 32 := Scalar.addi v2 c15_i32_1562
  let c32_i32_1563 : BitVec 32 := 32#32
  let c0_i32_1564 : BitVec 32 := 0#32
  let v2371 : BitVec 1 := Scalar.cmpi .eq c32_i32_1563 c0_i32_1564
  let c1_i32_1565 : BitVec 32 := 1#32
  let v2372 : BitVec 32 := Scalar.select v2371 c1_i32_1565 c32_i32_1563
  let v2373 : BitVec 32 := Scalar.remsi v2370 v2372
  let c0_i32_1567 : BitVec 32 := 0#32
  let v2375 : BitVec 1 := Scalar.cmpi .slt v2373 c0_i32_1567
  let c0_i32_1568 : BitVec 32 := 0#32
  let v2376 : BitVec 1 := Scalar.cmpi .slt v2372 c0_i32_1568
  let v2377 : BitVec 1 := Scalar.xori v2375 v2376
  let c0_i32_1566 : BitVec 32 := 0#32
  let v2374 : BitVec 1 := Scalar.cmpi .ne v2373 c0_i32_1566
  let v2378 : BitVec 1 := Scalar.andi v2377 v2374
  let v2379 : BitVec 32 := Scalar.addi v2373 v2372
  let v2380 : BitVec 32 := Scalar.select v2378 v2379 v2373
  let c1_i32_1570 : BitVec 32 := 1#32
  let v2381 : BitVec 32 := Scalar.muli v2380 c1_i32_1570
  let v2382 : BitVec 32 := Scalar.addi c0_i32_1571 v2381
  v2382.toNat
def k0_dev78 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1576 : BitVec 32 := 16#32
  let v2391 : BitVec 32 := Scalar.addi v2 c16_i32_1576
  let c32_i32_1577 : BitVec 32 := 32#32
  let c0_i32_1578 : BitVec 32 := 0#32
  let v2392 : BitVec 1 := Scalar.cmpi .eq c32_i32_1577 c0_i32_1578
  let c1_i32_1579 : BitVec 32 := 1#32
  let v2393 : BitVec 32 := Scalar.select v2392 c1_i32_1579 c32_i32_1577
  let v2394 : BitVec 32 := Scalar.remsi v2391 v2393
  let c0_i32_1581 : BitVec 32 := 0#32
  let v2396 : BitVec 1 := Scalar.cmpi .slt v2394 c0_i32_1581
  let c0_i32_1582 : BitVec 32 := 0#32
  let v2397 : BitVec 1 := Scalar.cmpi .slt v2393 c0_i32_1582
  let v2398 : BitVec 1 := Scalar.xori v2396 v2397
  let c0_i32_1580 : BitVec 32 := 0#32
  let v2395 : BitVec 1 := Scalar.cmpi .ne v2394 c0_i32_1580
  let v2399 : BitVec 1 := Scalar.andi v2398 v2395
  let v2400 : BitVec 32 := Scalar.addi v2394 v2393
  let v2401 : BitVec 32 := Scalar.select v2399 v2400 v2394
  let c1_i32_1584 : BitVec 32 := 1#32
  let v2402 : BitVec 32 := Scalar.muli v2401 c1_i32_1584
  let v2403 : BitVec 32 := Scalar.addi c0_i32_1585 v2402
  v2403.toNat
def k0_dev79 (d0 : Dev nD) : Nat :=
  let c0_i32_1599 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1590 : BitVec 32 := 17#32
  let v2412 : BitVec 32 := Scalar.addi v2 c17_i32_1590
  let c32_i32_1591 : BitVec 32 := 32#32
  let c0_i32_1592 : BitVec 32 := 0#32
  let v2413 : BitVec 1 := Scalar.cmpi .eq c32_i32_1591 c0_i32_1592
  let c1_i32_1593 : BitVec 32 := 1#32
  let v2414 : BitVec 32 := Scalar.select v2413 c1_i32_1593 c32_i32_1591
  let v2415 : BitVec 32 := Scalar.remsi v2412 v2414
  let c0_i32_1595 : BitVec 32 := 0#32
  let v2417 : BitVec 1 := Scalar.cmpi .slt v2415 c0_i32_1595
  let c0_i32_1596 : BitVec 32 := 0#32
  let v2418 : BitVec 1 := Scalar.cmpi .slt v2414 c0_i32_1596
  let v2419 : BitVec 1 := Scalar.xori v2417 v2418
  let c0_i32_1594 : BitVec 32 := 0#32
  let v2416 : BitVec 1 := Scalar.cmpi .ne v2415 c0_i32_1594
  let v2420 : BitVec 1 := Scalar.andi v2419 v2416
  let v2421 : BitVec 32 := Scalar.addi v2415 v2414
  let v2422 : BitVec 32 := Scalar.select v2420 v2421 v2415
  let c1_i32_1598 : BitVec 32 := 1#32
  let v2423 : BitVec 32 := Scalar.muli v2422 c1_i32_1598
  let v2424 : BitVec 32 := Scalar.addi c0_i32_1599 v2423
  v2424.toNat
def k0_dev80 (d0 : Dev nD) : Nat :=
  let c0_i32_1613 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1604 : BitVec 32 := 18#32
  let v2433 : BitVec 32 := Scalar.addi v2 c18_i32_1604
  let c32_i32_1605 : BitVec 32 := 32#32
  let c0_i32_1606 : BitVec 32 := 0#32
  let v2434 : BitVec 1 := Scalar.cmpi .eq c32_i32_1605 c0_i32_1606
  let c1_i32_1607 : BitVec 32 := 1#32
  let v2435 : BitVec 32 := Scalar.select v2434 c1_i32_1607 c32_i32_1605
  let v2436 : BitVec 32 := Scalar.remsi v2433 v2435
  let c0_i32_1609 : BitVec 32 := 0#32
  let v2438 : BitVec 1 := Scalar.cmpi .slt v2436 c0_i32_1609
  let c0_i32_1610 : BitVec 32 := 0#32
  let v2439 : BitVec 1 := Scalar.cmpi .slt v2435 c0_i32_1610
  let v2440 : BitVec 1 := Scalar.xori v2438 v2439
  let c0_i32_1608 : BitVec 32 := 0#32
  let v2437 : BitVec 1 := Scalar.cmpi .ne v2436 c0_i32_1608
  let v2441 : BitVec 1 := Scalar.andi v2440 v2437
  let v2442 : BitVec 32 := Scalar.addi v2436 v2435
  let v2443 : BitVec 32 := Scalar.select v2441 v2442 v2436
  let c1_i32_1612 : BitVec 32 := 1#32
  let v2444 : BitVec 32 := Scalar.muli v2443 c1_i32_1612
  let v2445 : BitVec 32 := Scalar.addi c0_i32_1613 v2444
  v2445.toNat
def k0_dev81 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1618 : BitVec 32 := 19#32
  let v2454 : BitVec 32 := Scalar.addi v2 c19_i32_1618
  let c32_i32_1619 : BitVec 32 := 32#32
  let c0_i32_1620 : BitVec 32 := 0#32
  let v2455 : BitVec 1 := Scalar.cmpi .eq c32_i32_1619 c0_i32_1620
  let c1_i32_1621 : BitVec 32 := 1#32
  let v2456 : BitVec 32 := Scalar.select v2455 c1_i32_1621 c32_i32_1619
  let v2457 : BitVec 32 := Scalar.remsi v2454 v2456
  let c0_i32_1623 : BitVec 32 := 0#32
  let v2459 : BitVec 1 := Scalar.cmpi .slt v2457 c0_i32_1623
  let c0_i32_1624 : BitVec 32 := 0#32
  let v2460 : BitVec 1 := Scalar.cmpi .slt v2456 c0_i32_1624
  let v2461 : BitVec 1 := Scalar.xori v2459 v2460
  let c0_i32_1622 : BitVec 32 := 0#32
  let v2458 : BitVec 1 := Scalar.cmpi .ne v2457 c0_i32_1622
  let v2462 : BitVec 1 := Scalar.andi v2461 v2458
  let v2463 : BitVec 32 := Scalar.addi v2457 v2456
  let v2464 : BitVec 32 := Scalar.select v2462 v2463 v2457
  let c1_i32_1626 : BitVec 32 := 1#32
  let v2465 : BitVec 32 := Scalar.muli v2464 c1_i32_1626
  let v2466 : BitVec 32 := Scalar.addi c0_i32_1627 v2465
  v2466.toNat
def k0_dev82 (d0 : Dev nD) : Nat :=
  let c0_i32_1641 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1632 : BitVec 32 := 20#32
  let v2475 : BitVec 32 := Scalar.addi v2 c20_i32_1632
  let c32_i32_1633 : BitVec 32 := 32#32
  let c0_i32_1634 : BitVec 32 := 0#32
  let v2476 : BitVec 1 := Scalar.cmpi .eq c32_i32_1633 c0_i32_1634
  let c1_i32_1635 : BitVec 32 := 1#32
  let v2477 : BitVec 32 := Scalar.select v2476 c1_i32_1635 c32_i32_1633
  let v2478 : BitVec 32 := Scalar.remsi v2475 v2477
  let c0_i32_1637 : BitVec 32 := 0#32
  let v2480 : BitVec 1 := Scalar.cmpi .slt v2478 c0_i32_1637
  let c0_i32_1638 : BitVec 32 := 0#32
  let v2481 : BitVec 1 := Scalar.cmpi .slt v2477 c0_i32_1638
  let v2482 : BitVec 1 := Scalar.xori v2480 v2481
  let c0_i32_1636 : BitVec 32 := 0#32
  let v2479 : BitVec 1 := Scalar.cmpi .ne v2478 c0_i32_1636
  let v2483 : BitVec 1 := Scalar.andi v2482 v2479
  let v2484 : BitVec 32 := Scalar.addi v2478 v2477
  let v2485 : BitVec 32 := Scalar.select v2483 v2484 v2478
  let c1_i32_1640 : BitVec 32 := 1#32
  let v2486 : BitVec 32 := Scalar.muli v2485 c1_i32_1640
  let v2487 : BitVec 32 := Scalar.addi c0_i32_1641 v2486
  v2487.toNat
def k0_dev83 (d0 : Dev nD) : Nat :=
  let c0_i32_1655 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1646 : BitVec 32 := 21#32
  let v2496 : BitVec 32 := Scalar.addi v2 c21_i32_1646
  let c32_i32_1647 : BitVec 32 := 32#32
  let c0_i32_1648 : BitVec 32 := 0#32
  let v2497 : BitVec 1 := Scalar.cmpi .eq c32_i32_1647 c0_i32_1648
  let c1_i32_1649 : BitVec 32 := 1#32
  let v2498 : BitVec 32 := Scalar.select v2497 c1_i32_1649 c32_i32_1647
  let v2499 : BitVec 32 := Scalar.remsi v2496 v2498
  let c0_i32_1651 : BitVec 32 := 0#32
  let v2501 : BitVec 1 := Scalar.cmpi .slt v2499 c0_i32_1651
  let c0_i32_1652 : BitVec 32 := 0#32
  let v2502 : BitVec 1 := Scalar.cmpi .slt v2498 c0_i32_1652
  let v2503 : BitVec 1 := Scalar.xori v2501 v2502
  let c0_i32_1650 : BitVec 32 := 0#32
  let v2500 : BitVec 1 := Scalar.cmpi .ne v2499 c0_i32_1650
  let v2504 : BitVec 1 := Scalar.andi v2503 v2500
  let v2505 : BitVec 32 := Scalar.addi v2499 v2498
  let v2506 : BitVec 32 := Scalar.select v2504 v2505 v2499
  let c1_i32_1654 : BitVec 32 := 1#32
  let v2507 : BitVec 32 := Scalar.muli v2506 c1_i32_1654
  let v2508 : BitVec 32 := Scalar.addi c0_i32_1655 v2507
  v2508.toNat
def k0_dev84 (d0 : Dev nD) : Nat :=
  let c0_i32_1669 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1660 : BitVec 32 := 22#32
  let v2517 : BitVec 32 := Scalar.addi v2 c22_i32_1660
  let c32_i32_1661 : BitVec 32 := 32#32
  let c0_i32_1662 : BitVec 32 := 0#32
  let v2518 : BitVec 1 := Scalar.cmpi .eq c32_i32_1661 c0_i32_1662
  let c1_i32_1663 : BitVec 32 := 1#32
  let v2519 : BitVec 32 := Scalar.select v2518 c1_i32_1663 c32_i32_1661
  let v2520 : BitVec 32 := Scalar.remsi v2517 v2519
  let c0_i32_1665 : BitVec 32 := 0#32
  let v2522 : BitVec 1 := Scalar.cmpi .slt v2520 c0_i32_1665
  let c0_i32_1666 : BitVec 32 := 0#32
  let v2523 : BitVec 1 := Scalar.cmpi .slt v2519 c0_i32_1666
  let v2524 : BitVec 1 := Scalar.xori v2522 v2523
  let c0_i32_1664 : BitVec 32 := 0#32
  let v2521 : BitVec 1 := Scalar.cmpi .ne v2520 c0_i32_1664
  let v2525 : BitVec 1 := Scalar.andi v2524 v2521
  let v2526 : BitVec 32 := Scalar.addi v2520 v2519
  let v2527 : BitVec 32 := Scalar.select v2525 v2526 v2520
  let c1_i32_1668 : BitVec 32 := 1#32
  let v2528 : BitVec 32 := Scalar.muli v2527 c1_i32_1668
  let v2529 : BitVec 32 := Scalar.addi c0_i32_1669 v2528
  v2529.toNat
def k0_dev85 (d0 : Dev nD) : Nat :=
  let c0_i32_1683 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1674 : BitVec 32 := 23#32
  let v2538 : BitVec 32 := Scalar.addi v2 c23_i32_1674
  let c32_i32_1675 : BitVec 32 := 32#32
  let c0_i32_1676 : BitVec 32 := 0#32
  let v2539 : BitVec 1 := Scalar.cmpi .eq c32_i32_1675 c0_i32_1676
  let c1_i32_1677 : BitVec 32 := 1#32
  let v2540 : BitVec 32 := Scalar.select v2539 c1_i32_1677 c32_i32_1675
  let v2541 : BitVec 32 := Scalar.remsi v2538 v2540
  let c0_i32_1679 : BitVec 32 := 0#32
  let v2543 : BitVec 1 := Scalar.cmpi .slt v2541 c0_i32_1679
  let c0_i32_1680 : BitVec 32 := 0#32
  let v2544 : BitVec 1 := Scalar.cmpi .slt v2540 c0_i32_1680
  let v2545 : BitVec 1 := Scalar.xori v2543 v2544
  let c0_i32_1678 : BitVec 32 := 0#32
  let v2542 : BitVec 1 := Scalar.cmpi .ne v2541 c0_i32_1678
  let v2546 : BitVec 1 := Scalar.andi v2545 v2542
  let v2547 : BitVec 32 := Scalar.addi v2541 v2540
  let v2548 : BitVec 32 := Scalar.select v2546 v2547 v2541
  let c1_i32_1682 : BitVec 32 := 1#32
  let v2549 : BitVec 32 := Scalar.muli v2548 c1_i32_1682
  let v2550 : BitVec 32 := Scalar.addi c0_i32_1683 v2549
  v2550.toNat
def k0_dev86 (d0 : Dev nD) : Nat :=
  let c0_i32_1697 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1688 : BitVec 32 := 24#32
  let v2559 : BitVec 32 := Scalar.addi v2 c24_i32_1688
  let c32_i32_1689 : BitVec 32 := 32#32
  let c0_i32_1690 : BitVec 32 := 0#32
  let v2560 : BitVec 1 := Scalar.cmpi .eq c32_i32_1689 c0_i32_1690
  let c1_i32_1691 : BitVec 32 := 1#32
  let v2561 : BitVec 32 := Scalar.select v2560 c1_i32_1691 c32_i32_1689
  let v2562 : BitVec 32 := Scalar.remsi v2559 v2561
  let c0_i32_1693 : BitVec 32 := 0#32
  let v2564 : BitVec 1 := Scalar.cmpi .slt v2562 c0_i32_1693
  let c0_i32_1694 : BitVec 32 := 0#32
  let v2565 : BitVec 1 := Scalar.cmpi .slt v2561 c0_i32_1694
  let v2566 : BitVec 1 := Scalar.xori v2564 v2565
  let c0_i32_1692 : BitVec 32 := 0#32
  let v2563 : BitVec 1 := Scalar.cmpi .ne v2562 c0_i32_1692
  let v2567 : BitVec 1 := Scalar.andi v2566 v2563
  let v2568 : BitVec 32 := Scalar.addi v2562 v2561
  let v2569 : BitVec 32 := Scalar.select v2567 v2568 v2562
  let c1_i32_1696 : BitVec 32 := 1#32
  let v2570 : BitVec 32 := Scalar.muli v2569 c1_i32_1696
  let v2571 : BitVec 32 := Scalar.addi c0_i32_1697 v2570
  v2571.toNat
def k0_dev87 (d0 : Dev nD) : Nat :=
  let c0_i32_1711 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1702 : BitVec 32 := 25#32
  let v2580 : BitVec 32 := Scalar.addi v2 c25_i32_1702
  let c32_i32_1703 : BitVec 32 := 32#32
  let c0_i32_1704 : BitVec 32 := 0#32
  let v2581 : BitVec 1 := Scalar.cmpi .eq c32_i32_1703 c0_i32_1704
  let c1_i32_1705 : BitVec 32 := 1#32
  let v2582 : BitVec 32 := Scalar.select v2581 c1_i32_1705 c32_i32_1703
  let v2583 : BitVec 32 := Scalar.remsi v2580 v2582
  let c0_i32_1707 : BitVec 32 := 0#32
  let v2585 : BitVec 1 := Scalar.cmpi .slt v2583 c0_i32_1707
  let c0_i32_1708 : BitVec 32 := 0#32
  let v2586 : BitVec 1 := Scalar.cmpi .slt v2582 c0_i32_1708
  let v2587 : BitVec 1 := Scalar.xori v2585 v2586
  let c0_i32_1706 : BitVec 32 := 0#32
  let v2584 : BitVec 1 := Scalar.cmpi .ne v2583 c0_i32_1706
  let v2588 : BitVec 1 := Scalar.andi v2587 v2584
  let v2589 : BitVec 32 := Scalar.addi v2583 v2582
  let v2590 : BitVec 32 := Scalar.select v2588 v2589 v2583
  let c1_i32_1710 : BitVec 32 := 1#32
  let v2591 : BitVec 32 := Scalar.muli v2590 c1_i32_1710
  let v2592 : BitVec 32 := Scalar.addi c0_i32_1711 v2591
  v2592.toNat
def k0_dev88 (d0 : Dev nD) : Nat :=
  let c0_i32_1725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1716 : BitVec 32 := 26#32
  let v2601 : BitVec 32 := Scalar.addi v2 c26_i32_1716
  let c32_i32_1717 : BitVec 32 := 32#32
  let c0_i32_1718 : BitVec 32 := 0#32
  let v2602 : BitVec 1 := Scalar.cmpi .eq c32_i32_1717 c0_i32_1718
  let c1_i32_1719 : BitVec 32 := 1#32
  let v2603 : BitVec 32 := Scalar.select v2602 c1_i32_1719 c32_i32_1717
  let v2604 : BitVec 32 := Scalar.remsi v2601 v2603
  let c0_i32_1721 : BitVec 32 := 0#32
  let v2606 : BitVec 1 := Scalar.cmpi .slt v2604 c0_i32_1721
  let c0_i32_1722 : BitVec 32 := 0#32
  let v2607 : BitVec 1 := Scalar.cmpi .slt v2603 c0_i32_1722
  let v2608 : BitVec 1 := Scalar.xori v2606 v2607
  let c0_i32_1720 : BitVec 32 := 0#32
  let v2605 : BitVec 1 := Scalar.cmpi .ne v2604 c0_i32_1720
  let v2609 : BitVec 1 := Scalar.andi v2608 v2605
  let v2610 : BitVec 32 := Scalar.addi v2604 v2603
  let v2611 : BitVec 32 := Scalar.select v2609 v2610 v2604
  let c1_i32_1724 : BitVec 32 := 1#32
  let v2612 : BitVec 32 := Scalar.muli v2611 c1_i32_1724
  let v2613 : BitVec 32 := Scalar.addi c0_i32_1725 v2612
  v2613.toNat
def k0_dev89 (d0 : Dev nD) : Nat :=
  let c0_i32_1739 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1730 : BitVec 32 := 27#32
  let v2622 : BitVec 32 := Scalar.addi v2 c27_i32_1730
  let c32_i32_1731 : BitVec 32 := 32#32
  let c0_i32_1732 : BitVec 32 := 0#32
  let v2623 : BitVec 1 := Scalar.cmpi .eq c32_i32_1731 c0_i32_1732
  let c1_i32_1733 : BitVec 32 := 1#32
  let v2624 : BitVec 32 := Scalar.select v2623 c1_i32_1733 c32_i32_1731
  let v2625 : BitVec 32 := Scalar.remsi v2622 v2624
  let c0_i32_1735 : BitVec 32 := 0#32
  let v2627 : BitVec 1 := Scalar.cmpi .slt v2625 c0_i32_1735
  let c0_i32_1736 : BitVec 32 := 0#32
  let v2628 : BitVec 1 := Scalar.cmpi .slt v2624 c0_i32_1736
  let v2629 : BitVec 1 := Scalar.xori v2627 v2628
  let c0_i32_1734 : BitVec 32 := 0#32
  let v2626 : BitVec 1 := Scalar.cmpi .ne v2625 c0_i32_1734
  let v2630 : BitVec 1 := Scalar.andi v2629 v2626
  let v2631 : BitVec 32 := Scalar.addi v2625 v2624
  let v2632 : BitVec 32 := Scalar.select v2630 v2631 v2625
  let c1_i32_1738 : BitVec 32 := 1#32
  let v2633 : BitVec 32 := Scalar.muli v2632 c1_i32_1738
  let v2634 : BitVec 32 := Scalar.addi c0_i32_1739 v2633
  v2634.toNat
def k0_dev90 (d0 : Dev nD) : Nat :=
  let c0_i32_1753 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1744 : BitVec 32 := 28#32
  let v2643 : BitVec 32 := Scalar.addi v2 c28_i32_1744
  let c32_i32_1745 : BitVec 32 := 32#32
  let c0_i32_1746 : BitVec 32 := 0#32
  let v2644 : BitVec 1 := Scalar.cmpi .eq c32_i32_1745 c0_i32_1746
  let c1_i32_1747 : BitVec 32 := 1#32
  let v2645 : BitVec 32 := Scalar.select v2644 c1_i32_1747 c32_i32_1745
  let v2646 : BitVec 32 := Scalar.remsi v2643 v2645
  let c0_i32_1749 : BitVec 32 := 0#32
  let v2648 : BitVec 1 := Scalar.cmpi .slt v2646 c0_i32_1749
  let c0_i32_1750 : BitVec 32 := 0#32
  let v2649 : BitVec 1 := Scalar.cmpi .slt v2645 c0_i32_1750
  let v2650 : BitVec 1 := Scalar.xori v2648 v2649
  let c0_i32_1748 : BitVec 32 := 0#32
  let v2647 : BitVec 1 := Scalar.cmpi .ne v2646 c0_i32_1748
  let v2651 : BitVec 1 := Scalar.andi v2650 v2647
  let v2652 : BitVec 32 := Scalar.addi v2646 v2645
  let v2653 : BitVec 32 := Scalar.select v2651 v2652 v2646
  let c1_i32_1752 : BitVec 32 := 1#32
  let v2654 : BitVec 32 := Scalar.muli v2653 c1_i32_1752
  let v2655 : BitVec 32 := Scalar.addi c0_i32_1753 v2654
  v2655.toNat
def k0_dev91 (d0 : Dev nD) : Nat :=
  let c0_i32_1767 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1758 : BitVec 32 := 29#32
  let v2664 : BitVec 32 := Scalar.addi v2 c29_i32_1758
  let c32_i32_1759 : BitVec 32 := 32#32
  let c0_i32_1760 : BitVec 32 := 0#32
  let v2665 : BitVec 1 := Scalar.cmpi .eq c32_i32_1759 c0_i32_1760
  let c1_i32_1761 : BitVec 32 := 1#32
  let v2666 : BitVec 32 := Scalar.select v2665 c1_i32_1761 c32_i32_1759
  let v2667 : BitVec 32 := Scalar.remsi v2664 v2666
  let c0_i32_1763 : BitVec 32 := 0#32
  let v2669 : BitVec 1 := Scalar.cmpi .slt v2667 c0_i32_1763
  let c0_i32_1764 : BitVec 32 := 0#32
  let v2670 : BitVec 1 := Scalar.cmpi .slt v2666 c0_i32_1764
  let v2671 : BitVec 1 := Scalar.xori v2669 v2670
  let c0_i32_1762 : BitVec 32 := 0#32
  let v2668 : BitVec 1 := Scalar.cmpi .ne v2667 c0_i32_1762
  let v2672 : BitVec 1 := Scalar.andi v2671 v2668
  let v2673 : BitVec 32 := Scalar.addi v2667 v2666
  let v2674 : BitVec 32 := Scalar.select v2672 v2673 v2667
  let c1_i32_1766 : BitVec 32 := 1#32
  let v2675 : BitVec 32 := Scalar.muli v2674 c1_i32_1766
  let v2676 : BitVec 32 := Scalar.addi c0_i32_1767 v2675
  v2676.toNat
def k0_dev92 (d0 : Dev nD) : Nat :=
  let c0_i32_1781 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1772 : BitVec 32 := 30#32
  let v2685 : BitVec 32 := Scalar.addi v2 c30_i32_1772
  let c32_i32_1773 : BitVec 32 := 32#32
  let c0_i32_1774 : BitVec 32 := 0#32
  let v2686 : BitVec 1 := Scalar.cmpi .eq c32_i32_1773 c0_i32_1774
  let c1_i32_1775 : BitVec 32 := 1#32
  let v2687 : BitVec 32 := Scalar.select v2686 c1_i32_1775 c32_i32_1773
  let v2688 : BitVec 32 := Scalar.remsi v2685 v2687
  let c0_i32_1777 : BitVec 32 := 0#32
  let v2690 : BitVec 1 := Scalar.cmpi .slt v2688 c0_i32_1777
  let c0_i32_1778 : BitVec 32 := 0#32
  let v2691 : BitVec 1 := Scalar.cmpi .slt v2687 c0_i32_1778
  let v2692 : BitVec 1 := Scalar.xori v2690 v2691
  let c0_i32_1776 : BitVec 32 := 0#32
  let v2689 : BitVec 1 := Scalar.cmpi .ne v2688 c0_i32_1776
  let v2693 : BitVec 1 := Scalar.andi v2692 v2689
  let v2694 : BitVec 32 := Scalar.addi v2688 v2687
  let v2695 : BitVec 32 := Scalar.select v2693 v2694 v2688
  let c1_i32_1780 : BitVec 32 := 1#32
  let v2696 : BitVec 32 := Scalar.muli v2695 c1_i32_1780
  let v2697 : BitVec 32 := Scalar.addi c0_i32_1781 v2696
  v2697.toNat
def k0_dev93 (d0 : Dev nD) : Nat :=
  let c0_i32_1795 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1786 : BitVec 32 := 31#32
  let v2706 : BitVec 32 := Scalar.addi v2 c31_i32_1786
  let c32_i32_1787 : BitVec 32 := 32#32
  let c0_i32_1788 : BitVec 32 := 0#32
  let v2707 : BitVec 1 := Scalar.cmpi .eq c32_i32_1787 c0_i32_1788
  let c1_i32_1789 : BitVec 32 := 1#32
  let v2708 : BitVec 32 := Scalar.select v2707 c1_i32_1789 c32_i32_1787
  let v2709 : BitVec 32 := Scalar.remsi v2706 v2708
  let c0_i32_1791 : BitVec 32 := 0#32
  let v2711 : BitVec 1 := Scalar.cmpi .slt v2709 c0_i32_1791
  let c0_i32_1792 : BitVec 32 := 0#32
  let v2712 : BitVec 1 := Scalar.cmpi .slt v2708 c0_i32_1792
  let v2713 : BitVec 1 := Scalar.xori v2711 v2712
  let c0_i32_1790 : BitVec 32 := 0#32
  let v2710 : BitVec 1 := Scalar.cmpi .ne v2709 c0_i32_1790
  let v2714 : BitVec 1 := Scalar.andi v2713 v2710
  let v2715 : BitVec 32 := Scalar.addi v2709 v2708
  let v2716 : BitVec 32 := Scalar.select v2714 v2715 v2709
  let c1_i32_1794 : BitVec 32 := 1#32
  let v2717 : BitVec 32 := Scalar.muli v2716 c1_i32_1794
  let v2718 : BitVec 32 := Scalar.addi c0_i32_1795 v2717
  v2718.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x128x128x128, .f32⟩
  | .hbm, ⟨19, _⟩ => ⟨S_, .f32⟩
  | .hbm, ⟨20, _⟩ => ⟨S2x128x128x128, .f32⟩
  | .hbm, ⟨21, _⟩ => ⟨S2x128x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x128x128x128, .i1⟩
  | .hbm, ⟨26, _⟩ => ⟨S2x128x128x128, .f32⟩
  | .hbm, ⟨27, _⟩ => ⟨S2x128x128x128, .f32⟩
  | .hbm, ⟨28, _⟩ => ⟨S_, .f32⟩
  | .hbm, ⟨29, _⟩ => ⟨S2x128x128, .f32⟩
  | .hbm, ⟨30, _⟩ => ⟨S2x128x128x1, .f32⟩
  | .hbm, ⟨31, _⟩ => ⟨S2x128x128x128, .f32⟩
  | .hbm, ⟨32, _⟩ => ⟨S2x128x128x128, .f32⟩
  | .hbm, ⟨33, _⟩ => ⟨S2x128x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x128x128, .f32⟩
  | .hbm, ⟨39, _⟩ => ⟨S2x128x128x1, .f32⟩
  | .hbm, ⟨40, _⟩ => ⟨S_, .f32⟩
  | .hbm, ⟨41, _⟩ => ⟨S_, .f32⟩
  | .hbm, ⟨42, _⟩ => ⟨S2x128x128x1, .i1⟩
  | .hbm, ⟨43, _⟩ => ⟨S2x128x128x1, .f32⟩
  | .hbm, ⟨44, _⟩ => ⟨S2x128x128x1, .f32⟩
  | .hbm, ⟨45, _⟩ => ⟨S2x128x128x128, .f32⟩
  | .hbm, ⟨46, _⟩ => ⟨S2x128x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x128x128x128, .i1⟩
  | .hbm, ⟨51, _⟩ => ⟨S2x128x128x128, .f32⟩
  | .hbm, ⟨52, _⟩ => ⟨S2x128x128x128, .f32⟩
  | .hbm, ⟨53, _⟩ => ⟨S2x128x64x128, .f32⟩
  | .hbm, ⟨54, _⟩ => ⟨S2x128x128x64, .f32⟩
  | .hbm, ⟨55, _⟩ => ⟨S2x128x8192, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.Shape.lean ====
/- The kernel's body as a structured program: the head (attention of the device's four heads and the
   output projection) and then seven loops over the thirty-one peers — the barrier's signals, the
   sends and the landings of the first exchange, the sends and the landings of the second, and the
   two drains of the send semaphores. Each loop is written by recursion on the list of peer offsets,
   in continuation-passing style, so that a step is verified ONCE at a symbolic offset. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 65536

noncomputable section

namespace Cert.KernelIdeal.AllRed

open Idealize.ShloMosaic Idealize.ShloMosaic.TcCoe
open Idealize.SL Idealize.SL.Sem
open Cert.KernelIdeal.Gen

variable {F : FTy → Type} [FloatOps F]

/-- The program text of one thread. -/
abbrev P0 (F : FTy → Type) [FloatOps F] := Prog (TpuEff nD τ sig (Elt F) Λ₀ .tc) PUnit

/-! ## The scratch buffers -/

abbrev kM : Memref sig .tc .vmem S2x128x4x64 .f32 := Memref.whole cc0_scratch0
abbrev vM : Memref sig .tc .vmem S2x128x4x64 .f32 := Memref.whole cc0_scratch1
abbrev cM : Memref sig .tc .vmem S256x256 .f32 := Memref.whole cc0_scratch2
abbrev pM : Memref sig .tc .vmem S32x8x512 .bf16 := Memref.whole cc0_scratch3
abbrev rM : Memref sig .tc .vmem S32x8x512 .bf16 := Memref.whole cc0_scratch4
abbrev gM : Memref sig .tc .vmem S32x8x512 .bf16 := Memref.whole cc0_scratch5
abbrev kH : Memref sig .tc .hbm S2x128x128x64 .f32 := Memref.whole main_arg2
abbrev vH : Memref sig .tc .hbm S2x128x128x64 .f32 := Memref.whole main_arg3

/-! ## Offsets, peers, slots -/

/-- The offset of the `i`-th peer as the kernel writes it: `1` to `31`. -/
abbrev offw (i : Fin 31) : BitVec 32 := BitVec.ofNat 32 (1 + i.val)

/-- The word of the device a kernel at `d0` addresses at offset `w`, as it computes it:
    `(d0 + w) mod 32`, with the floor correction. -/
def peerW (d0 : Dev nD) (w : BitVec 32) : Nat :=
  let v2 : BitVec 32 := Scalar.remsi (Scalar.divsi (Dev.word d0) 1#32) 32#32
  let s : BitVec 32 := Scalar.addi v2 w
  let m : BitVec 32 := Scalar.select (Scalar.cmpi .eq 32#32 0#32) 1#32 32#32
  let r : BitVec 32 := Scalar.remsi s m
  let ne : BitVec 1 := Scalar.cmpi .ne r 0#32
  let sr : BitVec 1 := Scalar.cmpi .slt r 0#32
  let sm : BitVec 1 := Scalar.cmpi .slt m 0#32
  let q : BitVec 32 := Scalar.select (Scalar.andi (Scalar.xori sr sm) ne) (Scalar.addi r m) r
  (Scalar.addi 0#32 (Scalar.muli q 1#32)).toNat

theorem peerW_lt : ∀ (d0 : Dev nD) (i : Fin 31), peerW d0 (offw i) < nD := by decide +kernel

/-- The device a kernel at `d0` addresses at the `i`-th offset. -/
def peerD (d0 : Dev nD) (i : Fin 31) : Dev nD := ⟨peerW d0 (offw i), peerW_lt d0 i⟩

/-- The peer offsets in program order. -/
def offs : List (Fin 31) :=
  [0, 1, 2, 3, 4, 5, 6, 7, 8, 9, 10, 11, 12, 13, 14, 15, 16, 17, 18, 19, 20, 21, 22, 23, 24, 25, 26,
    27, 28, 29, 30]

/-- One chunk of a communication buffer, as a reference of its own. -/
abbrev chunk (M : Memref sig .tc .vmem S32x8x512 .bf16) (off : Fin 3 → Nat)
    (h : ∀ a, off a + S1x8x512.size a ≤ S32x8x512.size a) : Memref sig .tc .vmem S8x512 .bf16 :=
  (M.slice (Rect.unit (s := S32x8x512) off S1x8x512.size h) (fun _ => rfl)).squeeze S8x512
    squeezes_S1x8x512_S8x512

/-- One semaphore of an array of thirty-one, and of one of thirty-two. -/
abbrev sem31 (A : DmaSems sig S31) (off : Fin 1 → Nat) (h : ∀ a, off a + S1.size a ≤ S31.size a) :
    DmaSem sig :=
  ((A.slice (Rect.unit (s := S31) off S1.size h)).squeeze S_ squeezes_S1_S_).sem
abbrev sem32 (A : DmaSems sig S32) (off : Fin 1 → Nat) (h : ∀ a, off a + S1.size a ≤ S32.size a) :
    DmaSem sig :=
  ((A.slice (Rect.unit (s := S32) off S1.size h)).squeeze S_ squeezes_S1_S_).sem
abbrev sem2 (A : DmaSems sig S2) (off : Fin 1 → Nat) (h : ∀ a, off a + S1.size a ≤ S2.size a) :
    DmaSem sig :=
  ((A.slice (Rect.unit (s := S2) off S1.size h)).squeeze S_ squeezes_S1_S_).sem

theorem inb31 : ∀ (i : Fin 31), ∀ a, (![i.val] : Fin 1 → Nat) a + S1.size a ≤ S31.size a := by
  decide +kernel

/-- The barrier's semaphore. -/
abbrev barS : Sem sig := (SemArray.scalar (sig.barrier 0 rfl) : Sems sig S_).sem

/-! ## The loops -/

/-- A loop over peer offsets whose steps pass nothing on. -/
def loopK (step : Fin 31 → P0 F → P0 F) : List (Fin 31) → P0 F → P0 F
  | [], K => K
  | i :: l, K => step i (loopK step l K)

/-- Tell the `i`-th peer that this device is ready. -/
def signalK (d0 : Dev nD) (i : Fin 31) (K : P0 F) : P0 F :=
  .op (.semSignal (peerD d0 i, .tc) barS (1#32 : BitVec 32).toInt) fun _ => K

/-- First exchange: send the `i`-th peer its chunk of this device's partial product. -/
def send1K (d0 : Dev nD) (i : Fin 31) (K : P0 F) : P0 F :=
  .op (.enqueueDma (chunk pM (k0_off4 d0 (offw i)) (k0_off4_inb d0 i))
    (.remote (Dev.tc (peerD d0 i)) (chunk rM (k0_off3 d0) (k0_off3_inb d0))
      (.dma (sem31 cc0_scratch7 ![i.val] (inb31 i))))
    (.dma (sem32 cc0_scratch8 (k0_off2 d0) (k0_off2_inb d0)))
    (((Memref.isWhole_whole _).wordExact_slice rfl _ (k0_off4_wordsbf16 d0 i)).reshape _ _)
    (((Memref.isWhole_whole _).wordExact_slice rfl _ (k0_off3_wordsbf16 d0)).reshape _ _)
    ⟨⟨rfl, Or.inl rfl⟩, trivial⟩) fun _ => K

/-- A chunk as floats of the accumulator's type. -/
def asAcc (v : Vec F S1x8x512 .bf16) : FVec F S8x512 .f32 :=
  extf .f32 (shapeCast S8x512 v shapeCasts_S1x8x512_S8x512) bitsLt_bf16_f32

/-- First exchange: wait for each peer's chunk and add it to the accumulator. -/
def recv1K (d0 : Dev nD) : List (Fin 31) → FVec F S8x512 .f32 → (FVec F S8x512 .f32 → P0 F) → P0 F
  | [], acc, K => K acc
  | i :: l, acc, K =>
    .op (.waitDma2 (sem32 cc0_scratch8 (k0_off6 d0 (offw i)) (k0_off6_inb d0 i))
      (chunk pM ![0, 0, 0] inb_S32x8x512_S1x8x512_0_0_0)
      (chunk rM (k0_off7 d0 (offw i)) (k0_off7_inb d0 i))
      (((Memref.isWhole_whole _).wordExact_slice rfl _ wordsbf16_S32x8x512_S1x8x512_0_0_0).reshape _ _)
      (((Memref.isWhole_whole _).wordExact_slice rfl _ (k0_off7_wordsbf16 d0 i)).reshape _ _)) fun _ =>
    .op (.load rM (Rect.unit (s := S32x8x512) (k0_off8 d0 (offw i)) S1x8x512.size
      (k0_off8_inb d0 i)).toLoadRect (View.loadsAt_vmem h_S1x8x512)) fun v =>
    recv1K d0 l (addf acc (asAcc v)) K

/-- Second exchange: send this device's reduced chunk to the `i`-th peer. -/
def send2K (d0 : Dev nD) (i : Fin 31) (K : P0 F) : P0 F :=
  .op (.enqueueDma (chunk gM (k0_off3 d0) (k0_off3_inb d0))
    (.remote (Dev.tc (peerD d0 i)) (chunk gM (k0_off3 d0) (k0_off3_inb d0))
      (.dma (sem31 cc0_scratch9 ![i.val] (inb31 i))))
    (.dma (sem32 cc0_scratch10 (k0_off2 d0) (k0_off2_inb d0)))
    (((Memref.isWhole_whole _).wordExact_slice rfl _ (k0_off3_wordsbf16 d0)).reshape _ _)
    (((Memref.isWhole_whole _).wordExact_slice rfl _ (k0_off3_wordsbf16 d0)).reshape _ _)
    ⟨⟨rfl, Or.inl rfl⟩, trivial⟩) fun _ => K

/-- Second exchange: wait for a peer's reduced chunk. -/
def recv2K (d0 : Dev nD) (i : Fin 31) (K : P0 F) : P0 F :=
  .op (.waitDma2 (sem32 cc0_scratch10 (k0_off6 d0 (offw i)) (k0_off6_inb d0 i))
    (chunk gM ![0, 0, 0] inb_S32x8x512_S1x8x512_0_0_0)
    (chunk gM (k0_off7 d0 (offw i)) (k0_off7_inb d0 i))
    (((Memref.isWhole_whole _).wordExact_slice rfl _ wordsbf16_S32x8x512_S1x8x512_0_0_0).reshape _ _)
    (((Memref.isWhole_whole _).wordExact_slice rfl _ (k0_off7_wordsbf16 d0 i)).reshape _ _)) fun _ => K

/-- Drain the first exchange's `i`-th send. -/
def drain1K (d0 : Dev nD) (i : Fin 31) (K : P0 F) : P0 F :=
  .op (.waitDma2 (sem31 cc0_scratch7 ![i.val] (inb31 i))
    (chunk rM (k0_off3 d0) (k0_off3_inb d0))
    (chunk pM (k0_off4 d0 (offw i)) (k0_off4_inb d0 i))
    (((Memref.isWhole_whole _).wordExact_slice rfl _ (k0_off3_wordsbf16 d0)).reshape _ _)
    (((Memref.isWhole_whole _).wordExact_slice rfl _ (k0_off4_wordsbf16 d0 i)).reshape _ _)) fun _ => K

/-- Drain the second exchange's `i`-th send. -/
def drain2K (d0 : Dev nD) (i : Fin 31) (K : P0 F) : P0 F :=
  .op (.waitDma2 (sem31 cc0_scratch9 ![i.val] (inb31 i))
    (chunk gM (k0_off3 d0) (k0_off3_inb d0))
    (chunk gM (k0_off3 d0) (k0_off3_inb d0))
    (((Memref.isWhole_whole _).wordExact_slice rfl _ (k0_off3_wordsbf16 d0)).reshape _ _)
    (((Memref.isWhole_whole _).wordExact_slice rfl _ (k0_off3_wordsbf16 d0)).reshape _ _)) fun _ => K

/-! ## The stretches between them -/

/-- The local copies of this device's keys and values, and the reading of the activations and of the
    query weights while they are in flight. -/
def fetchK (d0 : Dev nD) (x : Memref sig .tc .vmem S2x128x512 .f32)
    (wq : Memref sig .tc .vmem S512x256 .f32)
    (K : Vec F S2x128x512 .f32 → Vec F S512x256 .f32 → Vec F S2x128x4x64 .f32 →
      Vec F S2x128x4x64 .f32 → P0 F) : P0 F :=
  .op (.enqueueDma (kH.slice (Rect.unit (s := S2x128x128x64) (k0_off1 d0) S2x128x4x64.size
      (k0_off1_inb d0)) (fun _ => rfl)) (.here kM) (.dma (sem2 cc0_scratch6 ![0] inb_S2_S1_0))
    (View.wordExact_bits rfl) (Memref.isWhole_whole _).wordExact ⟨Or.inl rfl, trivial⟩) fun _ =>
  .op (.enqueueDma (vH.slice (Rect.unit (s := S2x128x128x64) (k0_off1 d0) S2x128x4x64.size
      (k0_off1_inb d0)) (fun _ => rfl)) (.here vM) (.dma (sem2 cc0_scratch6 ![1] inb_S2_S1_1))
    (View.wordExact_bits rfl) (Memref.isWhole_whole _).wordExact ⟨Or.inl rfl, trivial⟩) fun _ =>
  .op (.load x (Rect.unit (s := S2x128x512) ![0, 0, 0] S2x128x512.size
    inb_S2x128x512_S2x128x512_0_0_0).toLoadRect (View.loadsAt_vmem h_S2x128x512)) fun xv =>
  .op (.load wq (Rect.unit (s := S512x256) ![0, 0] S512x256.size
    inb_S512x256_S512x256_0_0).toLoadRect (View.loadsAt_vmem h_S512x256)) fun wv =>
  .op (.waitDma2 (sem2 cc0_scratch6 ![0] inb_S2_S1_0)
    (kH.slice (Rect.unit (s := S2x128x128x64) (k0_off1 d0) S2x128x4x64.size
      (k0_off1_inb d0)) (fun _ => rfl)) kM
    (View.wordExact_bits rfl) (Memref.isWhole_whole _).wordExact) fun _ =>
  .op (.waitDma2 (sem2 cc0_scratch6 ![1] inb_S2_S1_1)
    (vH.slice (Rect.unit (s := S2x128x128x64) (k0_off1 d0) S2x128x4x64.size
      (k0_off1_inb d0)) (fun _ => rfl)) vM
    (View.wordExact_bits rfl) (Memref.isWhole_whole _).wordExact) fun _ =>
  .op (.load kM (Rect.unit (s := S2x128x4x64) ![0, 0, 0, 0] S2x128x4x64.size
    inb_S2x128x4x64_S2x128x4x64_0_0_0_0).toLoadRect (View.loadsAt_vmem h_S2x128x4x64)) fun k =>
  .op (.load vM (Rect.unit (s := S2x128x4x64) ![0, 0, 0, 0] S2x128x4x64.size
    inb_S2x128x4x64_S2x128x4x64_0_0_0_0).toLoadRect (View.loadsAt_vmem h_S2x128x4x64)) fun v =>
  K xv wv k v

/-- Write one head's context into its window of the context buffer (the window is read first and
    the value read is not used). -/
def putHead (off : Fin 2 → Nat) (h : ∀ a, off a + S128x64.size a ≤ S256x256.size a)
    (w : FVec F S128x64 .f32) (K : P0 F) : P0 F :=
  .op (.load cM (Rect.unit (s := S256x256) off S128x64.size h).toLoadRect
    (View.loadsAt_vmem h_S128x64)) fun _ =>
  .op (.store cM (Rect.unit (s := S256x256) off S128x64.size h) w Finset.univ
    (View.stores_vmem_bits_univ h_S128x64 rfl) (.inl rfl)) fun _ => K

/-- The eight contexts of this device: two batches of four heads. -/
def headsK (q : FVec F S256x256 .f32) (k v : Vec F S2x128x4x64 .f32) (K : P0 F) : P0 F :=
  putHead ![0, 0] inb_S256x256_S128x64_0_0 (k0_pay2 q k v) <|
  putHead ![0, 64] inb_S256x256_S128x64_0_64 (k0_pay5 (k0_pay3 q k) (k0_pay4 v)) <|
  putHead ![0, 128] inb_S256x256_S128x64_0_128 (k0_pay6 q k v) <|
  putHead ![0, 192] inb_S256x256_S128x64_0_192 (k0_pay8 v (k0_pay7 q k)) <|
  putHead ![128, 0] inb_S256x256_S128x64_128_0 (k0_pay9 q k v) <|
  putHead ![128, 64] inb_S256x256_S128x64_128_64 (k0_pay11 v (k0_pay10 q k)) <|
  putHead ![128, 128] inb_S256x256_S128x64_128_128 (k0_pay12 q k v) <|
  putHead ![128, 192] inb_S256x256_S128x64_128_192 (k0_pay15 v (k0_pay13 q) (k0_pay14 k)) <|
  K

/-- The output projection of the contexts, chunked, into the partial-product buffer. -/
def projK (wo : Memref sig .tc .vmem S256x512 .f32) (K : P0 F) : P0 F :=
  .op (.load cM (Rect.unit (s := S256x256) ![0, 0] S256x256.size
    inb_S256x256_S256x256_0_0).toLoadRect (View.loadsAt_vmem h_S256x256)) fun cv =>
  .op (.load wo (Rect.unit (s := S256x512) ![0, 0] S256x512.size
    inb_S256x512_S256x512_0_0).toLoadRect (View.loadsAt_vmem h_S256x512)) fun wv =>
  .op (.load pM (Rect.unit (s := S32x8x512) ![0, 0, 0] S32x8x512.size
    inb_S32x8x512_S32x8x512_0_0_0).toLoadRect (View.loadsAt_vmem h_S32x8x512)) fun _ =>
  .op (.store pM (Rect.unit (s := S32x8x512) ![0, 0, 0] S32x8x512.size
    inb_S32x8x512_S32x8x512_0_0_0) (k0_pay16 cv wv) Finset.univ
    (View.stores_vmem h_S32x8x512 ((Memref.isWhole_whole _).storeExact_slice rfl _
      packedbf16_S32x8x512_S32x8x512_0_0_0) (fun _ => rfl)) (.inl rfl)) fun _ => K

/-- The barrier's wait: thirty-one peers ready. -/
def barrierK (K : P0 F) : P0 F := .op (.semWait barS (31#32 : BitVec 32).toInt) fun _ => K

/-- The accumulator's start: this device's own chunk. -/
def ownK (d0 : Dev nD) (K : FVec F S8x512 .f32 → P0 F) : P0 F :=
  .op (.load pM (Rect.unit (s := S32x8x512) (k0_off5 d0) S1x8x512.size
    (k0_off5_inb d0)).toLoadRect (View.loadsAt_vmem h_S1x8x512)) fun v => K (asAcc v)

/-- The reduced chunk, narrowed, as it is put in the gather buffer. -/
def asChunk (acc : FVec F S8x512 .f32) : FVec F S1x8x512 .bf16 :=
  shapeCast S1x8x512 (truncf .bf16 acc bitsLt_bf16_f32) shapeCasts_S8x512_S1x8x512

/-- Put the reduced chunk in this device's slot of the gather buffer. -/
def putOwnK (d0 : Dev nD) (acc : FVec F S8x512 .f32) (K : P0 F) : P0 F :=
  .op (.load gM (Rect.unit (s := S32x8x512) (k0_off5 d0) S1x8x512.size
    (k0_off5_inb d0)).toLoadRect (View.loadsAt_vmem h_S1x8x512)) fun _ =>
  .op (.store gM (Rect.unit (s := S32x8x512) (k0_off5 d0) S1x8x512.size (k0_off5_inb d0))
    (asChunk acc) Finset.univ
    (View.stores_vmem h_S1x8x512 ((Memref.isWhole_whole _).storeExact_slice rfl _
      (k0_off5_packedbf16 d0)) (fun _ => rfl)) (.inl rfl)) fun _ => K

/-- Write the gathered chunks to the output. -/
def finishK (o : Memref sig .tc .vmem S2x128x512 .f32) : P0 F :=
  .op (.load gM (Rect.unit (s := S32x8x512) ![0, 0, 0] S32x8x512.size
    inb_S32x8x512_S32x8x512_0_0_0).toLoadRect (View.loadsAt_vmem h_S32x8x512)) fun g =>
  .op (.load o (Rect.unit (s := S2x128x512) ![0, 0, 0] S2x128x512.size
    inb_S2x128x512_S2x128x512_0_0_0).toLoadRect (View.loadsAt_vmem h_S2x128x512)) fun _ =>
  .op (.store o (Rect.unit (s := S2x128x512) ![0, 0, 0] S2x128x512.size
    inb_S2x128x512_S2x128x512_0_0_0) (k0_pay43 g) Finset.univ
    (View.stores_vmem_bits_univ h_S2x128x512 rfl) (.inl rfl)) fun _ => .ret ⟨⟩

/-! ## The whole body -/

/-- From the drained barrier on: both exchanges, the drains and the output. -/
def exchangeK (d0 : Dev nD) (o : Memref sig .tc .vmem S2x128x512 .f32) : P0 F :=
  loopK (send1K d0) offs <|
  ownK d0 fun a₀ =>
  recv1K d0 offs a₀ fun acc =>
  putOwnK d0 acc <|
  loopK (send2K d0) offs <|
  loopK (recv2K d0) offs <|
  loopK (drain1K d0) offs <|
  loopK (drain2K d0) offs <|
  finishK o

/-- The kernel's body over its four staged operands. -/
def shaped (x : Memref sig .tc .vmem S2x128x512 .f32) (wq : Memref sig .tc .vmem S512x256 .f32)
    (wo : Memref sig .tc .vmem S256x512 .f32) (o : Memref sig .tc .vmem S2x128x512 .f32) : P0 F :=
  .op .deviceId fun d0 =>
  fetchK d0 x wq fun xv wv k v =>
  headsK (k0_pay1 xv wv) k v <|
  projK wo <|
  loopK (signalK d0) offs <|
  barrierK <|
  exchangeK d0 o

/-- The body IS its structured form. -/
theorem body_shaped (x : Memref sig .tc .vmem S2x128x512 .f32) (hx : x.IsWhole)
    (wq : Memref sig .tc .vmem S512x256 .f32) (hwq : wq.IsWhole)
    (wo : Memref sig .tc .vmem S256x512 .f32) (hwo : wo.IsWhole)
    (o : Memref sig .tc .vmem S2x128x512 .f32) (ho : o.IsWhole) :
    cc0_body (F := F) x hx wq hwq (Memref.whole main_arg2) (Memref.isWhole_whole _)
      (Memref.whole main_arg3) (Memref.isWhole_whole _) wo hwo o ho
      (Memref.whole cc0_scratch0) (Memref.isWhole_whole _)
      (Memref.whole cc0_scratch1) (Memref.isWhole_whole _)
      (Memref.whole cc0_scratch2) (Memref.isWhole_whole _)
      (Memref.whole cc0_scratch3) (Memref.isWhole_whole _)
      (Memref.whole cc0_scratch4) (Memref.isWhole_whole _)
      (Memref.whole cc0_scratch5) (Memref.isWhole_whole _)
      cc0_scratch6 cc0_scratch7 cc0_scratch8 cc0_scratch9 cc0_scratch10
    = shaped x wq wo o := by
  rw [cc0_body_eq_skeleton]
  rfl

end Cert.KernelIdeal.AllRed

end
-- ==== Proof.Peers.lean ====
/- The kernel's peers and semaphores in closed form. Device `c` talks to `fwd c i = c + 1 + i` and
   hears from `bwd c i = c + 31 - i` (both modulo 32) at the `i`-th offset. -/
module

public import proofs.«01_k».proof.Proof.Shape

@[expose] public section

set_option maxRecDepth 65536

noncomputable section

namespace Cert.KernelIdeal.AllRed

open Idealize.ShloMosaic Idealize.ShloMosaic.TcCoe
open Idealize.SL Idealize.SL.Sem
open Cert.KernelIdeal.Gen

/-! ## Peers -/

/-- The device addressed at the `i`-th offset, and the one heard from. -/
def fwd (c : Dev nD) (i : Fin 31) : Dev nD := ⟨(c.val + 1 + i.val) % 32, Nat.mod_lt _ (by decide)⟩
def bwd (c : Dev nD) (i : Fin 31) : Dev nD := ⟨(c.val + 31 - i.val) % 32, Nat.mod_lt _ (by decide)⟩

theorem peerD_eq : ∀ (c : Dev nD) (i : Fin 31), peerD c i = fwd c i := by decide +kernel
theorem off3_eq (c : Dev nD) : k0_off3 c = ![c.val, 0, 0] := k0_off3_eq c
theorem off4_eq : ∀ (c : Dev nD) (i : Fin 31), k0_off4 c (offw i) = ![(fwd c i).val, 0, 0] := by
  decide +kernel
theorem off6_eq : ∀ (c : Dev nD) (i : Fin 31), k0_off6 c (offw i) = ![(bwd c i).val] := by
  decide +kernel
theorem off7_eq : ∀ (c : Dev nD) (i : Fin 31), k0_off7 c (offw i) = ![(bwd c i).val, 0, 0] := by
  decide +kernel
theorem off8_eq : ∀ (c : Dev nD) (i : Fin 31), k0_off8 c (offw i) = ![(bwd c i).val, 0, 0] := by
  decide +kernel

theorem fwd_ne : ∀ (c : Dev nD) (i : Fin 31), fwd c i ≠ c := by decide +kernel
theorem bwd_ne : ∀ (c : Dev nD) (i : Fin 31), bwd c i ≠ c := by decide +kernel
theorem fwd_bwd : ∀ (c : Dev nD) (i : Fin 31), fwd (bwd c i) i = c := by decide +kernel
theorem bwd_fwd : ∀ (c : Dev nD) (i : Fin 31), bwd (fwd c i) i = c := by decide +kernel

/-- The offset at which `c` addresses `s`, and the one at which it hears from it. -/
def toOff (c s : Dev nD) : Fin 31 := ⟨(s.val + 31 - c.val) % 32 % 31, Nat.mod_lt _ (by decide)⟩
def fromOff (c s : Dev nD) : Fin 31 := ⟨(c.val + 31 - s.val) % 32 % 31, Nat.mod_lt _ (by decide)⟩
theorem toOff_fwd : ∀ (c : Dev nD) (i : Fin 31), toOff c (fwd c i) = i := by decide +kernel
theorem fwd_toOff : ∀ (c s : Dev nD), s ≠ c → fwd c (toOff c s) = s := by decide +kernel
theorem fromOff_bwd : ∀ (c : Dev nD) (i : Fin 31), fromOff c (bwd c i) = i := by decide +kernel
theorem bwd_fromOff : ∀ (c s : Dev nD), s ≠ c → bwd c (fromOff c s) = s := by decide +kernel

theorem fwd_inj (c : Dev nD) : Function.Injective (fwd c) := fun i j h => by
  rw [← toOff_fwd c i, h, toOff_fwd]
theorem bwd_inj (c : Dev nD) : Function.Injective (bwd c) := fun i j h => by
  rw [← fromOff_bwd c i, h, fromOff_bwd]

def fwdE (c : Dev nD) : Fin 31 ↪ Dev nD := ⟨fwd c, fwd_inj c⟩
def bwdE (c : Dev nD) : Fin 31 ↪ Dev nD := ⟨bwd c, bwd_inj c⟩

/-- The peers are every device but `c`. -/
theorem map_fwd (c : Dev nD) : Finset.univ.map (fwdE c) = Finset.univ.erase c := by
  ext s
  simp only [Finset.mem_map, Finset.mem_univ, true_and, Finset.mem_erase, and_true]
  exact ⟨fun ⟨i, h⟩ => h ▸ fwd_ne c i, fun h => ⟨toOff c s, fwd_toOff c s h⟩⟩
theorem map_bwd (c : Dev nD) : Finset.univ.map (bwdE c) = Finset.univ.erase c := by
  ext s
  simp only [Finset.mem_map, Finset.mem_univ, true_and, Finset.mem_erase, and_true]
  exact ⟨fun ⟨i, h⟩ => h ▸ bwd_ne c i, fun h => ⟨fromOff c s, bwd_fromOff c s h⟩⟩

/-- The offsets are the thirty-one of them, each once. -/
theorem offs_univ : (Finset.univ : Finset (Fin 31)) = offs.toFinset := by decide +kernel
theorem offs_nodup : offs.Nodup := by decide +kernel

/-! ## Semaphores -/

/-- The kernel's semaphores by number. -/
def locS (b : Fin 2) : DmaSem sig := (⟨4 + b.val, by omega⟩ : Fin 132)
def s1S (i : Fin 31) : DmaSem sig := (⟨6 + i.val, by omega⟩ : Fin 132)
def r1S (s : Dev nD) : DmaSem sig := (⟨37 + s.val, by have := s.isLt; simp only [nD] at this; omega⟩ : Fin 132)
def s2S (i : Fin 31) : DmaSem sig := (⟨69 + i.val, by omega⟩ : Fin 132)
def r2S (s : Dev nD) : DmaSem sig := (⟨100 + s.val, by have := s.isLt; simp only [nD] at this; omega⟩ : Fin 132)

theorem inb32 : ∀ (s : Dev nD), ∀ a, (![s.val] : Fin 1 → Nat) a + S1.size a ≤ S32.size a := by
  decide +kernel

theorem sem31_congr (A : DmaSems sig S31) {o o' : Fin 1 → Nat} (h : o = o') (hb hb') :
    sem31 A o hb = sem31 A o' hb' := by subst h; rfl
theorem sem32_congr (A : DmaSems sig S32) {o o' : Fin 1 → Nat} (h : o = o') (hb hb') :
    sem32 A o hb = sem32 A o' hb' := by subst h; rfl

theorem loc0_eq : sem2 cc0_scratch6 ![0] inb_S2_S1_0 = locS 0 := by decide +kernel
theorem loc1_eq : sem2 cc0_scratch6 ![1] inb_S2_S1_1 = locS 1 := by decide +kernel
theorem s1_eq : ∀ i, sem31 cc0_scratch7 ![i.val] (inb31 i) = s1S i := by decide +kernel
theorem s2_eq : ∀ i, sem31 cc0_scratch9 ![i.val] (inb31 i) = s2S i := by decide +kernel
theorem r1_eq : ∀ s : Dev nD, sem32 cc0_scratch8 ![s.val] (inb32 s) = r1S s := by decide +kernel
theorem r2_eq : ∀ s : Dev nD, sem32 cc0_scratch10 ![s.val] (inb32 s) = r2S s := by decide +kernel

end Cert.KernelIdeal.AllRed

end
-- ==== Proof.Slots.lean ====
/- A communication buffer is cut into thirty-two slots, slot `s` its elements of leading coordinate
   `s`: what a slot's view reads and writes, in those coordinates. -/
module

public import proofs.«01_k».proof.Proof.Peers
public import Idealize.ShloMosaic.Lib.ValueLayout

@[expose] public section

set_option maxRecDepth 65536

noncomputable section

namespace Cert.KernelIdeal.AllRed

open Idealize.ShloMosaic Idealize.ShloMosaic.TcCoe Idealize.ShloMosaic.ValueIdx
open Idealize.SL Idealize.SL.Sem
open Cert.KernelIdeal.Gen

/-! ## Slots -/

theorem inbSlot : ∀ (s : Dev nD), ∀ a, (![s.val, 0, 0] : Fin 3 → Nat) a + S1x8x512.size a ≤ S32x8x512.size a := by
  decide +kernel

/-- Slot `s` of a communication buffer. -/
abbrev slotM (M : Memref sig .tc .vmem S32x8x512 .bf16) (s : Dev nD) : Memref sig .tc .vmem S8x512 .bf16 :=
  chunk M ![s.val, 0, 0] (inbSlot s)

/-- The element of a communication buffer at slot `s`, row `y 0`, column `y 1`. -/
def at3 (s : Dev nD) (y : S8x512.Idx) : S32x8x512.Idx := ix3 s (y 0) (y 1)

theorem slot_emb (M : Memref sig .tc .vmem S32x8x512 .bf16) (s : Dev nD) (y : S8x512.Idx) :
    (slotM M s).view.emb y = M.view.emb (at3 s y) := by
  show M.view.emb ((Rect.unit (s := S32x8x512) ![s.val, 0, 0] S1x8x512.size (inbSlot s)).emb
    (Shape.reshapeEquiv _ y)) = _
  obtain ⟨a, b, rfl⟩ : ∃ a b, y = ix2 a b := ⟨y 0, y 1, funext fun | ⟨0, _⟩ => rfl | ⟨1, _⟩ => rfl⟩
  erw [reshapeEquiv_ix2_1ab]
  refine congrArg _ (funext fun d => Fin.ext ?_)
  match d with
  | ⟨0, _⟩ => show s.val + 1 * 0 = s.val; omega
  | ⟨1, _⟩ => show 0 + 1 * a.val = a.val; omega
  | ⟨2, _⟩ => show 0 + 1 * b.val = b.val; omega

/-- Slot `s` is the elements of leading coordinate `s`. -/
theorem mem_slot (M : Memref sig .tc .vmem S32x8x512 .bf16) (s : Dev nD) (x : S32x8x512.Idx) :
    M.view.emb x ∈ (slotM M s).view.set ↔ x 0 = s := by
  constructor
  · intro h
    obtain ⟨y, -, hy⟩ := Finset.mem_map.mp h
    rw [slot_emb] at hy
    rw [← M.view.emb.injective hy]; rfl
  · intro hs
    have h : M.view.emb x = (slotM M s).view.emb (ix2 (x 1) (x 2)) := by
      rw [slot_emb]
      exact congrArg _ (funext fun | ⟨0, _⟩ => hs | ⟨1, _⟩ => rfl | ⟨2, _⟩ => rfl)
    rw [h]; exact View.emb_mem_set _ _

/-- Reading slot `s` reads the elements of leading coordinate `s`. -/
theorem slot_congr {F : FTy → Type} (M : Memref sig .tc .vmem S32x8x512 .bf16) (s : Dev nD)
    {f g : M.view.ty.Contents (Elt F)} (h : ∀ y, f (M.view.emb (at3 s y)) = g (M.view.emb (at3 s y))) :
    ∀ i ∈ (slotM M s).view.set, f i = g i := by
  intro i hi
  obtain ⟨y, -, rfl⟩ := Finset.mem_map.mp hi
  have := h y
  rw [← slot_emb] at this
  exact this

/-- A copy of slot `s` of one buffer onto slot `s'` of another: the destination holds, on its slot,
    what the source does. -/
theorem slot_write {F : FTy → Type} {M M' : Memref sig .tc .vmem S32x8x512 .bf16} (s s' : Dev nD)
    (fd : M'.view.ty.Contents (Elt F)) (fs : M.view.ty.Contents (Elt F))
    {g : M'.view.ty.Contents (Elt F)}
    (h : ∀ y, M'.view.read (Elt F) g (at3 s' y) = M.view.read (Elt F) fs (at3 s y)) :
    ∀ i ∈ (slotM M' s').view.set,
      (slotM M' s').view.write (Elt F) fd ((slotM M s).view.read (Elt F) fs) Finset.univ i = g i := by
  intro i hi
  obtain ⟨y, -, rfl⟩ := Finset.mem_map.mp hi
  have e : (slotM M s).view.read (Elt F) fs y = (slotM M' s').view.read (Elt F) g y := by
    rw [View.read_apply, View.read_apply]
    have h' := h y
    rw [View.read_apply, View.read_apply] at h'
    rw [slot_emb, slot_emb]
    exact h'.symm
  rw [View.write_emb_of_mem _ _ (Finset.mem_univ y), e, View.read_apply, cast_cast, cast_eq]

/-- The slots are disjoint, and cover a whole buffer. -/
theorem slot_disjoint (M : Memref sig .tc .vmem S32x8x512 .bf16) (s s' : Dev nD) (h : s ≠ s') :
    Disjoint (slotM M s).view.set (slotM M s').view.set := by
  rw [Finset.disjoint_left]
  intro i hi hi'
  obtain ⟨y, -, rfl⟩ := Finset.mem_map.mp hi
  rw [slot_emb, mem_slot] at hi'
  exact h hi'

theorem slot_cover (M : Memref sig .tc .vmem S32x8x512 .bf16) :
    Finset.univ.biUnion (fun s => (slotM M s).view.set) = M.view.set := by
  ext i
  rw [Finset.mem_biUnion]
  constructor
  · rintro ⟨s, -, h⟩
    obtain ⟨y, -, rfl⟩ := Finset.mem_map.mp h
    rw [slot_emb]; exact View.emb_mem_set _ _
  · intro h
    obtain ⟨x, -, rfl⟩ := Finset.mem_map.mp h
    exact ⟨x 0, Finset.mem_univ _, (mem_slot M _ x).mpr rfl⟩

/-- A slot transfers whole words. -/
theorem slot_words : ∀ s : Dev nD, (Rect.unit (s := S32x8x512) ![s.val, 0, 0] S1x8x512.size
    (inbSlot s)).WholeWords (EltTy.packing .bf16) := by decide +kernel

theorem slot_exact {M : Memref sig .tc .vmem S32x8x512 .bf16} (hM : M.IsWhole) (s : Dev nD) :
    (slotM M s).view.WordExact := (hM.wordExact_slice rfl _ (slot_words s)).reshape _ _

end Cert.KernelIdeal.AllRed

end
-- ==== Proof.Contents.lean ====
/- What the buffers hold, over any float values: each device's contexts, its partial product in
   thirty-two chunks, the chunks it collects, its reduced chunk, and the gathered result. -/
module

public import proofs.«01_k».proof.Proof.Slots

@[expose] public section

set_option maxRecDepth 65536

noncomputable section

namespace Cert.KernelIdeal.AllRed

open Idealize.ShloMosaic Idealize.ShloMosaic.TcCoe Idealize.ShloMosaic.ValueIdx
open Idealize.SL Idealize.SL.Sem
open Cert.KernelIdeal.Gen

variable {F : FTy → Type} [FloatOps F]

/-- The four heads of the keys, and of the values, that device `c` copies. -/
abbrev kSrc (c : Dev nD) : Memref sig .tc .hbm S2x128x4x64 .f32 :=
  kH.slice (Rect.unit (s := S2x128x128x64) (k0_off1 c) S2x128x4x64.size (k0_off1_inb c)) (fun _ => rfl)
abbrev vSrc (c : Dev nD) : Memref sig .tc .hbm S2x128x4x64 .f32 :=
  vH.slice (Rect.unit (s := S2x128x128x64) (k0_off1 c) S2x128x4x64.size (k0_off1_inb c)) (fun _ => rfl)

/-- What a device reads: the activations, its query weights, the keys and values of all heads, and
    its output weights. -/
structure Ins (F : FTy → Type) where
  x : Dev nD → Vec F S2x128x512 .f32
  wq : Dev nD → Vec F S512x256 .f32
  kA : Dev nD → Vec F S2x128x128x64 .f32
  vA : Dev nD → Vec F S2x128x128x64 .f32
  wo : Dev nD → Vec F S256x512 .f32

/-- The keys, and the values, of its own heads. -/
def Ins.k (I : Ins F) (c : Dev nD) : Vec F S2x128x4x64 .f32 := (kSrc c).view.read (Elt F) (I.kA c)
def Ins.v (I : Ins F) (c : Dev nD) : Vec F S2x128x4x64 .f32 := (vSrc c).view.read (Elt F) (I.vA c)

/-- The context of batch `b`, head `h`, as the kernel computes it from the queries `q`. -/
def headW (q : FVec F S256x256 .f32) (k v : Vec F S2x128x4x64 .f32) :
    Fin 2 → Fin 4 → FVec F S128x64 .f32
  | 0, 0 => k0_pay2 q k v
  | 0, 1 => k0_pay5 (k0_pay3 q k) (k0_pay4 v)
  | 0, 2 => k0_pay6 q k v
  | 0, 3 => k0_pay8 v (k0_pay7 q k)
  | 1, 0 => k0_pay9 q k v
  | 1, 1 => k0_pay11 v (k0_pay10 q k)
  | 1, 2 => k0_pay12 q k v
  | 1, 3 => k0_pay15 v (k0_pay13 q) (k0_pay14 k)

/-- Row `128 b + r`, column `64 h + e` of the context buffer is the context of batch `b`, head `h`
    at `(r, e)`. -/
def ctxOf (q : FVec F S256x256 .f32) (k v : Vec F S2x128x4x64 .f32) : Vec F S256x256 .f32 :=
  fun i => headW q k v ⟨(i 0).val / 128, by have := (i 0).isLt; change _ < 256 at this; omega⟩
    ⟨(i 1).val / 64, by have := (i 1).isLt; change _ < 256 at this; omega⟩
    (ix2 ⟨(i 0).val % 128, Nat.mod_lt _ (by decide)⟩ ⟨(i 1).val % 64, Nat.mod_lt _ (by decide)⟩)

/-- A write of one head's window into the context buffer. -/
abbrev putW (off : Fin 2 → Nat) (h : ∀ a, off a + S128x64.size a ≤ S256x256.size a)
    (f : cM.view.ty.Contents (Elt F)) (w : FVec F S128x64 .f32) : cM.view.ty.Contents (Elt F) :=
  (cM.access (Rect.unit (s := S256x256) off S128x64.size h) : View sig .tc _ _ _).write (Elt F) f w
    Finset.univ

theorem putW_apply (b h : Nat) (hb : ∀ a, (![128 * b, 64 * h] : Fin 2 → Nat) a + S128x64.size a ≤ S256x256.size a)
    (f : cM.view.ty.Contents (Elt F)) (w : FVec F S128x64 .f32) (i : S256x256.Idx) :
    putW ![128 * b, 64 * h] hb f w i
      = if (i 0).val / 128 = b ∧ (i 1).val / 64 = h then
          w (ix2 ⟨(i 0).val % 128, Nat.mod_lt _ (by decide)⟩ ⟨(i 1).val % 64, Nat.mod_lt _ (by decide)⟩)
        else f i := by
  split
  · next hi =>
    have he : (cM.access (Rect.unit (s := S256x256) ![128 * b, 64 * h] S128x64.size hb) :
        View sig .tc _ _ _).emb (ix2 ⟨(i 0).val % 128, Nat.mod_lt _ (by decide)⟩
          ⟨(i 1).val % 64, Nat.mod_lt _ (by decide)⟩) = i := by
      funext a
      refine Fin.ext ?_
      match a with
      | ⟨0, _⟩ =>
        show 128 * b + 1 * ((i 0).val % 128) = (i 0).val
        have := hi.1; omega
      | ⟨1, _⟩ =>
        show 64 * h + 1 * ((i 1).val % 64) = (i 1).val
        have := hi.2; omega
    have := View.write_emb_of_mem (v := (cM.access (Rect.unit (s := S256x256) ![128 * b, 64 * h] S128x64.size hb) :
        View sig .tc _ _ _)) (Val := Elt F) f w (M := Finset.univ) (x := ix2 ⟨(i 0).val % 128, Nat.mod_lt _ (by decide)⟩
          ⟨(i 1).val % 64, Nat.mod_lt _ (by decide)⟩) (Finset.mem_univ _)
    rw [he] at this
    exact this
  · next hi =>
    refine View.write_of_not_mem (v := (cM.access (Rect.unit (s := S256x256) ![128 * b, 64 * h] S128x64.size hb) :
        View sig .tc _ _ _)) (Val := Elt F) f w (M := Finset.univ) (i := i) ?_
    intro hm
    obtain ⟨y, -, rfl⟩ := Finset.mem_map.mp hm
    refine hi ⟨?_, ?_⟩
    · show (128 * b + 1 * (y 0).val) / 128 = b
      have := (y 0).isLt; change _ < 128 at this; omega
    · show (64 * h + 1 * (y 1).val) / 64 = h
      have := (y 1).isLt; change _ < 64 at this; omega

/-- The eight writes leave the contexts, whatever was there. -/
theorem ctx_writes (q : FVec F S256x256 .f32) (k v : Vec F S2x128x4x64 .f32)
    (f : cM.view.ty.Contents (Elt F)) :
    putW ![128, 192] inb_S256x256_S128x64_128_192
      (putW ![128, 128] inb_S256x256_S128x64_128_128
      (putW ![128, 64] inb_S256x256_S128x64_128_64
      (putW ![128, 0] inb_S256x256_S128x64_128_0
      (putW ![0, 192] inb_S256x256_S128x64_0_192
      (putW ![0, 128] inb_S256x256_S128x64_0_128
      (putW ![0, 64] inb_S256x256_S128x64_0_64
      (putW ![0, 0] inb_S256x256_S128x64_0_0 f (headW q k v 0 0)) (headW q k v 0 1))
        (headW q k v 0 2)) (headW q k v 0 3)) (headW q k v 1 0)) (headW q k v 1 1))
        (headW q k v 1 2)) (headW q k v 1 3)
      = ctxOf q k v := by
  funext i
  refine (putW_apply 1 3 _ _ _ i).trans ?_
  rw [show (putW ![128, 128] inb_S256x256_S128x64_128_128 _ (headW q k v 1 2)) i = _ from putW_apply 1 2 _ _ _ i,
    show (putW ![128, 64] inb_S256x256_S128x64_128_64 _ (headW q k v 1 1)) i = _ from putW_apply 1 1 _ _ _ i,
    show (putW ![128, 0] inb_S256x256_S128x64_128_0 _ (headW q k v 1 0)) i = _ from putW_apply 1 0 _ _ _ i,
    show (putW ![0, 192] inb_S256x256_S128x64_0_192 _ (headW q k v 0 3)) i = _ from putW_apply 0 3 _ _ _ i,
    show (putW ![0, 128] inb_S256x256_S128x64_0_128 _ (headW q k v 0 2)) i = _ from putW_apply 0 2 _ _ _ i,
    show (putW ![0, 64] inb_S256x256_S128x64_0_64 _ (headW q k v 0 1)) i = _ from putW_apply 0 1 _ _ _ i,
    show (putW ![0, 0] inb_S256x256_S128x64_0_0 _ (headW q k v 0 0)) i = _ from putW_apply 0 0 _ _ _ i]
  have h0 := (i 0).isLt
  have h1 := (i 1).isLt
  change _ < 256 at h0 h1
  unfold ctxOf
  obtain ⟨b, hb⟩ : ∃ b : Fin 2, (i 0).val / 128 = b.val := ⟨⟨(i 0).val / 128, by omega⟩, rfl⟩
  obtain ⟨h, hh⟩ : ∃ h : Fin 4, (i 1).val / 64 = h.val := ⟨⟨(i 1).val / 64, by omega⟩, rfl⟩
  simp only [hb, hh, Fin.eta]
  revert b h
  intro b _ h _
  match b, h with
  | 0, 0 => rfl
  | 0, 1 => rfl
  | 0, 2 => rfl
  | 0, 3 => rfl
  | 1, 0 => rfl
  | 1, 1 => rfl
  | 1, 2 => rfl
  | 1, 3 => rfl

variable (I : Ins F)

/-- The contexts of device `c`. -/
def ctxC (c : Dev nD) : Vec F S256x256 .f32 := ctxOf (k0_pay1 (I.x c) (I.wq c)) (I.k c) (I.v c)

/-- The partial product of device `c`, in chunks. -/
def pC (c : Dev nD) : Vec F S32x8x512 .bf16 := k0_pay16 (ctxC I c) (I.wo c)

/-- What lands on device `c` in the first exchange: in slot `s` device `s`'s chunk for `c`. -/
def rC (c : Dev nD) : Vec F S32x8x512 .bf16 := fun i => pC I (i 0) (ix3 c (i 1) (i 2))

/-- Slot `s` of a communication buffer's contents. -/
def slotV (f : Vec F S32x8x512 .bf16) (s : Dev nD) : Vec F S1x8x512 .bf16 :=
  fun y => f (ix3 s (y 1) (y 2))

/-- The accumulator of device `c` after the landings of the offsets in `l`, started at `a`. -/
def accFrom (c : Dev nD) (l : List (Fin 31)) (a : FVec F S8x512 .f32) : FVec F S8x512 .f32 :=
  l.foldl (fun a i => addf a (asAcc (slotV (rC I c) (bwd c i)))) a

/-- The reduced chunk of device `c`. -/
def accC (c : Dev nD) : FVec F S8x512 .f32 := accFrom I c offs (asAcc (slotV (pC I c) c))

/-- The gather buffer, the same on every device: slot `s` device `s`'s reduced chunk. -/
def gC : Vec F S32x8x512 .bf16 := fun i => asChunk (accC I (i 0)) (ix3 0 (i 1) (i 2))

/-- The result, the same on every device. -/
def outC : Vec F S2x128x512 .f32 := k0_pay43 (gC I)

end Cert.KernelIdeal.AllRed

end
-- ==== Proof.Sched.lean ====
/- The protocol between the devices. Every cell has one round.

   * barrier of `c`: each peer signals one unit, handing over its own slots `c` of the landing buffer
     and of the gather buffer, at any contents; `c` waits for the thirty-one units before it sends.
   * landing cell `s` of `c`, first exchange: device `s`'s copy of its chunk for `c` into slot `s` of
     `c`'s landing buffer; handed over: that slot, holding the chunk.
   * landing cell `s` of `c`, second exchange: device `s`'s copy of its reduced chunk into slot `s` of
     `c`'s gather buffer; handed over: that slot, holding the reduced chunk.
   * send cells of `c`: its own copies, handing back the source — the chunk of the partial product, and
     a share of slot `c` of the gather buffer.
   * local copy cells of `c`: the keys and the values copied, with the slice they were copied from.

   A device owes its dues in the order barrier, first exchange, second exchange; the levels rise in
   that order. -/
module

public import proofs.«01_k».proof.Proof.Contents
public import Idealize.ShloMosaic.Lib.Pipeline.Launch
public import Idealize.ShloMosaic.Lib.Pipeline.Kit
public import Idealize.ShloMosaic.Lib.Pipeline.BigSepL
public import Idealize.ShloMosaic.Lib.Rounds
public import Idealize.ShloMosaic.Lib.Transfers
public import Idealize.ShloMosaic.Lib.Ring
public import Idealize.ShloMosaic.Lib.Tactic

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB := URounds (GSem nD τ sig) (Dev nD)
abbrev UU := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Cells -/

/-- The kinds of cells: the barrier, the two local copies, and of each exchange the send cells by
    offset and the landing cells by device. -/
abbrev CK := Unit ⊕ Fin 2 ⊕ Fin 31 ⊕ Dev nD ⊕ Fin 31 ⊕ Dev nD

namespace CK
@[match_pattern] abbrev bar : CK := .inl ()
@[match_pattern] abbrev loc (b : Fin 2) : CK := .inr (.inl b)
@[match_pattern] abbrev s1 (i : Fin 31) : CK := .inr (.inr (.inl i))
@[match_pattern] abbrev r1 (s : Dev nD) : CK := .inr (.inr (.inr (.inl s)))
@[match_pattern] abbrev s2 (i : Fin 31) : CK := .inr (.inr (.inr (.inr (.inl i))))
@[match_pattern] abbrev r2 (s : Dev nD) : CK := .inr (.inr (.inr (.inr (.inr s))))
end CK

/-- The semaphore of a cell. -/
abbrev csem : CK → SemLoc sig
  | .bar => .reg barS
  | .loc b => .dma (locS b)
  | .s1 i => .dma (s1S i)
  | .r1 s => .dma (r1S s)
  | .s2 i => .dma (s2S i)
  | .r2 s => .dma (r2S s)

/-- A cell: a kind on a device. -/
abbrev kcell (ck : Dev nD × CK) : GSem nD τ sig := ((ck.1 : Thread nD τ), csem ck.2)

/-- The number of a semaphore, the barrier's below the copies'. -/
def semNo : SemLoc sig → ℕ
  | .reg _ => 0
  | .dma q => (q : Fin 132).val + 1

theorem csem_inj : Function.Injective csem := by
  intro a b h
  have h' := congrArg semNo h
  rcases a with _ | a | a | a | a | a <;> rcases b with _ | b | b | b | b | b <;>
    simp only [csem, semNo, locS, s1S, r1S, s2S, r2S] at h' <;>
    first
    | rfl
    | (have : a = b := Fin.ext (by omega)
       rw [this]; done)
    | (exfalso
       have ha : a.val < 32 := lt_of_lt_of_le a.isLt (by decide)
       first
       | omega
       | (have hb : b.val < 32 := lt_of_lt_of_le b.isLt (by decide)
          omega))
    | (exfalso
       have hb : b.val < 32 := lt_of_lt_of_le b.isLt (by decide)
       omega)

theorem kcell_inj : Function.Injective kcell := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-- The kind of a semaphore, if it is one of these cells'. -/
def decode (sm : SemLoc sig) : Option CK :=
  if h : ∃ k, csem k = sm then some h.choose else none

theorem decode_csem (k : CK) : decode (csem k) = some k := by
  have h : ∃ k', csem k' = csem k := ⟨k, rfl⟩
  unfold decode
  rw [dif_pos h]
  exact congrArg some (csem_inj h.choose_spec)

theorem decode_of_lt (q : DmaSem sig) (h : (q : Fin 132).val < 4) : decode (.dma q) = none := by
  unfold decode
  rw [dif_neg]
  rintro ⟨k, hk⟩
  have h' := congrArg semNo hk
  rcases k with _ | a | a | a | a | a <;> simp only [csem, semNo, locS, s1S, r1S, s2S, r2S] at h' <;> omega

/-! ## Points-to of a slot -/

/-- Slot `s` of a communication buffer on device `c`, at share `q`. -/
def slotP (M : Memref sig .tc .vmem S32x8x512 .bf16) (c s : Dev nD) (q : PosShare TreeShare)
    (f : Buf (Elt F) ((slotM M s).view.loc (c : Thread nD τ))) : sProp 𝕄 :=
  (slotM M s).view.loc (c : Thread nD τ) ↦[(slotM M s).view.set]{q} f

omit [FloatOps F] in
instance slotP_storable (M : Memref sig .tc .vmem S32x8x512 .bf16) (c s : Dev nD) (q)
    (f : Buf (Elt F) ((slotM M s).view.loc (c : Thread nD τ))) :
    BI.Storable (upEmb : UEmb _ 𝕄) (slotP M c s q f) := by unfold slotP; infer_instance

/-- The same at any contents, whole. -/
def slotAny (M : Memref sig .tc .vmem S32x8x512 .bf16) (c s : Dev nD) : sProp 𝕄 :=
  iprop(∃ f : Buf (Elt F) ((slotM M s).view.loc (c : Thread nD τ)), slotP M c s fullShare f)

omit [FloatOps F] in
instance slotAny_storable (M : Memref sig .tc .vmem S32x8x512 .bf16) (c s : Dev nD) :
    BI.Storable (upEmb : UEmb _ 𝕄) (slotAny (F := F) M c s) := by unfold slotAny; infer_instance

/-- The whole of a memref's elements on device `c`. -/
def viewP {sp : Space} {S : Shape} {e : EltTy} (M : Memref sig .tc sp S e) (c : Dev nD)
    (f : Buf (Elt F) (M.view.loc (c : Thread nD τ))) : sProp 𝕄 :=
  M.view.loc (c : Thread nD τ) ↦[M.view.set]{fullShare} f

omit [FloatOps F] in
instance viewP_storable {sp : Space} {S : Shape} {e : EltTy} (M : Memref sig .tc sp S e) (c : Dev nD)
    (f : Buf (Elt F) (M.view.loc (c : Thread nD τ))) :
    BI.Storable (upEmb : UEmb _ 𝕄) (viewP M c f) := by unfold viewP; infer_instance

/-! ## The schedule -/

/-- The credit of one slot's copy, and of one local copy. -/
@[irreducible] def N : ℕ := sig.dmaCredit .tc (Kind.table .tc .vmem) (rM).view.buf S8x512 .bf16
@[irreducible] def NL : ℕ := sig.dmaCredit .tc (Kind.table .tc .vmem) (kM).view.buf S2x128x4x64 .f32
theorem r_credit {off h} : (chunk rM off h).view.dmaCredit = N := by unfold N; rfl
theorem p_credit {off h} : (chunk pM off h).view.dmaCredit = N := by unfold N; rfl
theorem g_credit {off h} : (chunk gM off h).view.dmaCredit = N := by unfold N; rfl
theorem k_credit : kM.view.dmaCredit = NL := by unfold NL; rfl
theorem v_credit : vM.view.dmaCredit = NL := by unfold NL; rfl
theorem N_pos : 0 < N := r_credit (off := ![0, 0, 0]) (h := inbSlot 0) ▸ View.dmaCredit_pos _ (by decide)
theorem NL_pos : 0 < NL := k_credit ▸ View.dmaCredit_pos _ (by decide)

variable (I : Ins F)

def dutiesOf (c : Dev nD) : CK → Finset (Dev nD)
  | .bar => Finset.univ.erase c
  | .loc _ => {c}
  | .s1 _ => {c}
  | .r1 s => if s = c then ∅ else {s}
  | .s2 _ => {c}
  | .r2 s => if s = c then ∅ else {s}

def amtOf : CK → ℕ
  | .bar => 1
  | .loc _ => NL
  | .s1 _ => N
  | .r1 _ => N
  | .s2 _ => N
  | .r2 _ => N

theorem amtOf_pos (k : CK) : 0 < amtOf k := by
  rcases k with _ | a | a | a | a | a
  exacts [Nat.one_pos, NL_pos, N_pos, N_pos, N_pos, N_pos]

/-- What the duty of payer `d` of a cell of `c` hands `c`. -/
def payOf (c : Dev nD) (k : CK) (d : Dev nD) : sProp 𝕄 := match k with
  | .bar => iprop(slotAny rM d c ∗ slotAny gM d c)
  | .loc b => match b with
    | 0 => iprop(viewP kM c (I.k c) ∗ viewP (kSrc c) c (I.kA c))
    | 1 => iprop(viewP vM c (I.v c) ∗ viewP (vSrc c) c (I.vA c))
  | .s1 i => slotP pM c (fwd c i) fullShare (pC I c)
  | .r1 s => slotP rM c s fullShare (rC I c)
  | .s2 i => slotP gM c c (Transfers.shareTok fullShare 31 i) (gC I)
  | .r2 s => slotP gM c s fullShare (gC I)

instance payOf_storable (c : Dev nD) (k : CK) (d : Dev nD) :
    BI.Storable (upEmb : UEmb _ 𝕄) (payOf I c k d) := by
  rcases k with _ | a | a | a | a | a
  · unfold payOf; infer_instance
  · match a with
    | 0 => show BI.Storable (upEmb : UEmb _ 𝕄) iprop(viewP kM c (I.k c) ∗ viewP (kSrc c) c (I.kA c)); infer_instance
    | 1 => show BI.Storable (upEmb : UEmb _ 𝕄) iprop(viewP vM c (I.v c) ∗ viewP (vSrc c) c (I.vA c)); infer_instance
  all_goals unfold payOf; infer_instance

def Rd : Rounds.Schedule (GSem nD τ sig) (Dev nD) 𝕄 where
  duties g r := if r = 0 ∧ g.1.2 = .tc then (match decode g.2 with
    | some k => dutiesOf g.1.1 k
    | none => ∅) else ∅
  unitless _ := False
  amount g _ _ := match decode g.2 with
    | some k => amtOf k
    | none => 1
  payload g _ d := match decode g.2 with
    | some k => payOf I g.1.1 k d
    | none => iprop(emp)
  amount_pos g _ _ _ := by
    cases decode g.2 with
    | none => exact Nat.one_pos
    | some k => exact amtOf_pos k

instance Rd_payload_storable (g : GSem nD τ sig) (r : ℕ) (d : Dev nD) :
    BI.Storable (upEmb : UEmb _ 𝕄) ((Rd I).payload g r d) := by
  show BI.Storable (upEmb : UEmb _ 𝕄) (match decode g.2 with
    | some k => payOf I g.1.1 k d
    | none => iprop(emp))
  cases decode g.2 with
  | none => infer_instance
  | some k => infer_instance

theorem duties_cell (c : Dev nD) (k : CK) : (Rd I).duties (kcell (c, k)) 0 = dutiesOf c k := by
  dsimp only [Rd, kcell]
  rw [if_pos ⟨rfl, rfl⟩, decode_csem]
theorem duties_later (g : GSem nD τ sig) : ∀ r, 1 ≤ r → (Rd I).duties g r = ∅ := fun r hr => by
  dsimp only [Rd]; rw [if_neg fun h => by omega]
theorem amount_cell (c : Dev nD) (k : CK) (d : Dev nD) : (Rd I).amount (kcell (c, k)) 0 d = amtOf k := by
  dsimp only [Rd, kcell]; rw [decode_csem]
theorem payload_cell (c : Dev nD) (k : CK) (d : Dev nD) :
    (Rd I).payload (kcell (c, k)) 0 d = payOf I c k d := by
  dsimp only [Rd, kcell]; rw [decode_csem]
theorem expect_cell (c : Dev nD) (k : CK) :
    (Rd I).expect (kcell (c, k)) 0 = (dutiesOf c k).card * amtOf k := by
  unfold Schedule.expect Schedule.amountOf
  rw [duties_cell, Finset.sum_congr rfl fun d _ => amount_cell I c k d, Finset.sum_const, smul_eq_mul]
theorem rest_cell (c : Dev nD) (k : CK) :
    bigSep ((Rd I).duties (kcell (c, k)) 0 \ ∅) (fun d => (Rd I).payload (kcell (c, k)) 0 d)
      = bigSep (dutiesOf c k) (payOf I c k) := by
  rw [Finset.sdiff_empty, duties_cell]
  exact bigSep_congr fun d _ => payload_cell I c k d

/-! ## Dues and levels -/

/-- What device `c` owes its `i`-th peer: a unit of its barrier, and a slot's credit of its landing
    cells. -/
def tB (c : Dev nD) (i : Fin 31) : CellTallies nD τ sig Unit := tallyAt (kcell (fwd c i, .bar)) () 1
def tR1 (c : Dev nD) (i : Fin 31) : CellTallies nD τ sig Unit := tallyAt (kcell (fwd c i, .r1 c)) () N
def tR2 (c : Dev nD) (i : Fin 31) : CellTallies nD τ sig Unit := tallyAt (kcell (fwd c i, .r2 c)) () N

/-- The dues over a list of offsets. -/
def dues (t : Fin 31 → CellTallies nD τ sig Unit) (l : List (Fin 31)) : CellTallies nD τ sig Unit :=
  (l.map t).sum

theorem dues_cons (t) (i : Fin 31) (l) : dues t (i :: l) = t i + dues t l := by
  unfold dues; rw [List.map_cons, List.sum_cons]
theorem dues_nil (t) : dues t [] = 0 := rfl
theorem dues_offs (t : Fin 31 → CellTallies nD τ sig Unit) : dues t offs = ∑ i, t i := by
  rw [offs_univ]; exact (List.sum_toFinset t offs_nodup).symm

/-- What device `c` owes at launch. -/
def O₀ (c : Dev nD) : CellTallies nD τ sig Unit := dues (tR2 c) offs + dues (tR1 c) offs + dues (tB c) offs

def L (g : GSem nD τ sig) : Finset Unit := if g.1.2 = .tc then {()} else ∅
def levOf : CK → ℕ
  | .bar => 1
  | .loc _ => 0
  | .s1 _ => 0
  | .r1 _ => 2
  | .s2 _ => 0
  | .r2 _ => 3
def lv (g : GSem nD τ sig) (_ : Unit) : ℕ := match decode g.2 with
  | some k => levOf k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (kcell (c, k)) u = levOf k := by
  dsimp only [lv, kcell]; rw [decode_csem]

/-- The dues `O` are all at cells above level `b`. -/
def Above (b : ℕ) (O : CellTallies nD τ sig Unit) : Prop :=
  ∀ g u, 0 < O g u → ∃ c k, g = kcell (c, k) ∧ b < levOf k

theorem above_zero (b) : Above b 0 := fun g u h => absurd h (Nat.lt_irrefl 0)
theorem above_add {b} {O O' : CellTallies nD τ sig Unit} (h : Above b O) (h' : Above b O') : Above b (O + O') := by
  intro g u hp
  rw [Pi.add_apply, Finsupp.add_apply] at hp
  by_cases h0 : 0 < O g u
  · exact h g u h0
  · exact h' g u (by omega)
theorem above_tally {b} (c : Dev nD) (k : CK) (n : ℕ) (h : b < levOf k) : Above b (tallyAt (kcell (c, k)) () n) := by
  intro g u hp
  rw [tallyAt_apply] at hp
  by_cases hg : g = kcell (c, k) ∧ u = ()
  · exact ⟨c, k, hg.1, h⟩
  · rw [if_neg hg] at hp; exact absurd hp (Nat.lt_irrefl 0)
theorem above_dues {b} (t : Fin 31 → CellTallies nD τ sig Unit) (h : ∀ i, Above b (t i)) (l) : Above b (dues t l) := by
  induction l with
  | nil => exact above_zero b
  | cons i l ih => rw [dues_cons]; exact above_add (h i) ih
theorem above_B (c l) : Above 0 (dues (tB c) l) := above_dues _ (fun i => above_tally _ _ _ (by decide)) l
theorem above_R1 (c l) : Above 1 (dues (tR1 c) l) := above_dues _ (fun i => above_tally _ (.r1 c) _ (by show 1 < 2; decide)) l
theorem above_R2 (c l) : Above 2 (dues (tR2 c) l) := above_dues _ (fun i => above_tally _ (.r2 c) _ (by show 2 < 3; decide)) l
theorem above_mono {b b' : ℕ} (hb : b ≤ b') {O} (h : Above b' O) : Above b O := fun g u hp => by
  obtain ⟨c, k, hg, hk⟩ := h g u hp
  exact ⟨c, k, hg, lt_of_le_of_lt hb hk⟩
theorem above_O₀ (c) : Above 0 (O₀ c) :=
  above_add (above_add (above_mono (by decide) (above_R2 c _)) (above_mono (by decide) (above_R1 c _))) (above_B c _)

omit [FloatOps F] in
/-- A device may wait on a semaphore of level at most `b` while its dues are above `b`. -/
theorem mayWait_above (c : Dev nD) (sm : SemLoc sig) (b : ℕ) (hb : lv ((c : Thread nD τ), sm) () ≤ b)
    {O : CellTallies nD τ sig Unit} (hO : Above b O) :
    (levAts L lv : sProp 𝕄) ⊢ MayWait (c : Thread nD τ) sm () O :=
  MayOwe.of_cut (L := L) (lev := lv) b
    (fun p hp => by rw [Finset.mem_singleton.mp hp, L_tc]; exact Finset.mem_singleton_self _)
    (fun g u hg => by obtain ⟨c', k, rfl, -⟩ := hO g u hg; exact Finset.mem_singleton_self _)
    (fun p hp => by rw [Finset.mem_singleton.mp hp]; exact hb)
    (fun g u hg => by obtain ⟨c', k, rfl, h⟩ := hO g u hg; rw [lv_cell]; exact h)

omit [FloatOps F] in
theorem mayWait_cell (c : Dev nD) (k : CK) {O : CellTallies nD τ sig Unit} (hO : Above (levOf k) O) :
    (levAts L lv : sProp 𝕄) ⊢ MayWait (c : Thread nD τ) (csem k) () O :=
  mayWait_above c (csem k) (levOf k) (le_of_eq (lv_cell c k ())) hO

omit [FloatOps F] in
/-- The pipeline's staging semaphores lie below every due. -/
theorem mayWait_stage (c : Dev nD) (q : DmaSem sig) (hq : (q : Fin 132).val < 4)
    {O : CellTallies nD τ sig Unit} (hO : Above 0 O) :
    (levAts L lv : sProp 𝕄) ⊢ MayWait (c : Thread nD τ) (.dma q) () O :=
  mayWait_above c (.dma q) 0 (by unfold lv; rw [decode_of_lt q hq]) hO

end Cert.KernelIdeal.AllRed

end
-- ==== Proof.Steps.lean ====
/- One rule per step of the loops, at a symbolic device and a symbolic offset, and the rule of a loop
   from the rule of its step. -/
module

public import proofs.«01_k».proof.Proof.Sched

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev 𝒱₀ : Variants := Variants.none

/-- The program `p` on device `c` runs to `Q`. -/
abbrev WP (c : Dev nD) (p : P0 F) (Q : PUnit.{1} → sProp 𝕄) : sProp 𝕄 :=
  wp frame (wpE (defs₀ (F := F)) 𝒱₀ (c : Thread nD τ) none) Set.univ p Q

instance : DecidableEq CK := inferInstanceAs (DecidableEq (Unit ⊕ Fin 2 ⊕ Fin 31 ⊕ Fin 32 ⊕ Fin 31 ⊕ Fin 32))
instance : DecidableEq (Dev nD × CK) := inferInstanceAs (DecidableEq (Fin 32 × CK))

/-- What a program runs to. -/
abbrev Post (F : FTy → Type) [FloatOps F] := PUnit.{1} → sProp (MT nD τ sig Unit (Elt F) ℕ UU ℕ)

variable (I : Ins F) (κ : Dev nD × CK → ℕ)

/-- What every device holds of the protocol throughout: each cell's invariant, that each cell's round
    is open, and the levels. -/
def recs : sProp 𝕄 :=
  iprop(bigSep Finset.univ (fun ck => cellInv ER (Rd I) (κ ck) (kcell ck))
    ∗ bigSep Finset.univ (fun ck => reached ER (kcell ck) 0) ∗ levAts L lv)

instance recs_persistent : BI.Persistent (recs I κ) := by unfold recs; infer_instance

theorem recs_inv (ck : Dev nD × CK) : recs I κ ⊢ cellInv ER (Rd I) (κ ck) (kcell ck) := by
  unfold recs
  exact BIBase.Entails.trans sep_elim_left (bigSep_elim (Finset.mem_univ ck))
theorem recs_reached (ck : Dev nD × CK) : recs I κ ⊢ reached ER (kcell ck) 0 := by
  unfold recs
  exact BIBase.Entails.trans sep_elim_right (BIBase.Entails.trans sep_elim_left (bigSep_elim (Finset.mem_univ ck)))
theorem recs_lev : recs I κ ⊢ levAts L lv := by
  unfold recs; iintro ⟨-, -, H⟩; iexact H

/-- The dues of device `c`, whatever it has waited on. -/
def ow (c : Dev nD) (O : CellTallies nD τ sig Unit) : sProp 𝕄 :=
  iprop(∃ W : Waits sig Unit, owes (c : Thread nD τ) O W)

variable (c : Dev nD) (Q : Post F)

/-! ## The loop rule -/

/-- A loop from its step: the step at offset `i` takes the running state before it to that after it,
    spending `A i` and leaving `B i`. -/
theorem wp_loop (R : sProp 𝕄) [BI.Persistent R] (step : Fin 31 → P0 F → P0 F)
    (St : List (Fin 31) → sProp 𝕄) (A B : Fin 31 → sProp 𝕄)
    (h : ∀ i l K, iprop(R ∗ St (i :: l) ∗ A i ∗ ((St l ∗ B i) -∗ WP c K Q)) ⊢ WP c (step i K) Q)
    (l : List (Fin 31)) (K : P0 F) :
    iprop(R ∗ St l ∗ bigSepL l A ∗ ((St [] ∗ bigSepL l B) -∗ WP c K Q)) ⊢ WP c (loopK step l K) Q := by
  induction l with
  | nil =>
    unfold loopK
    iintro ⟨-, HS, HA, Hk⟩
    iapply Hk
    isplitl [HS]; · iexact HS
    iexact HA
  | cons i l ih =>
    unfold loopK
    rw [bigSepL_cons' i l A, bigSepL_cons' i l B]
    iintro ⟨#HR, HS, ⟨HA, HAl⟩, Hk⟩
    iapply (h i l (loopK step l K))
    isplitr; · iexact HR
    isplitl [HS]; · iexact HS
    isplitl [HA]; · iexact HA
    iintro ⟨HS, HB⟩
    iapply ih
    isplitr; · iexact HR
    isplitl [HS]; · iexact HS
    isplitl [HAl]; · iexact HAl
    iintro ⟨HS, HBl⟩
    iapply Hk
    isplitl [HS]; · iexact HS
    isplitl [HB]; · iexact HB
    iexact HBl

/-! ## A wait -/

/-- A wait for a cell's whole round, which closes the cell: the payloads of its duties come with it, and
    the semaphore's count is zero. -/
theorem wp_wait_close (k : CK) {w : TpuEff nD τ sig (Elt F) Λ₀ .tc PUnit} {n : ℕ}
    (hw : ∀ K : PUnit → sProp 𝕄, wpE (defs₀ (F := F)) 𝒱₀ (c : Thread nD τ) none Set.univ w K
      = waitSpec (c : Thread nD τ) Set.univ (csem k) n K)
    (hn : n = (dutiesOf c k).card * amtOf k) {O : CellTallies nD τ sig Unit} (hO : Above (levOf k) O)
    (K : P0 F) :
    iprop(recs I κ ∗ cred (tallyAt (kcell (c, k)) () n) ∗ ow c O ∗ atPos ER (kcell (c, k)) 0 ∅ 0
        ∗ ((ow c O ∗ bigSep (dutiesOf c k) (payOf I c k) ∗ semVal (kcell (c, k)) 0) -∗ WP c K Q))
      ⊢ WP c (.op w fun _ => K) Q := by
  iintro ⟨#HR, Hc, Ho, Hat, Hk⟩
  unfold ow
  icases Ho with ⟨%W, Ho⟩
  iapply (Rounds.wp_wait_rest_token 𝒱₀ ER (Rd I) (c : Thread nD τ) none (κ := κ (c, k)) (sm := csem k) (k' := n)
      hw (Set.mem_univ _) () (O := O) (W := W) (R := 0) (m := 0) (T := ∅)
      (by rw [Nat.zero_add]; exact hn.trans (expect_cell I c k).symm)) $$ [Hc Ho Hat]
  · isplitr; · iapply (recs_inv I κ (c, k)); iexact HR
    isplitl [Hc]; · iexact Hc
    isplitl [Ho]; · iexact Ho
    isplitr; · iapply (mayWait_cell c k hO); iapply (recs_lev I κ); iexact HR
    iexact Hat
  iintro ⟨Ho, Hat, -, Hpay⟩
  ihave Hpay := (Entails.of_eq (rest_cell I c k)) $$ Hpay
  imod (Rounds.cell_close ER (Rd I) (Set.mem_univ (κ (c, k))) (fun h => h) (R := 0 + 1)
    (duties_later I (kcell (c, k)))) $$ [Hat] with Hz
  · isplitr; · iapply (recs_inv I κ (c, k)); iexact HR
    iexact Hat
  iapply Hk
  isplitl [Ho]; · iexists _; iexact Ho
  isplitl [Hpay]; · iexact Hpay
  iexact Hz

/-- The same at a cell of one duty. -/
theorem wp_wait_one (k : CK) (d : Dev nD) (hd : dutiesOf c k = {d}) {w : TpuEff nD τ sig (Elt F) Λ₀ .tc PUnit}
    {n : ℕ} (hw : ∀ K : PUnit → sProp 𝕄, wpE (defs₀ (F := F)) 𝒱₀ (c : Thread nD τ) none Set.univ w K
      = waitSpec (c : Thread nD τ) Set.univ (csem k) n K)
    (hn : n = amtOf k) {O : CellTallies nD τ sig Unit} (hO : Above (levOf k) O) (K : P0 F) :
    iprop(recs I κ ∗ cred (tallyAt (kcell (c, k)) () n) ∗ ow c O ∗ atPos ER (kcell (c, k)) 0 ∅ 0
        ∗ ((ow c O ∗ payOf I c k d ∗ semVal (kcell (c, k)) 0) -∗ WP c K Q))
      ⊢ WP c (.op w fun _ => K) Q := by
  have h := wp_wait_close I κ c Q k hw (by rw [hd, Finset.card_singleton, one_mul]; exact hn) hO K
  rw [hd, bigSep_singleton] at h
  exact h

/-- A cell nobody pays closes at once. -/
theorem close_idle (k : CK) (hk : dutiesOf c k = ∅) :
    iprop(recs I κ ∗ atPos ER (kcell (c, k)) 0 ∅ 0) ⊢ iprop(|={Set.univ}=> semVal (kcell (c, k)) 0) := by
  iintro ⟨#HR, Hat⟩
  iapply (Rounds.cell_close ER (Rd I) (Set.mem_univ (κ (c, k))) (fun h => h) (R := 0)
    (fun r _ => by
      rcases Nat.eq_zero_or_pos r with rfl | h
      · rw [duties_cell, hk]
      · exact duties_later I _ r h))
  isplitr; · iapply (recs_inv I κ (c, k)); iexact HR
  iexact Hat

/-! ## The memrefs and semaphores of a step, in closed form -/

theorem chunk_congr (M : Memref sig .tc .vmem S32x8x512 .bf16) {o o' : Fin 3 → Nat} (h : o = o') (hb hb') :
    chunk M o hb = chunk M o' hb' := by subst h; rfl

theorem r1_at (h : ∀ a, k0_off2 c a + S1.size a ≤ S32.size a) : sem32 cc0_scratch8 (k0_off2 c) h = r1S c :=
  (sem32_congr _ (k0_off2_eq c) _ _).trans (r1_eq c)
theorem r2_at (h : ∀ a, k0_off2 c a + S1.size a ≤ S32.size a) : sem32 cc0_scratch10 (k0_off2 c) h = r2S c :=
  (sem32_congr _ (k0_off2_eq c) _ _).trans (r2_eq c)
theorem r1_from (i : Fin 31) (h : ∀ a, k0_off6 c (offw i) a + S1.size a ≤ S32.size a) :
    sem32 cc0_scratch8 (k0_off6 c (offw i)) h = r1S (bwd c i) :=
  (sem32_congr _ (off6_eq c i) _ _).trans (r1_eq _)
theorem r2_from (i : Fin 31) (h : ∀ a, k0_off6 c (offw i) a + S1.size a ≤ S32.size a) :
    sem32 cc0_scratch10 (k0_off6 c (offw i)) h = r2S (bwd c i) :=
  (sem32_congr _ (off6_eq c i) _ _).trans (r2_eq _)

/-! ## The steps -/

theorem dues_step (O : CellTallies nD τ sig Unit) (t : Fin 31 → CellTallies nD τ sig Unit) (i : Fin 31)
    (l : List (Fin 31)) : O + dues t (i :: l) = O + dues t l + t i := by
  rw [dues_cons, add_comm (t i), add_assoc]

/-- The barrier's signal: the peer is handed this device's slots for it. -/
theorem step_signal (O : CellTallies nD τ sig Unit) (i : Fin 31) (l : List (Fin 31)) (K : P0 F) :
    iprop(recs I κ ∗ ow c (O + dues (tB c) (i :: l))
        ∗ (dutyTok ER (kcell (fwd c i, .bar)) 0 c ∗ slotAny rM c (fwd c i) ∗ slotAny gM c (fwd c i))
        ∗ ((ow c (O + dues (tB c) l) ∗ emp) -∗ WP c K Q))
      ⊢ WP c (signalK c i K) Q := by
  unfold signalK
  rw [peerD_eq c i]
  iintro ⟨#HR, Ho, ⟨Ht, Hr, Hg⟩, Hk⟩
  unfold ow
  icases Ho with ⟨%W, Ho⟩
  iapply (Rounds.wp_signal 𝒱₀ ER (Rd I) (c : Thread nD τ) none (dst := (fwd c i : Thread nD τ)) (sem := barS)
      (κ := κ (fwd c i, .bar)) (r := 0) (d := c) (k' := ((1#32 : BitVec 32).toInt).toNat)
      (by have := duties_cell I (fwd c i) .bar
          exact this ▸ Finset.mem_erase.mpr ⟨(fwd_ne c i).symm, Finset.mem_univ _⟩)
      (amount_cell I (fwd c i) .bar c) () (O₀ := O + dues (tB c) (i :: l)) (O + dues (tB c) l)
      (dues_step O (tB c) i l) (W := W))
    $$ [Ho Ht Hr Hg]
  · isplitr; · iapply (recs_inv I κ (fwd c i, .bar)); iexact HR
    isplitl [Ho]; · iexact Ho
    isplitl [Ht]; · iexact Ht
    isplitl [Hr Hg]
    · iapply (Entails.of_eq (payload_cell I (fwd c i) .bar c).symm)
      unfold payOf
      isplitl [Hr] <;> iassumption
    iapply (recs_reached I κ (fwd c i, .bar)); iexact HR
  iintro Ho
  iapply Hk
  isplitl [Ho]; · iexists _; iexact Ho
  iempintro

omit [FloatOps F] in
/-- The slot on the destination after a copy of a slot, at the contents there. -/
theorem landed_slot {M M' : Memref sig .tc .vmem S32x8x512 .bf16} (d s s' : Dev nD)
    (fd : M'.view.ty.Contents (Elt F)) (fs : M.view.ty.Contents (Elt F)) (g : M'.view.ty.Contents (Elt F))
    (h : ∀ y, M'.view.read (Elt F) g (at3 s' y) = M.view.read (Elt F) fs (at3 s y)) :
    ((slotM M' s').view.loc (d : Thread nD τ) ↦[(slotM M' s').view.set]{fullShare}
        ((slotM M' s').view.write (Elt F) fd ((slotM M s).view.read (Elt F) fs) Finset.univ) : sProp 𝕄)
      ⊢ slotP M' d s' fullShare g := by
  unfold slotP
  exact Entails.of_eq (pointsTo_congr (slot_write s s' fd fs h))

/-- A send of a slot to device `d'`, which pays this device's duty of its own cell `k₁` and of `d'`'s
    cell `k₂`. -/
theorem send_slot {n d' : Dev nD} (hn : n = d') {M M' : Memref sig .tc .vmem S32x8x512 .bf16} (s s' : Dev nD)
    {src dst : Memref sig .tc .vmem S8x512 .bf16} (hs : src = slotM M s) (hd : dst = slotM M' s')
    {sS sR : DmaSem sig} (k₁ k₂ : CK) (h₁ : SemLoc.dma sS = csem k₁) (h₂ : SemLoc.dma sR = csem k₂)
    (hd₁ : c ∈ dutiesOf c k₁) (hd₂ : c ∈ dutiesOf d' k₂) (ha₁ : amtOf k₁ = N) (ha₂ : amtOf k₂ = N)
    (hcr : (slotM M' s').view.dmaCredit = N) (q : PosShare TreeShare) (fs : M.view.ty.Contents (Elt F))
    (g : M'.view.ty.Contents (Elt F)) (hp₁ : payOf I c k₁ c = slotP M c s q fs)
    (hp₂ : payOf I d' k₂ c = slotP M' d' s' fullShare g)
    (hg : ∀ y, M'.view.read (Elt F) g (at3 s' y) = M.view.read (Elt F) fs (at3 s y))
    {hsc : (dst : Memref sig (Dev.tc n : Thread nD τ).2.kind .vmem S8x512 .bf16).view.ref.isScScratch = false}
    {e₁ : src.view.WordExact} {e₂ : (dst : Memref sig (Dev.tc n : Thread nD τ).2.kind .vmem S8x512 .bf16).view.WordExact}
    {e₃ : DmaTarget.Typed .vmem (.dma sR) (.remote (Dev.tc n : Thread nD τ) (dst : Memref sig (Dev.tc n : Thread nD τ).2.kind .vmem S8x512 .bf16) (.dma sS) hsc)}
    {O₀ : CellTallies nD τ sig Unit} (O : CellTallies nD τ sig Unit) (hO : O₀ = O + tallyAt (kcell (d', k₂)) () N)
    (K : P0 F) :
    iprop(recs I κ ∗ ow c O₀
        ∗ (dutyTok ER (kcell (c, k₁)) 0 c ∗ dutyTok ER (kcell (d', k₂)) 0 c
          ∗ slotP M c s q fs ∗ slotAny M' d' s')
        ∗ ((ow c O ∗ cred (tallyAt (kcell (c, k₁)) () N)) -∗ WP c K Q))
      ⊢ WP c (.op (.enqueueDma src (.remote (Dev.tc n : Thread nD τ) dst (.dma sS) hsc) (.dma sR) e₁ e₂ e₃) fun _ => K) Q := by
  subst hn hs hd
  have c₁ : kcell (c, k₁) = ((c : Thread nD τ), SemLoc.dma sS) := by rw [h₁]
  have c₂ : kcell (n, k₂) = ((n : Thread nD τ), SemLoc.dma sR) := by rw [h₂]
  have D₁ := duties_cell I c k₁
  have D₂ := duties_cell I n k₂
  have A₁ := (amount_cell I c k₁ c).trans ha₁
  have A₂ := (amount_cell I n k₂ c).trans ha₂
  have P₁ := (payload_cell I c k₁ c).trans hp₁
  have P₂ := (payload_cell I n k₂ c).trans hp₂
  have I₁ := recs_inv I κ (c, k₁)
  have I₂ := recs_inv I κ (n, k₂)
  have R₁ := recs_reached I κ (c, k₁)
  have R₂ := recs_reached I κ (n, k₂)
  rw [c₁] at D₁ A₁ P₁ I₁ R₁ ⊢
  rw [c₂] at D₂ A₂ P₂ I₂ R₂ hO ⊢
  have L := fun fd => landed_slot n s s' fd fs g hg
  unfold slotP at P₁ P₂ L
  iintro ⟨#HR, Ho, ⟨Ht, Ht', Hp, Hr⟩, Hk⟩
  unfold ow slotAny slotP
  icases Ho with ⟨%W, Ho⟩
  icases Hr with ⟨%fd, Hr⟩
  iapply (Rounds.wp_send_pointsTo 𝒱₀ ER (Rd I) (c : Thread nD τ) none (c' := (n : Thread nD τ))
      (κ₁ := κ (c, k₁)) (κ₂ := κ (n, k₂)) (src := slotM M s) (dst := slotM M' s') (sS := .dma sS) (sem := .dma sR)
      (r₁ := 0) (r₂ := 0) (d₁ := c) (d₂ := c) (q := q) (fs := fs) (fd := fd)
      (D₁ ▸ hd₁) (D₂ ▸ hd₂) () () N hcr A₁ A₂ O hO (W := W) (Entails.of_eq P₁.symm)
      ((L fd).trans (Entails.of_eq P₂.symm)))
    $$ [Ho Ht Ht' Hp Hr]
  · isplitr; · iapply I₁; iexact HR
    isplitr; · iapply I₂; iexact HR
    isplitl [Hp]; · iexact Hp
    isplitl [Hr]; · iexact Hr
    isplitl [Ho]; · iexact Ho
    isplitl [Ht]; · iexact Ht
    isplitr; · iapply R₁; iexact HR
    isplitl [Ht']; · iexact Ht'
    iapply R₂; iexact HR
  iintro ⟨Hc, Ho⟩
  iapply Hk
  isplitl [Ho]; · iexists _; iexact Ho
  iexact Hc

omit [FloatOps F] in
theorem mem_landing (c d : Dev nD) (h : c ≠ d) : c ∈ (if c = d then (∅ : Finset (Dev nD)) else {c}) := by
  rw [if_neg h]; exact Finset.mem_singleton_self c

/-- First exchange, the send to the `i`-th peer. -/
theorem step_send1 (O : CellTallies nD τ sig Unit) (i : Fin 31) (l : List (Fin 31)) (K : P0 F) :
    iprop(recs I κ ∗ ow c (O + dues (tR1 c) (i :: l))
        ∗ (dutyTok ER (kcell (c, .s1 i)) 0 c ∗ dutyTok ER (kcell (fwd c i, .r1 c)) 0 c
          ∗ slotP pM c (fwd c i) fullShare (pC I c) ∗ slotAny rM (fwd c i) c)
        ∗ ((ow c (O + dues (tR1 c) l) ∗ cred (tallyAt (kcell (c, .s1 i)) () N)) -∗ WP c K Q))
      ⊢ WP c (send1K c i K) Q := by
  unfold send1K
  have h1 := chunk_congr pM (off4_eq c i) (k0_off4_inb c i) (inbSlot (fwd c i))
  have h2 := chunk_congr rM (off3_eq c) (k0_off3_inb c) (inbSlot c)
  have h3 := congrArg SemLoc.dma (s1_eq i)
  have h4 := congrArg SemLoc.dma (r1_at c (k0_off2_inb c))
  have h5 : c ∈ dutiesOf c (.s1 i) := Finset.mem_singleton_self c
  have h6 : c ∈ dutiesOf (fwd c i) (.r1 c) := mem_landing c _ (fwd_ne c i).symm
  have h7 : payOf I c (.s1 i) c = slotP pM c (fwd c i) fullShare (pC I c) := rfl
  have h8 : payOf I (fwd c i) (.r1 c) c = slotP rM (fwd c i) c fullShare (rC I (fwd c i)) := rfl
  have h9 : ∀ y, rM.view.read (Elt F) (rC I (fwd c i)) (at3 c y) = pM.view.read (Elt F) (pC I c) (at3 (fwd c i) y) :=
    fun _ => rfl
  have X := send_slot I κ c Q (peerD_eq c i) (M := pM) (M' := rM) (fwd c i) c
    (sS := sem31 cc0_scratch7 ![i.val] (inb31 i)) h1 h2 (.s1 i) (.r1 c) h3 h4 h5 h6 rfl rfl r_credit
    fullShare (pC I c) (rC I (fwd c i)) h7 h8 h9 (hsc := rfl)
    (e₁ := ((Memref.isWhole_whole _).wordExact_slice rfl _ (k0_off4_wordsbf16 c i)).reshape _ _)
    (e₂ := ((Memref.isWhole_whole _).wordExact_slice rfl _ (k0_off3_wordsbf16 c)).reshape _ _)
    (e₃ := ⟨⟨rfl, Or.inl rfl⟩, trivial⟩) (O + dues (tR1 c) l) (dues_step O (tR1 c) i l) K
  exact X

/-- Second exchange, the send to the `i`-th peer. -/
theorem step_send2 (O : CellTallies nD τ sig Unit) (i : Fin 31) (l : List (Fin 31)) (K : P0 F) :
    iprop(recs I κ ∗ ow c (O + dues (tR2 c) (i :: l))
        ∗ (dutyTok ER (kcell (c, .s2 i)) 0 c ∗ dutyTok ER (kcell (fwd c i, .r2 c)) 0 c
          ∗ slotP gM c c (Transfers.shareTok fullShare 31 i) (gC I) ∗ slotAny gM (fwd c i) c)
        ∗ ((ow c (O + dues (tR2 c) l) ∗ cred (tallyAt (kcell (c, .s2 i)) () N)) -∗ WP c K Q))
      ⊢ WP c (send2K c i K) Q := by
  unfold send2K
  have h1 := chunk_congr gM (off3_eq c) (k0_off3_inb c) (inbSlot c)
  have h3 := congrArg SemLoc.dma (s2_eq i)
  have h4 := congrArg SemLoc.dma (r2_at c (k0_off2_inb c))
  have h5 : c ∈ dutiesOf c (.s2 i) := Finset.mem_singleton_self c
  have h6 : c ∈ dutiesOf (fwd c i) (.r2 c) := mem_landing c _ (fwd_ne c i).symm
  have h7 : payOf I c (.s2 i) c = slotP gM c c (Transfers.shareTok fullShare 31 i) (gC I) := rfl
  have h8 : payOf I (fwd c i) (.r2 c) c = slotP gM (fwd c i) c fullShare (gC I) := rfl
  have X := send_slot I κ c Q (peerD_eq c i) (M := gM) (M' := gM) c c
    (sS := sem31 cc0_scratch9 ![i.val] (inb31 i)) h1 h1 (.s2 i) (.r2 c) h3 h4 h5 h6 rfl rfl g_credit
    _ (gC I) (gC I) h7 h8 (fun _ => rfl) (hsc := rfl)
    (e₁ := ((Memref.isWhole_whole _).wordExact_slice rfl _ (k0_off3_wordsbf16 c)).reshape _ _)
    (e₂ := ((Memref.isWhole_whole _).wordExact_slice rfl _ (k0_off3_wordsbf16 c)).reshape _ _)
    (e₃ := ⟨⟨rfl, Or.inl rfl⟩, trivial⟩) (O + dues (tR2 c) l) (dues_step O (tR2 c) i l) K
  exact X

/-- A wait on one of the copies' semaphores, given by its equal in closed form. -/
theorem waitDma_one (k : CK) (d : Dev nD) (hd : dutiesOf c k = {d}) (q : DmaSem sig) (hk : csem k = .dma q)
    {sem : DmaSem sig} (hsem : sem = q) {S S' : Shape} {e e' : EltTy} {sp sp' : Space}
    {src : Memref sig .tc sp S e} {dst : Memref sig .tc sp' S' e'} {h₁ : src.view.WordExact}
    {h₂ : dst.view.WordExact} (hn : dst.view.dmaCredit = amtOf k)
    {O : CellTallies nD τ sig Unit} (hO : Above (levOf k) O) (K : P0 F) :
    iprop(recs I κ ∗ cred (tallyAt (kcell (c, k)) () (amtOf k)) ∗ ow c O ∗ atPos ER (kcell (c, k)) 0 ∅ 0
        ∗ ((ow c O ∗ payOf I c k d ∗ semVal (kcell (c, k)) 0) -∗ WP c K Q))
      ⊢ WP c (.op (.waitDma2 sem src dst h₁ h₂) fun _ => K) Q := by
  subst hsem
  exact wp_wait_one I κ c Q k d hd (fun K => by rw [hk, ← hn]; exact wpE_waitDma2_eq 𝒱₀ (c : Thread nD τ) none Set.univ K)
    rfl hO K

/-- Second exchange, the landing from the `i`-th peer. -/
theorem step_recv2 (i : Fin 31) (l : List (Fin 31)) (K : P0 F) :
    iprop(recs I κ ∗ (fun _ => ow c 0) (i :: l)
        ∗ (cred (tallyAt (kcell (c, .r2 (bwd c i))) () N) ∗ atPos ER (kcell (c, .r2 (bwd c i))) 0 ∅ 0)
        ∗ (((fun _ => ow c 0) l ∗ (slotP gM c (bwd c i) fullShare (gC I) ∗ semVal (kcell (c, .r2 (bwd c i))) 0)) -∗ WP c K Q))
      ⊢ WP c (recv2K c i K) Q := by
  unfold recv2K
  refine BIBase.Entails.trans ?_ (waitDma_one I κ c Q (.r2 (bwd c i)) (bwd c i) (if_neg (bwd_ne c i)) (r2S (bwd c i)) rfl
    (r2_from c i _) g_credit (above_zero _) K)
  iintro ⟨#HR, Ho, ⟨Hc, Hat⟩, Hk⟩
  isplitr; · iexact HR
  isplitl [Hc]; · iexact Hc
  isplitl [Ho]; · iexact Ho
  isplitl [Hat]; · iexact Hat
  iexact Hk

/-- The drain of the first exchange's `i`-th send. -/
theorem step_drain1 (i : Fin 31) (l : List (Fin 31)) (K : P0 F) :
    iprop(recs I κ ∗ (fun _ => ow c 0) (i :: l)
        ∗ (cred (tallyAt (kcell (c, .s1 i)) () N) ∗ atPos ER (kcell (c, .s1 i)) 0 ∅ 0)
        ∗ (((fun _ => ow c 0) l ∗ (slotP pM c (fwd c i) fullShare (pC I c) ∗ semVal (kcell (c, .s1 i)) 0)) -∗ WP c K Q))
      ⊢ WP c (drain1K c i K) Q := by
  unfold drain1K
  refine BIBase.Entails.trans ?_ (waitDma_one I κ c Q (.s1 i) c rfl (s1S i) rfl (s1_eq i) p_credit (above_zero _) K)
  iintro ⟨#HR, Ho, ⟨Hc, Hat⟩, Hk⟩
  isplitr; · iexact HR
  isplitl [Hc]; · iexact Hc
  isplitl [Ho]; · iexact Ho
  isplitl [Hat]; · iexact Hat
  iexact Hk

/-- The drain of the second exchange's `i`-th send. -/
theorem step_drain2 (i : Fin 31) (l : List (Fin 31)) (K : P0 F) :
    iprop(recs I κ ∗ (fun _ => ow c 0) (i :: l)
        ∗ (cred (tallyAt (kcell (c, .s2 i)) () N) ∗ atPos ER (kcell (c, .s2 i)) 0 ∅ 0)
        ∗ (((fun _ => ow c 0) l ∗ (slotP gM c c (Transfers.shareTok fullShare 31 i) (gC I) ∗ semVal (kcell (c, .s2 i)) 0)) -∗ WP c K Q))
      ⊢ WP c (drain2K c i K) Q := by
  unfold drain2K
  refine BIBase.Entails.trans ?_ (waitDma_one I κ c Q (.s2 i) c rfl (s2S i) rfl (s2_eq i) g_credit (above_zero _) K)
  iintro ⟨#HR, Ho, ⟨Hc, Hat⟩, Hk⟩
  isplitr; · iexact HR
  isplitl [Hc]; · iexact Hc
  isplitl [Ho]; · iexact Ho
  isplitl [Hat]; · iexact Hat
  iexact Hk

end Cert.KernelIdeal.AllRed

end
-- ==== Proof.Head.lean ====
/- The device's own part of the kernel: fetching its keys and values, the contexts of its heads, the
   partial product, and at the end the output. -/
module

public import proofs.«01_k».proof.Proof.Steps

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg2_0
abbrev oM : Memref sig .tc .vmem S2x128x512 .f32 := Memref.whole cc0_stg3_0

/-- A whole buffer of device `c`. -/
abbrev bufP (c : Dev nD) (b : Ref sig .tc) (f : Buf (Elt F) ((c : Thread nD τ).loc b)) : sProp 𝕄 :=
  ((c : Thread nD τ).loc b) ↦{fullShare} f

omit [FloatOps F] in
theorem viewP_whole (c : Dev nD) (b : Ref sig .tc) (f : Buf (Elt F) ((c : Thread nD τ).loc b)) :
    viewP (Memref.whole b) c f = bufP c b f := by
  unfold viewP; simp only [Memref.view_whole, View.set_whole]

variable (I : Ins F) (κ : Dev nD × CK → ℕ) (c : Dev nD) (Q : Post F)

/-! ## The local copies -/

/-- A local copy, which pays this device's duty of its own cell. -/
theorem copy_loc (b : Fin 2) {sp sp' : Space} {S : Shape} {e : EltTy} (src : Memref sig .tc sp S e)
    (dst : Memref sig .tc sp' S e) {sem : DmaSem sig} (h : SemLoc.dma sem = csem (.loc b))
    (hcr : dst.view.dmaCredit = NL) (fs : src.view.ty.Contents (Elt F)) (g : dst.view.ty.Contents (Elt F))
    (hp : payOf I c (.loc b) c = iprop(viewP dst c g ∗ viewP src c fs))
    (hw : ∀ fd, dst.view.write (Elt F) fd (src.view.read (Elt F) fs) Finset.univ = g)
    {e₁ : src.view.WordExact} {e₂ : dst.view.WordExact}
    {e₃ : DmaTarget.Typed (nD := nD) sp (.dma sem) (DmaTarget.here (p := (Proc.tc : Proc τ)) dst)} (K : P0 F) :
    iprop(recs I κ ∗ dutyTok ER (kcell (c, .loc b)) 0 c ∗ viewP src c fs ∗ (∃ f, viewP dst c f)
        ∗ (cred (tallyAt (kcell (c, .loc b)) () NL) -∗ WP c K Q))
      ⊢ WP c (.op (.enqueueDma src (.here dst) (.dma sem) e₁ e₂ e₃) fun _ => K) Q := by
  have c₁ : kcell (c, .loc b) = ((c : Thread nD τ), SemLoc.dma sem) := by rw [h]
  have D₁ := duties_cell I c (.loc b)
  have A₁ : _ = NL := amount_cell I c (.loc b) c
  have P₁ := (payload_cell I c (.loc b) c).trans hp
  have I₁ := recs_inv I κ (c, .loc b)
  have R₁ := recs_reached I κ (c, .loc b)
  rw [c₁] at D₁ A₁ P₁ I₁ R₁ ⊢
  unfold viewP at P₁ ⊢
  iintro ⟨#HR, Ht, Hs, ⟨%fd, Hd⟩, Hk⟩
  iapply (Rounds.wp_copy_pointsTo 𝒱₀ ER (Rd I) (c : Thread nD τ) none (κ := κ (c, .loc b)) (src := src) (dst := dst)
      (sem := .dma sem) (r := 0) (d := c) (q := fullShare) (fs := fs) (fd := fd)
      (D₁ ▸ Finset.mem_singleton_self c) () NL hcr A₁ (by rw [hw fd]; exact Entails.of_eq P₁.symm))
    $$ [Ht Hs Hd]
  · isplitr; · iapply I₁; iexact HR
    isplitl [Hs]; · iexact Hs
    isplitl [Hd]; · iexact Hd
    isplitl [Ht]; · iexact Ht
    iapply R₁; iexact HR
  iexact Hk

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the stretch of the fetches uses of the protocol: the copies' cells. -/
def locRes : sProp 𝕄 :=
  iprop((dutyTok ER (kcell (c, .loc 0)) 0 c ∗ atPos ER (kcell (c, .loc 0)) 0 ∅ 0)
    ∗ (dutyTok ER (kcell (c, .loc 1)) 0 c ∗ atPos ER (kcell (c, .loc 1)) 0 ∅ 0))

/-- The buffers a device only reads. -/
def readBufs : sProp 𝕄 :=
  iprop(bufP c cc0_stg0_0 (I.x c) ∗ bufP c cc0_stg1_0 (I.wq c) ∗ bufP c main_arg2 (I.kA c) ∗ bufP c main_arg3 (I.vA c))

theorem wp_fetch (K : Vec F S2x128x512 .f32 → Vec F S512x256 .f32 → Vec F S2x128x4x64 .f32 →
      Vec F S2x128x4x64 .f32 → P0 F) :
    iprop(recs I κ ∗ locRes c ∗ readBufs I c ∗ (∃ f, bufP c cc0_scratch0 f) ∗ (∃ f, bufP c cc0_scratch1 f) ∗ ow c (O₀ c)
        ∗ ((readBufs I c ∗ bufP c cc0_scratch0 (I.k c) ∗ bufP c cc0_scratch1 (I.v c) ∗ ow c (O₀ c)
            ∗ semVal (kcell (c, .loc 0)) 0 ∗ semVal (kcell (c, .loc 1)) 0)
          -∗ WP c (K (I.x c) (I.wq c) (I.k c) (I.v c)) Q))
      ⊢ WP c (fetchK c xM wqM K) Q := by
  unfold fetchK locRes readBufs
  have hk : ∀ f : Buf (Elt F) ((c : Thread nD τ).loc main_arg2), (bufP c main_arg2 f : sProp 𝕄) ⊣⊢
      iprop(viewP (kSrc c) c f ∗ ((c : Thread nD τ).loc main_arg2 ↦[Finset.univ \ (kSrc c).view.set]{fullShare} f)) :=
    fun f => pointsTo_split_subset (Finset.subset_univ _)
  have hv : ∀ f : Buf (Elt F) ((c : Thread nD τ).loc main_arg3), (bufP c main_arg3 f : sProp 𝕄) ⊣⊢
      iprop(viewP (vSrc c) c f ∗ ((c : Thread nD τ).loc main_arg3 ↦[Finset.univ \ (vSrc c).view.set]{fullShare} f)) :=
    fun f => pointsTo_split_subset (Finset.subset_univ _)
  iintro ⟨#HR, ⟨⟨Ht0, Hat0⟩, ⟨Ht1, Hat1⟩⟩, ⟨Hx, Hwq, Hk2, Hv2⟩, Hs0, Hs1, Ho, Hk⟩
  ihave Hk2 := (hk (I.kA c)).1 $$ Hk2
  ihave Hv2 := (hv (I.vA c)).1 $$ Hv2
  icases Hk2 with ⟨Hk2, Hk2'⟩
  icases Hv2 with ⟨Hv2, Hv2'⟩
  icases Hs0 with ⟨%f0, Hs0⟩
  icases Hs1 with ⟨%f1, Hs1⟩
  iapply (copy_loc I κ c Q 0 (kSrc c) kM (congrArg SemLoc.dma loc0_eq) k_credit (I.kA c) (I.k c) rfl
    (fun fd => View.write_whole_univ cc0_scratch0 _ _) _)
  isplitr; · iexact HR
  isplitl [Ht0]; · iexact Ht0
  isplitl [Hk2]; · iexact Hk2
  isplitl [Hs0]
  · iexists f0; iapply (Entails.of_eq (viewP_whole c cc0_scratch0 f0).symm); iexact Hs0
  iintro Hc0
  iapply (copy_loc I κ c Q 1 (vSrc c) vM (congrArg SemLoc.dma loc1_eq) v_credit (I.vA c) (I.v c) rfl
    (fun fd => View.write_whole_univ cc0_scratch1 _ _) _)
  isplitr; · iexact HR
  isplitl [Ht1]; · iexact Ht1
  isplitl [Hv2]; · iexact Hv2
  isplitl [Hs1]
  · iexists f1; iapply (Entails.of_eq (viewP_whole c cc0_scratch1 f1).symm); iexact Hs1
  iintro Hc1
  iapply (wp_load 𝒱₀ (c : Thread nD τ) none Set.univ (m := xM) (Finset.subset_univ _)) $$ Hx; iintro Hx
  rw [show xM.view.readAt (Elt F) (Rect.unit (s := S2x128x512) ![0, 0, 0] S2x128x512.size
    inb_S2x128x512_S2x128x512_0_0_0).toLoadRect (I.x c) = I.x c from Memref.readAt_unit_zero (Elt F) cc0_stg0_0 hz3 _ _]
  iapply (wp_load 𝒱₀ (c : Thread nD τ) none Set.univ (m := wqM) (Finset.subset_univ _)) $$ Hwq; iintro Hwq
  rw [show wqM.view.readAt (Elt F) (Rect.unit (s := S512x256) ![0, 0] S512x256.size
    inb_S512x256_S512x256_0_0).toLoadRect (I.wq c) = I.wq c from Memref.readAt_unit_zero (Elt F) cc0_stg1_0 hz2 _ _]
  iapply (waitDma_one I κ c Q (.loc 0) c rfl (locS 0) rfl loc0_eq k_credit (above_O₀ c) _)
  isplitr; · iexact HR
  isplitl [Hc0]; · iexact Hc0
  isplitl [Ho]; · iexact Ho
  isplitl [Hat0]; · iexact Hat0
  iintro ⟨Ho, Hp0, Hz0⟩
  iapply (waitDma_one I κ c Q (.loc 1) c rfl (locS 1) rfl loc1_eq v_credit (above_O₀ c) _)
  isplitr; · iexact HR
  isplitl [Hc1]; · iexact Hc1
  isplitl [Ho]; · iexact Ho
  isplitl [Hat1]; · iexact Hat1
  iintro ⟨Ho, Hp1, Hz1⟩
  ihave Hp0 := (Entails.of_eq (show payOf I c (.loc 0) c = iprop(viewP kM c (I.k c) ∗ viewP (kSrc c) c (I.kA c)) from rfl)) $$ Hp0
  ihave Hp1 := (Entails.of_eq (show payOf I c (.loc 1) c = iprop(viewP vM c (I.v c) ∗ viewP (vSrc c) c (I.vA c)) from rfl)) $$ Hp1
  icases Hp0 with ⟨Hs0, Hk2⟩
  icases Hp1 with ⟨Hs1, Hv2⟩
  ihave Hs0 := (Entails.of_eq (viewP_whole c cc0_scratch0 (I.k c))) $$ Hs0
  ihave Hs1 := (Entails.of_eq (viewP_whole c cc0_scratch1 (I.v c))) $$ Hs1
  iapply (wp_load 𝒱₀ (c : Thread nD τ) none Set.univ (m := kM) (Finset.subset_univ _)) $$ Hs0; iintro Hs0
  rw [show kM.view.readAt (Elt F) (Rect.unit (s := S2x128x4x64) ![0, 0, 0, 0] S2x128x4x64.size
    inb_S2x128x4x64_S2x128x4x64_0_0_0_0).toLoadRect (I.k c) = I.k c from Memref.readAt_unit_zero (Elt F) cc0_scratch0 hz4 _ _]
  iapply (wp_load 𝒱₀ (c : Thread nD τ) none Set.univ (m := vM) (Finset.subset_univ _)) $$ Hs1; iintro Hs1
  rw [show vM.view.readAt (Elt F) (Rect.unit (s := S2x128x4x64) ![0, 0, 0, 0] S2x128x4x64.size
    inb_S2x128x4x64_S2x128x4x64_0_0_0_0).toLoadRect (I.v c) = I.v c from Memref.readAt_unit_zero (Elt F) cc0_scratch1 hz4 _ _]
  iapply Hk
  isplitl [Hx Hwq Hk2 Hk2' Hv2 Hv2']
  · isplitl [Hx]; · iexact Hx
    isplitl [Hwq]; · iexact Hwq
    isplitl [Hk2 Hk2']
    · iapply (hk (I.kA c)).2
      isplitl [Hk2] <;> iassumption
    iapply (hv (I.vA c)).2
    isplitl [Hv2] <;> iassumption
  isplitl [Hs0]; · iexact Hs0
  isplitl [Hs1]; · iexact Hs1
  isplitl [Ho]; · iexact Ho
  isplitl [Hz0] <;> iassumption

/-! ## The contexts and the partial product -/

theorem wp_putHead (off : Fin 2 → Nat) (h : ∀ a, off a + S128x64.size a ≤ S256x256.size a)
    (w : FVec F S128x64 .f32) (f : cM.view.ty.Contents (Elt F)) (K : P0 F) :
    iprop(bufP c cc0_scratch2 f ∗ (bufP c cc0_scratch2 (putW off h f w) -∗ WP c K Q))
      ⊢ WP c (putHead off h w K) Q := by
  unfold putHead
  iintro ⟨Hc, Hk⟩
  iapply (wp_load 𝒱₀ (c : Thread nD τ) none Set.univ (m := cM) (Finset.subset_univ _)) $$ Hc; iintro Hc
  iapply (wp_store 𝒱₀ (c : Thread nD τ) none Set.univ (m := cM) (r := Rect.unit (s := S256x256) off S128x64.size h)
    (Mk := Finset.univ) (Finset.subset_univ _)) $$ Hc; iintro Hc
  iapply Hk
  iexact Hc

theorem wp_heads (q : FVec F S256x256 .f32) (k v : Vec F S2x128x4x64 .f32) (K : P0 F) :
    iprop((∃ f, bufP c cc0_scratch2 f) ∗ (bufP c cc0_scratch2 (ctxOf q k v) -∗ WP c K Q))
      ⊢ WP c (headsK q k v K) Q := by
  unfold headsK
  iintro ⟨⟨%f, Hc⟩, Hk⟩
  iapply (wp_putHead c Q); isplitl [Hc]; · iexact Hc
  iintro Hc
  iapply (wp_putHead c Q); isplitl [Hc]; · iexact Hc
  iintro Hc
  iapply (wp_putHead c Q); isplitl [Hc]; · iexact Hc
  iintro Hc
  iapply (wp_putHead c Q); isplitl [Hc]; · iexact Hc
  iintro Hc
  iapply (wp_putHead c Q); isplitl [Hc]; · iexact Hc
  iintro Hc
  iapply (wp_putHead c Q); isplitl [Hc]; · iexact Hc
  iintro Hc
  iapply (wp_putHead c Q); isplitl [Hc]; · iexact Hc
  iintro Hc
  iapply (wp_putHead c Q); isplitl [Hc]; · iexact Hc
  iintro Hc
  iapply Hk
  iapply (Entails.of_eq (congrArg (fun g => (bufP c cc0_scratch2 g : sProp 𝕄)) (ctx_writes q k v f)))
  iexact Hc

theorem wp_proj (cv : Vec F S256x256 .f32) (wo : Vec F S256x512 .f32) (K : P0 F) :
    iprop(bufP c cc0_scratch2 cv ∗ bufP c cc0_stg2_0 wo ∗ (∃ f, bufP c cc0_scratch3 f)
        ∗ ((bufP c cc0_scratch2 cv ∗ bufP c cc0_stg2_0 wo ∗ bufP c cc0_scratch3 (k0_pay16 cv wo)) -∗ WP c K Q))
      ⊢ WP c (projK woM K) Q := by
  unfold projK
  iintro ⟨Hc, Hw, ⟨%f, Hp⟩, Hk⟩
  iapply (wp_load 𝒱₀ (c : Thread nD τ) none Set.univ (m := cM) (Finset.subset_univ _)) $$ Hc; iintro Hc
  rw [show cM.view.readAt (Elt F) (Rect.unit (s := S256x256) ![0, 0] S256x256.size
    inb_S256x256_S256x256_0_0).toLoadRect cv = cv from Memref.readAt_unit_zero (Elt F) cc0_scratch2 hz2 _ _]
  iapply (wp_load 𝒱₀ (c : Thread nD τ) none Set.univ (m := woM) (Finset.subset_univ _)) $$ Hw; iintro Hw
  rw [show woM.view.readAt (Elt F) (Rect.unit (s := S256x512) ![0, 0] S256x512.size
    inb_S256x512_S256x512_0_0).toLoadRect wo = wo from Memref.readAt_unit_zero (Elt F) cc0_stg2_0 hz2 _ _]
  iapply (wp_load 𝒱₀ (c : Thread nD τ) none Set.univ (m := pM) (Finset.subset_univ _)) $$ Hp; iintro Hp
  iapply (wp_store 𝒱₀ (c : Thread nD τ) none Set.univ (m := pM) (r := Rect.unit (s := S32x8x512) ![0, 0, 0] S32x8x512.size
    inb_S32x8x512_S32x8x512_0_0_0) (Mk := Finset.univ) (Finset.subset_univ _)) $$ Hp; iintro Hp
  rw [show (pM.access (Rect.unit (s := S32x8x512) ![0, 0, 0] S32x8x512.size inb_S32x8x512_S32x8x512_0_0_0) :
    View sig .tc _ _ _).write (Elt F) f (k0_pay16 cv wo) Finset.univ = k0_pay16 cv wo from
    Memref.write_access_unit_zero_univ (Elt F) cc0_scratch3 hz3 _ _ _]
  iapply Hk
  isplitl [Hc]; · iexact Hc
  isplitl [Hw]; · iexact Hw
  iexact Hp

/-! ## The output -/

theorem wp_finish (g : Vec F S32x8x512 .bf16) :
    iprop(bufP c cc0_scratch5 g ∗ (∃ f, bufP c cc0_stg3_0 f)
        ∗ ((bufP c cc0_scratch5 g ∗ bufP c cc0_stg3_0 (k0_pay43 g)) -∗ Q ⟨⟩))
      ⊢ WP c (finishK oM) Q := by
  unfold finishK
  iintro ⟨Hg, ⟨%f, Hf⟩, Hk⟩
  iapply (wp_load 𝒱₀ (c : Thread nD τ) none Set.univ (m := gM) (Finset.subset_univ _)) $$ Hg; iintro Hg
  rw [show gM.view.readAt (Elt F) (Rect.unit (s := S32x8x512) ![0, 0, 0] S32x8x512.size
    inb_S32x8x512_S32x8x512_0_0_0).toLoadRect g = g from Memref.readAt_unit_zero (Elt F) cc0_scratch5 hz3 _ _]
  iapply (wp_load 𝒱₀ (c : Thread nD τ) none Set.univ (m := oM) (Finset.subset_univ _)) $$ Hf; iintro Hf
  iapply (wp_store 𝒱₀ (c : Thread nD τ) none Set.univ (m := oM) (r := Rect.unit (s := S2x128x512) ![0, 0, 0] S2x128x512.size
    inb_S2x128x512_S2x128x512_0_0_0) (Mk := Finset.univ) (Finset.subset_univ _)) $$ Hf; iintro Hf
  rw [show (oM.access (Rect.unit (s := S2x128x512) ![0, 0, 0] S2x128x512.size inb_S2x128x512_S2x128x512_0_0_0) :
    View sig .tc _ _ _).write (Elt F) f (k0_pay43 g) Finset.univ = k0_pay43 g from
    Memref.write_access_unit_zero_univ (Elt F) cc0_stg3_0 hz3 _ _ _, wp_ret]
  imodintro
  iapply Hk
  isplitl [Hg] <;> iassumption

end Cert.KernelIdeal.AllRed

end
-- ==== Proof.Comm.lean ====
/- The two exchanges of the kernel: the landings of the first with the accumulator, this device's own
   slots, and the loops put together. -/
module

public import proofs.«01_k».proof.Proof.Head

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Loads and stores of a slot -/

theorem slot_sub (M : Memref sig .tc .vmem S32x8x512 .bf16) (s : Dev nD) {off : Fin 3 → Nat} (h : off = ![s.val, 0, 0])
    (hb : ∀ a, off a + S1x8x512.size a ≤ S32x8x512.size a) :
    M.view.setOn (Rect.unit (s := S32x8x512) off S1x8x512.size hb).toLoadRect.set ⊆ (slotM M s).view.set := by
  subst h
  intro i hi
  obtain ⟨x, hx, rfl⟩ := Finset.mem_map.mp hi
  rw [mem_slot]
  have := (Rect.mem_set_unit.mp hx) 0
  refine Fin.ext ?_
  have h1 : s.val ≤ (x 0).val := this.1
  have h2 : (x 0).val < s.val + 1 := this.2
  omega

omit [FloatOps F] in
theorem slot_read (M : Memref sig .tc .vmem S32x8x512 .bf16) (s : Dev nD)
    {off : Fin 3 → Nat} (h : off = ![s.val, 0, 0]) (hb : ∀ a, off a + S1x8x512.size a ≤ S32x8x512.size a)
    (f : M.view.ty.Contents (Elt F)) (y : S1x8x512.Idx) :
    M.view.readAt (Elt F) (Rect.unit (s := S32x8x512) off S1x8x512.size hb).toLoadRect f y
      = M.view.read (Elt F) f (ix3 s (y 1) (y 2)) := by
  subst h
  rw [View.readAt_apply]
  refine congrArg _ (funext fun a => Fin.ext ?_)
  have h0 : (y 0).val < 1 := (y 0).isLt
  match a with
  | ⟨0, _⟩ => show s.val + 1 * (y 0).val = s.val; omega
  | ⟨1, _⟩ => show 0 + 1 * (y 1).val = (y 1).val; omega
  | ⟨2, _⟩ => show 0 + 1 * (y 2).val = (y 2).val; omega

variable (I : Ins F) (κ : Dev nD × CK → ℕ) (c : Dev nD) (Q : Post F)

/-! ## The first exchange's landings -/

theorem wp_recv1 (O : CellTallies nD τ sig Unit) (hO : Above 2 O) (l : List (Fin 31)) :
    ∀ (a : FVec F S8x512 .f32) (K : FVec F S8x512 .f32 → P0 F),
    iprop(recs I κ ∗ ow c O
        ∗ bigSepL l (fun i => iprop(cred (tallyAt (kcell (c, .r1 (bwd c i))) () N) ∗ atPos ER (kcell (c, .r1 (bwd c i))) 0 ∅ 0))
        ∗ ((ow c O ∗ bigSepL l (fun i => iprop(slotP rM c (bwd c i) fullShare (rC I c) ∗ semVal (kcell (c, .r1 (bwd c i))) 0)))
          -∗ WP c (K (accFrom I c l a)) Q))
      ⊢ WP c (recv1K c l a K) Q := by
  induction l with
  | nil =>
    intro a K
    unfold recv1K
    iintro ⟨-, Ho, HA, Hk⟩
    iapply Hk
    isplitl [Ho]; · iexact Ho
    iexact HA
  | cons i l ih =>
    intro a K
    unfold recv1K
    rw [bigSepL_cons' i l (fun i => iprop(cred (tallyAt (kcell (c, .r1 (bwd c i))) () N) ∗ atPos ER (kcell (c, .r1 (bwd c i))) 0 ∅ 0)),
      bigSepL_cons' i l (fun i => iprop(slotP rM c (bwd c i) fullShare (rC I c) ∗ semVal (kcell (c, .r1 (bwd c i))) 0))]
    iintro ⟨#HR, Ho, ⟨⟨Hc, Hat⟩, HA⟩, Hk⟩
    iapply (waitDma_one I κ c Q (.r1 (bwd c i)) (bwd c i) (if_neg (bwd_ne c i)) (r1S (bwd c i)) rfl
      (r1_from c i _) r_credit hO _)
    isplitr; · iexact HR
    isplitl [Hc]; · iexact Hc
    isplitl [Ho]; · iexact Ho
    isplitl [Hat]; · iexact Hat
    iintro ⟨Ho, Hp, Hz⟩
    ihave Hp := (Entails.of_eq (show payOf I c (.r1 (bwd c i)) (bwd c i)
      = ((slotM rM (bwd c i)).view.loc (c : Thread nD τ) ↦[(slotM rM (bwd c i)).view.set]{fullShare} (rC I c) : sProp 𝕄) from rfl)) $$ Hp
    iapply (wp_load 𝒱₀ (c : Thread nD τ) none Set.univ (m := rM) (slot_sub rM (bwd c i) (off8_eq c i) _)) $$ Hp; iintro Hp
    rw [show rM.view.readAt (Elt F) (Rect.unit (s := S32x8x512) (k0_off8 c (offw i)) S1x8x512.size
      (k0_off8_inb c i)).toLoadRect (rC I c) = slotV (rC I c) (bwd c i) from
      funext fun y => slot_read rM (bwd c i) (off8_eq c i) _ (rC I c) y]
    iapply ih
    isplitr; · iexact HR
    isplitl [Ho]; · iexact Ho
    isplitl [HA]; · iexact HA
    iintro ⟨Ho, HB⟩
    iapply Hk
    isplitl [Ho]; · iexact Ho
    isplitl [Hp Hz]
    · isplitl [Hp]; · unfold slotP; iexact Hp
      iexact Hz
    iexact HB

/-! ## This device's own slots -/

theorem wp_own (K : FVec F S8x512 .f32 → P0 F) :
    iprop(slotP pM c c fullShare (pC I c) ∗ (slotP pM c c fullShare (pC I c) -∗ WP c (K (asAcc (slotV (pC I c) c))) Q))
      ⊢ WP c (ownK c K) Q := by
  unfold ownK slotP
  iintro ⟨Hp, Hk⟩
  iapply (wp_load 𝒱₀ (c : Thread nD τ) none Set.univ (m := pM) (slot_sub pM c (k0_off5_eq c) _)) $$ Hp; iintro Hp
  rw [show pM.view.readAt (Elt F) (Rect.unit (s := S32x8x512) (k0_off5 c) S1x8x512.size
    (k0_off5_inb c)).toLoadRect (pC I c) = slotV (pC I c) c from
    funext fun y => slot_read pM c (k0_off5_eq c) _ (pC I c) y]
  iapply Hk; iexact Hp

theorem own_write (f : gM.view.ty.Contents (Elt F)) {off : Fin 3 → Nat} (h : off = ![c.val, 0, 0])
    (hb : ∀ a, off a + S1x8x512.size a ≤ S32x8x512.size a) :
    ∀ i ∈ (slotM gM c).view.set,
      (gM.access (Rect.unit (s := S32x8x512) off S1x8x512.size hb) : View sig .tc _ _ _).write (Elt F) f
        (asChunk (accC I c)) Finset.univ i = gC I i := by
  subst h
  intro i hi
  have hi0 : (i : S32x8x512.Idx) 0 = c := (mem_slot gM c i).mp hi
  have he : (gM.access (Rect.unit (s := S32x8x512) ![c.val, 0, 0] S1x8x512.size hb) : View sig .tc _ _ _).emb
      (ix3 (0 : Fin 1) ((i : S32x8x512.Idx) 1) ((i : S32x8x512.Idx) 2)) = i := by
    funext a
    refine Fin.ext ?_
    match a with
    | ⟨0, _⟩ =>
      show c.val + 1 * 0 = ((i : S32x8x512.Idx) 0).val
      rw [hi0]; omega
    | ⟨1, _⟩ => show 0 + 1 * ((i : S32x8x512.Idx) 1).val = ((i : S32x8x512.Idx) 1).val; omega
    | ⟨2, _⟩ => show 0 + 1 * ((i : S32x8x512.Idx) 2).val = ((i : S32x8x512.Idx) 2).val; omega
  have := View.write_emb_of_mem (v := (gM.access (Rect.unit (s := S32x8x512) ![c.val, 0, 0] S1x8x512.size hb) :
    View sig .tc _ _ _)) (Val := Elt F) f (asChunk (accC I c)) (M := Finset.univ)
    (x := ix3 (0 : Fin 1) ((i : S32x8x512.Idx) 1) ((i : S32x8x512.Idx) 2)) (Finset.mem_univ _)
  rw [he] at this
  refine this.trans ?_
  show asChunk (accC I c) _ = asChunk (accC I ((i : S32x8x512.Idx) 0)) _
  rw [hi0]

theorem own_sub {off : Fin 3 → Nat} (h : off = ![c.val, 0, 0])
    (hb : ∀ a, off a + S1x8x512.size a ≤ S32x8x512.size a) :
    (gM.access (Rect.unit (s := S32x8x512) off S1x8x512.size hb) : View sig .tc _ _ _).setOn Finset.univ
      ⊆ (slotM gM c).view.set := by
  rw [View.setOn_univ]
  refine Finset.Subset.trans ?_ (slot_sub gM c h hb)
  rw [View.set_slice gM.view]; exact Finset.Subset.refl _

theorem wp_putOwn (K : P0 F) :
    iprop(slotAny gM c c ∗ (slotP gM c c fullShare (gC I) -∗ WP c K Q)) ⊢ WP c (putOwnK c (accC I c) K) Q := by
  unfold putOwnK slotAny slotP
  iintro ⟨⟨%f, Hg⟩, Hk⟩
  iapply (wp_load 𝒱₀ (c : Thread nD τ) none Set.univ (m := gM) (slot_sub gM c (k0_off5_eq c) _)) $$ Hg; iintro Hg
  iapply (wp_store 𝒱₀ (c : Thread nD τ) none Set.univ (m := gM) (r := Rect.unit (s := S32x8x512) (k0_off5 c) S1x8x512.size (k0_off5_inb c))
    (Mk := Finset.univ) (own_sub c (k0_off5_eq c) _)) $$ Hg; iintro Hg
  iapply Hk
  iapply (Entails.of_eq (pointsTo_congr (own_write I c f (k0_off5_eq c) (k0_off5_inb c))))
  iexact Hg

/-! ## A buffer and its slots -/

omit [FloatOps F] in
/-- A family over the devices is its member at `c` and those at the peers `c` addresses, -/
theorem bigSep_fwd (c : Dev nD) (Φ : Dev nD → sProp 𝕄) :
    bigSep (Finset.univ.erase c) Φ = bigSep Finset.univ (fun i => Φ (fwd c i)) := by
  rw [← map_fwd c]; exact BI.bigSep_map (fwdE c)
omit [FloatOps F] in
/-- or hears from. -/
theorem bigSep_bwd (c : Dev nD) (Φ : Dev nD → sProp 𝕄) :
    bigSep (Finset.univ.erase c) Φ = bigSep Finset.univ (fun i => Φ (bwd c i)) := by
  rw [← map_bwd c]; exact BI.bigSep_map (bwdE c)
omit [FloatOps F] in
theorem all_fwd (c : Dev nD) (Φ : Dev nD → sProp 𝕄) :
    bigSep Finset.univ Φ = iprop(Φ c ∗ bigSep Finset.univ (fun i => Φ (fwd c i))) := by
  rw [← bigSep_fwd]; exact BI.bigSep_erase (Finset.mem_univ c)
omit [FloatOps F] in
theorem all_bwd (c : Dev nD) (Φ : Dev nD → sProp 𝕄) :
    bigSep Finset.univ Φ = iprop(Φ c ∗ bigSep Finset.univ (fun i => Φ (bwd c i))) := by
  rw [← bigSep_bwd]; exact BI.bigSep_erase (Finset.mem_univ c)

omit [FloatOps F] in
/-- A whole communication buffer is its slots, -/
theorem slots_eq (M : Memref sig .tc .vmem S32x8x512 .bf16) (hM : M.view.set = Finset.univ) (f : M.view.ty.Contents (Elt F)) :
    (M.view.loc (c : Thread nD τ) ↦{fullShare} f : sProp 𝕄) = bigSep Finset.univ (fun s => slotP M c s fullShare f) := by
  unfold slotP
  exact Ring.pointsTo_blocks (ℓ := M.view.loc (c : Thread nD τ)) (fun s => (slotM M s).view.set) (slot_disjoint M)
    ((slot_cover M).trans hM) f
omit [FloatOps F] in
/-- and slots at contents of their own make a whole buffer. -/
theorem slots_join (M : Memref sig .tc .vmem S32x8x512 .bf16) (hM : M.view.set = Finset.univ) (f₀ : M.view.ty.Contents (Elt F)) :
    bigSep Finset.univ (fun s => slotAny M c s) ⊢ (iprop(∃ f, M.view.loc (c : Thread nD τ) ↦{fullShare} f) : sProp 𝕄) := by
  unfold slotAny slotP
  exact Ring.pointsTo_blocks_join_exists (ℓ := M.view.loc (c : Thread nD τ)) (fun s => (slotM M s).view.set) (slot_disjoint M)
    ((slot_cover M).trans hM) f₀
omit [FloatOps F] in
theorem slots_p (f : pM.view.ty.Contents (Elt F)) :
    (bufP c cc0_scratch3 f : sProp 𝕄) = bigSep Finset.univ (fun s => slotP pM c s fullShare f) :=
  slots_eq c pM (View.set_whole cc0_scratch3) f
omit [FloatOps F] in
theorem slots_r (f : rM.view.ty.Contents (Elt F)) :
    (bufP c cc0_scratch4 f : sProp 𝕄) = bigSep Finset.univ (fun s => slotP rM c s fullShare f) :=
  slots_eq c rM (View.set_whole cc0_scratch4) f
omit [FloatOps F] in
theorem slots_g (f : gM.view.ty.Contents (Elt F)) :
    (bufP c cc0_scratch5 f : sProp 𝕄) = bigSep Finset.univ (fun s => slotP gM c s fullShare f) :=
  slots_eq c gM (View.set_whole cc0_scratch5) f
omit [FloatOps F] in
theorem slots_r_join (f₀ : rM.view.ty.Contents (Elt F)) :
    bigSep Finset.univ (fun s => slotAny rM c s) ⊢ (iprop(∃ f, bufP c cc0_scratch4 f) : sProp 𝕄) :=
  slots_join c rM (View.set_whole cc0_scratch4) f₀

omit [FloatOps F] in
theorem slot_any (M : Memref sig .tc .vmem S32x8x512 .bf16) (s : Dev nD) (f : M.view.ty.Contents (Elt F)) :
    (slotP M c s fullShare f : sProp 𝕄) ⊢ slotAny M c s := by
  unfold slotAny; iintro H; iexists f; iexact H

/-! ## The exchanges -/

/-- The loop rule over the thirty-one offsets. -/
theorem wp_loop_offs (R : sProp 𝕄) [BI.Persistent R] (step : Fin 31 → P0 F → P0 F)
    (St : List (Fin 31) → sProp 𝕄) (A B : Fin 31 → sProp 𝕄)
    (h : ∀ i l K, iprop(R ∗ St (i :: l) ∗ A i ∗ ((St l ∗ B i) -∗ WP c K Q)) ⊢ WP c (step i K) Q) (K : P0 F) :
    iprop(R ∗ St offs ∗ bigSep Finset.univ A ∗ ((St [] ∗ bigSep Finset.univ B) -∗ WP c K Q))
      ⊢ WP c (loopK step offs K) Q := by
  rw [bigSep_univ_eq_bigSepL offs offs_univ offs_nodup A, bigSep_univ_eq_bigSepL offs offs_univ offs_nodup B]
  exact wp_loop c Q R step St A B h offs K

/-- A family over the offsets. -/
abbrev perOff (Φ : Fin 31 → sProp 𝕄) : sProp 𝕄 := bigSep Finset.univ Φ

/-- What the exchanges use of the protocol. -/
def exRes : sProp 𝕄 :=
  iprop((perOff (fun i => dutyTok ER (kcell (c, .s1 i)) 0 c) ∗ perOff (fun i => dutyTok ER (kcell (fwd c i, .r1 c)) 0 c))
    ∗ (perOff (fun i => dutyTok ER (kcell (c, .s2 i)) 0 c) ∗ perOff (fun i => dutyTok ER (kcell (fwd c i, .r2 c)) 0 c))
    ∗ (perOff (fun i => cred (tallyAt (kcell (c, .r1 (bwd c i))) () N)) ∗ perOff (fun i => atPos ER (kcell (c, .r1 (bwd c i))) 0 ∅ 0))
    ∗ (perOff (fun i => cred (tallyAt (kcell (c, .r2 (bwd c i))) () N)) ∗ perOff (fun i => atPos ER (kcell (c, .r2 (bwd c i))) 0 ∅ 0))
    ∗ perOff (fun i => atPos ER (kcell (c, .s1 i)) 0 ∅ 0) ∗ perOff (fun i => atPos ER (kcell (c, .s2 i)) 0 ∅ 0))

/-- The semaphores of the exchanges, closed. -/
def exSems : sProp 𝕄 :=
  iprop(perOff (fun i => semVal (kcell (c, .s1 i)) 0) ∗ perOff (fun i => semVal (kcell (c, .r1 (bwd c i))) 0)
    ∗ perOff (fun i => semVal (kcell (c, .s2 i)) 0) ∗ perOff (fun i => semVal (kcell (c, .r2 (bwd c i))) 0))

theorem wp_exchange :
    iprop(recs I κ ∗ exRes c ∗ ow c (dues (tR2 c) offs + dues (tR1 c) offs) ∗ bufP c cc0_scratch3 (pC I c)
        ∗ slotAny rM c c ∗ slotAny gM c c
        ∗ (perOff (fun i => slotAny rM (fwd c i) c) ∗ perOff (fun i => slotAny gM (fwd c i) c))
        ∗ (∃ f, bufP c cc0_stg3_0 f)
        ∗ ((bufP c cc0_scratch3 (pC I c) ∗ (∃ f, bufP c cc0_scratch4 f) ∗ bufP c cc0_scratch5 (gC I)
            ∗ bufP c cc0_stg3_0 (outC I) ∗ ow c 0 ∗ exSems c) -∗ Q ⟨⟩))
      ⊢ WP c (exchangeK c oM) Q := by
  unfold exchangeK exRes exSems
  iintro ⟨#HR, ⟨⟨Hts1, Htr1⟩, ⟨Hts2, Htr2⟩, ⟨Hcr1, Har1⟩, ⟨Hcr2, Har2⟩, Has1, Has2⟩, Ho, Hp, Hrc, Hgc, ⟨Hr, Hg⟩, Hout, Hk⟩
  ihave Hp := (Entails.of_eq ((slots_p c (pC I c)).trans (all_fwd c _))) $$ Hp
  icases Hp with ⟨Hpc, Hp⟩
  -- the sends of the first exchange
  iapply (wp_loop_offs c Q (recs I κ) (send1K c) (fun l => ow c (dues (tR2 c) offs + dues (tR1 c) l))
    (fun i => iprop(dutyTok ER (kcell (c, .s1 i)) 0 c ∗ dutyTok ER (kcell (fwd c i, .r1 c)) 0 c
      ∗ slotP pM c (fwd c i) fullShare (pC I c) ∗ slotAny rM (fwd c i) c))
    (fun i => cred (tallyAt (kcell (c, .s1 i)) () N)) (fun i l K => step_send1 I κ c Q _ i l K))
  isplitr; · iexact HR
  isplitl [Ho]; · iexact Ho
  isplitl [Hts1 Htr1 Hp Hr]
  · rw [bigSep_sep', bigSep_sep', bigSep_sep']
    isplitl [Hts1]; · iexact Hts1
    isplitl [Htr1]; · iexact Htr1
    isplitl [Hp]; · iexact Hp
    iexact Hr
  iintro ⟨Ho, Hcs1⟩
  ihave Ho := (Entails.of_eq (show ow (F := F) c (dues (tR2 c) offs + dues (tR1 c) []) = ow c (dues (tR2 c) offs) by
    rw [dues_nil, add_zero])) $$ Ho
  -- the accumulator
  iapply (wp_own I c Q); isplitl [Hpc]; · iexact Hpc
  iintro Hpc
  iapply (wp_recv1 I κ c Q (dues (tR2 c) offs) (above_R2 c offs) offs)
  isplitr; · iexact HR
  isplitl [Ho]; · iexact Ho
  isplitl [Hcr1 Har1]
  · rw [← bigSep_univ_eq_bigSepL offs offs_univ offs_nodup, bigSep_sep']
    isplitl [Hcr1]; · iexact Hcr1
    iexact Har1
  rw [← bigSep_univ_eq_bigSepL offs offs_univ offs_nodup, bigSep_sep']
  iintro ⟨Ho, Hrs, Hzr1⟩
  iapply (wp_putOwn I c Q); isplitl [Hgc]; · iexact Hgc
  iintro Hgc
  ihave Hgc := (show slotP gM c c fullShare (gC I) ⊢ iprop(slotP gM c c (Transfers.shareDrop fullShare 31) (gC I)
    ∗ perOff (fun i => slotP gM c c (Transfers.shareTok fullShare 31 i) (gC I))) from
    Transfers.pointsTo_toks_split fullShare 31) $$ Hgc
  icases Hgc with ⟨Hgd, Hgs⟩
  -- the sends of the second exchange
  ihave Ho := (Entails.of_eq (show ow (F := F) c (dues (tR2 c) offs) = ow c (0 + dues (tR2 c) offs) by
    rw [zero_add])) $$ Ho
  iapply (wp_loop_offs c Q (recs I κ) (send2K c) (fun l => ow c (0 + dues (tR2 c) l))
    (fun i => iprop(dutyTok ER (kcell (c, .s2 i)) 0 c ∗ dutyTok ER (kcell (fwd c i, .r2 c)) 0 c
      ∗ slotP gM c c (Transfers.shareTok fullShare 31 i) (gC I) ∗ slotAny gM (fwd c i) c))
    (fun i => cred (tallyAt (kcell (c, .s2 i)) () N)) (fun i l K => step_send2 I κ c Q _ i l K))
  isplitr; · iexact HR
  isplitl [Ho]; · iexact Ho
  isplitl [Hts2 Htr2 Hgs Hg]
  · rw [bigSep_sep', bigSep_sep', bigSep_sep']
    isplitl [Hts2]; · iexact Hts2
    isplitl [Htr2]; · iexact Htr2
    isplitl [Hgs]; · iexact Hgs
    iexact Hg
  iintro ⟨Ho, Hcs2⟩
  ihave Ho := (Entails.of_eq (show ow (F := F) c (0 + dues (tR2 c) []) = ow c 0 by
    rw [dues_nil, add_zero])) $$ Ho
  -- the landings of the second exchange
  iapply (wp_loop_offs c Q (recs I κ) (recv2K c) (fun _ => ow c 0)
    (fun i => iprop(cred (tallyAt (kcell (c, .r2 (bwd c i))) () N) ∗ atPos ER (kcell (c, .r2 (bwd c i))) 0 ∅ 0))
    (fun i => iprop(slotP gM c (bwd c i) fullShare (gC I) ∗ semVal (kcell (c, .r2 (bwd c i))) 0))
    (fun i l K => step_recv2 I κ c Q i l K))
  isplitr; · iexact HR
  isplitl [Ho]; · iexact Ho
  isplitl [Hcr2 Har2]
  · rw [bigSep_sep']
    isplitl [Hcr2]; · iexact Hcr2
    iexact Har2
  rw [bigSep_sep']
  iintro ⟨Ho, Hgs, Hzr2⟩
  -- the drains
  iapply (wp_loop_offs c Q (recs I κ) (drain1K c) (fun _ => ow c 0)
    (fun i => iprop(cred (tallyAt (kcell (c, .s1 i)) () N) ∗ atPos ER (kcell (c, .s1 i)) 0 ∅ 0))
    (fun i => iprop(slotP pM c (fwd c i) fullShare (pC I c) ∗ semVal (kcell (c, .s1 i)) 0))
    (fun i l K => step_drain1 I κ c Q i l K))
  isplitr; · iexact HR
  isplitl [Ho]; · iexact Ho
  isplitl [Hcs1 Has1]
  · rw [bigSep_sep']
    isplitl [Hcs1]; · iexact Hcs1
    iexact Has1
  rw [bigSep_sep']
  iintro ⟨Ho, Hp, Hzs1⟩
  iapply (wp_loop_offs c Q (recs I κ) (drain2K c) (fun _ => ow c 0)
    (fun i => iprop(cred (tallyAt (kcell (c, .s2 i)) () N) ∗ atPos ER (kcell (c, .s2 i)) 0 ∅ 0))
    (fun i => iprop(slotP gM c c (Transfers.shareTok fullShare 31 i) (gC I) ∗ semVal (kcell (c, .s2 i)) 0))
    (fun i l K => step_drain2 I κ c Q i l K))
  isplitr; · iexact HR
  isplitl [Ho]; · iexact Ho
  isplitl [Hcs2 Has2]
  · rw [bigSep_sep']
    isplitl [Hcs2]; · iexact Hcs2
    iexact Has2
  rw [bigSep_sep']
  iintro ⟨Ho, Hgt, Hzs2⟩
  -- the buffers whole again
  ihave Hgc := (show iprop(slotP gM c c (Transfers.shareDrop fullShare 31) (gC I)
    ∗ perOff (fun i => slotP gM c c (Transfers.shareTok fullShare 31 i) (gC I))) ⊢ slotP gM c c fullShare (gC I) from
    Transfers.pointsTo_toks_join fullShare 31) $$ [Hgd Hgt]
  · isplitl [Hgd] <;> iassumption
  ihave Hg := (Entails.of_eq ((slots_g c (gC I)).trans (all_bwd c _)).symm) $$ [Hgc Hgs]
  · isplitl [Hgc]; · iexact Hgc
    iexact Hgs
  ihave Hp := (Entails.of_eq ((slots_p c (pC I c)).trans (all_fwd c _)).symm) $$ [Hpc Hp]
  · isplitl [Hpc]; · iexact Hpc
    iexact Hp
  ihave Hrs := (show perOff (fun i => slotP rM c (bwd c i) fullShare (rC I c)) ⊢ perOff (fun i => slotAny rM c (bwd c i)) from
    bigSep_mono (fun i _ => slot_any c rM (bwd c i) (rC I c))) $$ Hrs
  ihave Hr := (BIBase.Entails.trans (Entails.of_eq (all_bwd c (fun s => slotAny rM c s)).symm) (slots_r_join c (rC I c))) $$ [Hrc Hrs]
  · isplitl [Hrc]; · iexact Hrc
    iexact Hrs
  iapply (wp_finish c Q (gC I))
  isplitl [Hg]; · iexact Hg
  isplitl [Hout]; · iexact Hout
  iintro ⟨Hg, Hout⟩
  iapply Hk
  isplitl [Hp]; · iexact Hp
  isplitl [Hr]; · iexact Hr
  isplitl [Hg]; · iexact Hg
  isplitl [Hout]; · iexact Hout
  isplitl [Ho]; · iexact Ho
  isplitl [Hzs1]; · iexact Hzs1
  isplitl [Hzr1]; · iexact Hzr1
  isplitl [Hzs2] <;> iassumption

end Cert.KernelIdeal.AllRed

end
-- ==== Proof.Body.lean ====
/- The whole body of the kernel on a symbolic device: its own stretch, the barrier, the exchanges. -/
module

public import proofs.«01_k».proof.Proof.Comm

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (I : Ins F) (κ : Dev nD × CK → ℕ) (c : Dev nD) (Q : Post F)

/-- What the barrier uses of the protocol. -/
def barRes : sProp 𝕄 :=
  iprop(perOff (fun i => dutyTok ER (kcell (fwd c i, .bar)) 0 c) ∗ cred (tallyAt (kcell (c, .bar)) () 31)
    ∗ atPos ER (kcell (c, .bar)) 0 ∅ 0)

/-- The two landing cells of a device that nobody pays: its own. -/
def idleRes : sProp 𝕄 :=
  iprop(atPos ER (kcell (c, .r1 c)) 0 ∅ 0 ∗ atPos ER (kcell (c, .r2 c)) 0 ∅ 0)

/-- The scratch buffers, at any contents. -/
def scratchAny : sProp 𝕄 :=
  iprop((∃ f, bufP c cc0_scratch0 f) ∗ (∃ f, bufP c cc0_scratch1 f) ∗ (∃ f, bufP c cc0_scratch2 f)
    ∗ (∃ f, bufP c cc0_scratch3 f) ∗ (∃ f, bufP c cc0_scratch4 f) ∗ (∃ f, bufP c cc0_scratch5 f))

/-- All of a device's semaphores, closed. -/
def allSems : sProp 𝕄 :=
  iprop(semVal (kcell (c, .bar)) 0 ∗ (semVal (kcell (c, .loc 0)) 0 ∗ semVal (kcell (c, .loc 1)) 0) ∗ exSems c
    ∗ semVal (kcell (c, .r1 c)) 0 ∗ semVal (kcell (c, .r2 c)) 0)

/-- All a device holds of the protocol at launch, the records apart. -/
def commRes : sProp 𝕄 := iprop(barRes c ∗ locRes c ∗ exRes c ∗ idleRes c)

theorem wp_barrier (O : CellTallies nD τ sig Unit) (hO : Above 1 O) (K : P0 F) :
    iprop(recs I κ ∗ cred (tallyAt (kcell (c, .bar)) () 31) ∗ ow c O ∗ atPos ER (kcell (c, .bar)) 0 ∅ 0
        ∗ ((ow c O ∗ (perOff (fun i => slotAny rM (fwd c i) c) ∗ perOff (fun i => slotAny gM (fwd c i) c))
            ∗ semVal (kcell (c, .bar)) 0) -∗ WP c K Q))
      ⊢ WP c (barrierK K) Q := by
  unfold barrierK
  have h := wp_wait_close I κ c Q .bar (w := .semWait barS (31#32 : BitVec 32).toInt) (n := 31)
    (wpE_semWait_eq 𝒱₀ (c : Thread nD τ) none Set.univ)
    (by show 31 = (Finset.univ.erase c).card * 1
        rw [Finset.card_erase_of_mem (Finset.mem_univ c), Finset.card_univ]; rfl) hO K
  refine BIBase.Entails.trans ?_ h
  have hp : bigSep (dutiesOf c .bar) (payOf I c .bar)
      = iprop(perOff (fun i => slotAny rM (fwd c i) c) ∗ perOff (fun i => slotAny gM (fwd c i) c)) :=
    (bigSep_fwd c (payOf I c .bar)).trans (bigSep_sep' _ _ _)
  rw [hp]

theorem wp_devId (K : Dev nD → P0 F) : WP c (.op .deviceId K) Q = WP c (K c) Q := wp_deviceId ..

theorem wp_shaped :
    iprop(recs I κ ∗ commRes c ∗ ow c (O₀ c) ∗ readBufs I c ∗ bufP c cc0_stg2_0 (I.wo c) ∗ scratchAny c
        ∗ (∃ f, bufP c cc0_stg3_0 f)
        ∗ ((readBufs I c ∗ bufP c cc0_stg2_0 (I.wo c) ∗ scratchAny c ∗ bufP c cc0_stg3_0 (outC I) ∗ ow c 0 ∗ allSems c)
          -∗ Q ⟨⟩))
      ⊢ WP c (shaped xM wqM woM oM) Q := by
  unfold shaped commRes barRes idleRes scratchAny allSems
  iintro ⟨#HR, ⟨⟨Htb, Hcb, Hab⟩, Hloc, Hex, ⟨Hi1, Hi2⟩⟩, Ho, Hrd, Hwo, ⟨Hs0, Hs1, Hs2, Hs3, ⟨%f4, Hs4⟩, ⟨%f5, Hs5⟩⟩, Hout, Hk⟩
  rw [wp_devId]
  iapply (wp_fetch I κ c Q)
  isplitr; · iexact HR
  isplitl [Hloc]; · iexact Hloc
  isplitl [Hrd]; · iexact Hrd
  isplitl [Hs0]; · iexact Hs0
  isplitl [Hs1]; · iexact Hs1
  isplitl [Ho]; · iexact Ho
  iintro ⟨Hrd, Hs0, Hs1, Ho, Hz0, Hz1⟩
  iapply (wp_heads c Q)
  isplitl [Hs2]; · iexact Hs2
  iintro Hs2
  iapply (wp_proj c Q)
  isplitl [Hs2]; · iexact Hs2
  isplitl [Hwo]; · iexact Hwo
  isplitl [Hs3]; · iexact Hs3
  iintro ⟨Hs2, Hwo, Hs3⟩
  -- the barrier
  ihave Hs4 := (Entails.of_eq ((slots_r c f4).trans (all_fwd c _))) $$ Hs4
  ihave Hs5 := (Entails.of_eq ((slots_g c f5).trans (all_fwd c _))) $$ Hs5
  icases Hs4 with ⟨Hrc, Hr⟩
  icases Hs5 with ⟨Hgc, Hg⟩
  ihave Hr := (show perOff (fun i => slotP rM c (fwd c i) fullShare f4) ⊢ perOff (fun i => slotAny rM c (fwd c i)) from
    bigSep_mono (fun i _ => slot_any c rM (fwd c i) f4)) $$ Hr
  ihave Hg := (show perOff (fun i => slotP gM c (fwd c i) fullShare f5) ⊢ perOff (fun i => slotAny gM c (fwd c i)) from
    bigSep_mono (fun i _ => slot_any c gM (fwd c i) f5)) $$ Hg
  ihave Ho := (Entails.of_eq (show ow (F := F) c (O₀ c) = ow c ((dues (tR2 c) offs + dues (tR1 c) offs) + dues (tB c) offs) from rfl)) $$ Ho
  iapply (wp_loop_offs c Q (recs I κ) (signalK c) (fun l => ow c ((dues (tR2 c) offs + dues (tR1 c) offs) + dues (tB c) l))
    (fun i => iprop(dutyTok ER (kcell (fwd c i, .bar)) 0 c ∗ slotAny rM c (fwd c i) ∗ slotAny gM c (fwd c i)))
    (fun _ => iprop(emp)) (fun i l K => step_signal I κ c Q _ i l K))
  isplitr; · iexact HR
  isplitl [Ho]; · iexact Ho
  isplitl [Htb Hr Hg]
  · rw [bigSep_sep', bigSep_sep']
    isplitl [Htb]; · iexact Htb
    isplitl [Hr]; · iexact Hr
    iexact Hg
  iintro ⟨Ho, -⟩
  ihave Ho := (Entails.of_eq (show ow (F := F) c ((dues (tR2 c) offs + dues (tR1 c) offs) + dues (tB c) [])
    = ow c (dues (tR2 c) offs + dues (tR1 c) offs) by rw [dues_nil, add_zero])) $$ Ho
  iapply (wp_barrier I κ c Q (dues (tR2 c) offs + dues (tR1 c) offs)
    (above_add (above_mono (by decide) (above_R2 c offs)) (above_R1 c offs)))
  isplitr; · iexact HR
  isplitl [Hcb]; · iexact Hcb
  isplitl [Ho]; · iexact Ho
  isplitl [Hab]; · iexact Hab
  iintro ⟨Ho, Hsl, Hzb⟩
  -- the exchanges
  imod (close_idle I κ c (.r1 c) (if_pos rfl)) $$ [Hi1] with Hz1c
  · isplitr; · iexact HR
    iexact Hi1
  imod (close_idle I κ c (.r2 c) (if_pos rfl)) $$ [Hi2] with Hz2c
  · isplitr; · iexact HR
    iexact Hi2
  iapply (wp_exchange I κ c Q)
  isplitr; · iexact HR
  isplitl [Hex]; · iexact Hex
  isplitl [Ho]; · iexact Ho
  isplitl [Hs3]; · iexact Hs3
  isplitl [Hrc]; · iapply (slot_any c rM c f4); iexact Hrc
  isplitl [Hgc]; · iapply (slot_any c gM c f5); iexact Hgc
  isplitl [Hsl]; · iexact Hsl
  isplitl [Hout]; · iexact Hout
  iintro ⟨Hs3, Hs4, Hs5, Hout, Ho, Hzx⟩
  iapply Hk
  isplitl [Hrd]; · iexact Hrd
  isplitl [Hwo]; · iexact Hwo
  isplitl [Hs0 Hs1 Hs2 Hs3 Hs4 Hs5]
  · isplitl [Hs0]; · iexists _; iexact Hs0
    isplitl [Hs1]; · iexists _; iexact Hs1
    isplitl [Hs2]; · iexists _; iexact Hs2
    isplitl [Hs3]; · iexists _; iexact Hs3
    isplitl [Hs4]; · iexact Hs4
    iexists _; iexact Hs5
  isplitl [Hout]; · iexact Hout
  isplitl [Ho]; · iexact Ho
  isplitl [Hzb]; · iexact Hzb
  isplitl [Hz0 Hz1]; · isplitl [Hz0] <;> iassumption
  isplitl [Hzx]; · iexact Hzx
  isplitl [Hz1c] <;> iassumption

end Cert.KernelIdeal.AllRed

end
-- ==== Proof.Point.lean ====
/- The one grid point of the kernel: what each staging buffer holds before and after it, and the body's
   obligation to the pipeline, from the body's run. -/
module

public import proofs.«01_k».proof.Proof.Body
public import proofs.«01_k».proof.Proof.Gen.KernelIdeal.Launch
public import proofs.«01_k».proof.Proof.Gen.KernelIdeal.Points

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What each device reads, from the memory at launch: a window's block of its argument, or the argument. -/
def insOf : Ins F where
  x c := ((cfg0.win (0 : Fin 4)).blk t0_0).view.read (Elt F) (m ((c : Thread nD τ).loc main_arg0))
  wq c := ((cfg0.win (1 : Fin 4)).blk t0_0).view.read (Elt F) (m ((c : Thread nD τ).loc main_arg1))
  kA c := m ((c : Thread nD τ).loc main_arg2)
  vA c := m ((c : Thread nD τ).loc main_arg3)
  wo c := ((cfg0.win (2 : Fin 4)).blk t0_0).view.read (Elt F) (m ((c : Thread nD τ).loc main_arg4))

/-- The two arguments no window stages. -/
def kvBufs (c : Dev nD) : sProp 𝕄 :=
  iprop(bufP c main_arg2 ((insOf m).kA c) ∗ bufP c main_arg3 ((insOf m).vA c))

/-- What the protocol deals a device at launch. -/
def start (c : Dev nD) : sProp 𝕄 := iprop((∃ κ, recs (insOf m) κ) ∗ commRes c ∗ kvBufs m c)

/-- What a device holds beside its windows before the point, and after it. -/
def Φ₀ (c : Dev nD) : sProp 𝕄 := iprop(start m c ∗ scratchAny c)
def Φ₁ (c : Dev nD) : sProp 𝕄 := iprop(scratchAny c ∗ kvBufs m c ∗ allSems c)

def dats (_ : Fin 1) (c : Dev nD) : Dat τ (Elt F) Unit ℕ UU ℕ cfg0 c where
  A w := m ((cfg0.win w).arr.view.loc (c : Thread nD τ))
  after w _ := match w with
    | ⟨0, _⟩ => (insOf m).x c
    | ⟨1, _⟩ => (insOf m).wq c
    | ⟨2, _⟩ => (insOf m).wo c
    | ⟨3, _⟩ => outC (insOf m)
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem bigSep_wins (Φ : Fin cfg0.W → sProp 𝕄) : bigSep Finset.univ Φ
    = iprop(Φ (0 : Fin 4) ∗ Φ (1 : Fin 4) ∗ Φ (2 : Fin 4) ∗ Φ (3 : Fin 4)) := bigSep_W0 Φ

/-- A buffer at contents equal to `X`. -/
abbrev held (c : Dev nD) (b : Ref sig .tc) (X : b.ty.Contents (Elt F)) : sProp 𝕄 :=
  iprop(∃ f : Buf (Elt F) ((c : Thread nD τ).loc b), ⌜f = X⌝ ∗ bufP c b f)

omit [FloatOps F] in
theorem owns_held (c : Dev nD) (b : Ref sig .tc) (X : b.ty.Contents (Elt F)) :
    (owns (Ix := Unit) (Name := ℕ) (U := UU) (Lvl := ℕ) (c : Thread nD τ) (Memref.whole b) fullShare X : sProp 𝕄)
      = held c b X := by
  unfold owns; simp only [Memref.view_whole, View.read_whole, View.set_whole]

omit [FloatOps F] in
theorem held_buf (c : Dev nD) (b : Ref sig .tc) (X : b.ty.Contents (Elt F)) : (held c b X : sProp 𝕄) ⊢ bufP c b X := by
  iintro ⟨%f, %h, H⟩
  subst h
  iexact H
omit [FloatOps F] in
theorem buf_held (c : Dev nD) (b : Ref sig .tc) (X : b.ty.Contents (Elt F)) : (bufP c b X : sProp 𝕄) ⊢ held c b X := by
  iintro H
  iexists _
  isplitr; · (ipureintro; rfl)
  iexact H

theorem before_x (c : Dev nD) (d) : (dats m 0 c).before (0 : Fin 4) t0_0 d = (insOf m).x c := by
  unfold Dat.before; rw [if_pos (fetch0_0 t0_0)]; rfl
theorem before_wq (c : Dev nD) (d) : (dats m 0 c).before (1 : Fin 4) t0_0 d = (insOf m).wq c := by
  unfold Dat.before; rw [if_pos (fetch0_1 t0_0)]; rfl
theorem before_wo (c : Dev nD) (d) : (dats m 0 c).before (2 : Fin 4) t0_0 d = (insOf m).wo c := by
  unfold Dat.before; rw [if_pos (fetch0_2 t0_0)]; rfl

def bodyPre (c : Dev nD) : sProp 𝕄 :=
  iprop(Φ₀ m c ∗ (dats m 0 c).owesAt () t0_0.castSucc
    ∗ (∃ d, held c cc0_stg0_0 ((dats m 0 c).before (0 : Fin 4) t0_0 d))
    ∗ (∃ d, held c cc0_stg1_0 ((dats m 0 c).before (1 : Fin 4) t0_0 d))
    ∗ (∃ d, held c cc0_stg2_0 ((dats m 0 c).before (2 : Fin 4) t0_0 d))
    ∗ (∃ d, held c cc0_stg3_0 ((dats m 0 c).before (3 : Fin 4) t0_0 d)))

def bodyPost (c : Dev nD) : sProp 𝕄 :=
  iprop(Φ₁ m c ∗ (dats m 0 c).owesAt () t0_0.succ ∗ held c cc0_stg0_0 ((insOf m).x c)
    ∗ held c cc0_stg1_0 ((insOf m).wq c) ∗ held c cc0_stg2_0 ((insOf m).wo c)
    ∗ held c cc0_stg3_0 (outC (insOf m)))

theorem wp_point (c : Dev nD) : bodyPre m c ⊢ WP c (shaped xM wqM woM oM) (fun _ => bodyPost m c) := by
  unfold bodyPre Φ₀ start kvBufs Dat.owesAt Pipeline.owesWithin
  iintro ⟨⟨⟨⟨%κ, #HR⟩, Hcm, Hk, Hv⟩, Hs⟩, ⟨%W, %hW, Ho⟩, ⟨%d0, Hx⟩, ⟨%d1, Hq⟩, ⟨%d2, Hw⟩, ⟨%d3, ⟨%g3, -, H3⟩⟩⟩
  rw [before_x, before_wq, before_wo]
  ihave Hx := (held_buf c cc0_stg0_0 _) $$ Hx
  ihave Hq := (held_buf c cc0_stg1_0 _) $$ Hq
  ihave Hw := (held_buf c cc0_stg2_0 _) $$ Hw
  iapply (wp_shaped (insOf m) κ c (fun _ => bodyPost m c))
  isplitr; · iexact HR
  isplitl [Hcm]; · iexact Hcm
  isplitl [Ho]; · unfold ow; iexists W; iexact Ho
  isplitl [Hx Hq Hk Hv]
  · unfold readBufs
    isplitl [Hx]; · iexact Hx
    isplitl [Hq]; · iexact Hq
    isplitl [Hk] <;> iassumption
  isplitl [Hw]; · iexact Hw
  isplitl [Hs]; · iexact Hs
  isplitl [H3]; · iexists _; iexact H3
  iintro ⟨Hrd, Hw, Hs, Hout, Ho, Hz⟩
  unfold readBufs ow bodyPost Φ₁ kvBufs Dat.owesAt Pipeline.owesWithin
  icases Hrd with ⟨Hx, Hq, Hk, Hv⟩
  icases Ho with ⟨%W', Ho⟩
  isplitl [Hs Hk Hv Hz]
  · isplitl [Hs]; · iexact Hs
    isplitl [Hk Hv]
    · isplitl [Hk] <;> iassumption
    iexact Hz
  isplitl [Ho]
  · iexists W'
    isplitr; · ipureintro; exact fun _ _ => Or.inl trivial
    iexact Ho
  isplitl [Hx]; · iapply (buf_held c cc0_stg0_0 _); iexact Hx
  isplitl [Hq]; · iapply (buf_held c cc0_stg1_0 _); iexact Hq
  isplitl [Hw]; · iapply (buf_held c cc0_stg2_0 _); iexact Hw
  iapply (buf_held c cc0_stg3_0 _); iexact Hout

/-- The body's obligation on device `c`. -/
theorem body_obligation (c : Dev nD) : BodyObligation (dats (F := F) m 0 c) (defs₀ (F := F)) 𝒱₀ () Set.univ := fun t => by
  rw [fin_N0 t]
  rw [bigSep_wins, bigSep_wins]
  simp only [owns_held]
  show bodyPre m c ⊢ WP c (bodyAt0 t0_0) (fun _ => bodyPost m c)
  rw [show (bodyAt0 t0_0 : P0 F) = shaped xM wqM woM oM from body_shaped ..]
  exact wp_point m c

end Cert.KernelIdeal.AllRed

end
-- ==== Proof.Deal.lean ====
/- The launch of the protocol: the cells' rounds opened, each device dealt its positions, the tokens of
   the duties it pays, and the credit its peers owe it. -/
module

public import proofs.«01_k».proof.Proof.Point

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (I : Ins F)

/-! ## The kernel's own semaphores -/

/-- The kinds of cells but the barrier, and their semaphores: the kernel's own. -/
abbrev DK := Fin 2 ⊕ Fin 31 ⊕ Dev nD ⊕ Fin 31 ⊕ Dev nD
abbrev osem (k : DK) : SemLoc sig := csem (.inr k)

theorem osem_ge (k : DK) : 4 < semNo (osem k) := by
  rcases k with a | a | a | a | a <;> simp only [csem, semNo, locS, s1S, r1S, s2S, r2S] <;> omega

theorem osem_dma (k : DK) : ∃ q, osem k = .dma q := by
  rcases k with a | a | a | a | a <;> exact ⟨_, rfl⟩

theorem dma_scoped : ∀ q : Fin 132, (SemLoc.dma q : SemLoc sig).isScoped .tc = true := by decide +kernel

theorem stage_lt : ∀ (w : Fin 4) (s : Fin (spec0 w).nbuf), (((spec0 w).sem s : DmaSem sig) : Fin 132).val < 4 := by
  decide

theorem ownSemFacts : Pipeline.OwnSemFacts cfg0.spec osem where
  isScoped k := by obtain ⟨q, hq⟩ := osem_dma k; rw [hq]; exact dma_scoped q
  inj k k' h := Sum.inr_injective (csem_inj h)
  disj k w s h := by
    have h1 := osem_ge k
    have h2 := stage_lt w s
    rw [h] at h1
    have h3 : semNo (.dma ((spec0 w).sem s)) = (((spec0 w).sem s : DmaSem sig) : Fin 132).val + 1 := rfl
    have h1' : 4 < semNo (.dma ((spec0 w).sem s)) := h1
    omega

/-! ## Cells and tokens -/

def cells : Finset (GSem nD τ sig) := Finset.univ.map ⟨kcell, kcell_inj⟩

/-- The duties a device pays: its peers' barriers, its two local copies, its send cells and the landing
    cells its copies reach, of each exchange. -/
abbrev J := Fin 31 ⊕ Fin 2 ⊕ Fin 31 ⊕ Fin 31 ⊕ Fin 31 ⊕ Fin 31

/-- The cell of a duty device `c` pays. -/
def payCell (c : Dev nD) : J → Dev nD × CK
  | .inl i => (fwd c i, .bar)
  | .inr (.inl b) => (c, .loc b)
  | .inr (.inr (.inl i)) => (c, .s1 i)
  | .inr (.inr (.inr (.inl i))) => (fwd c i, .r1 c)
  | .inr (.inr (.inr (.inr (.inl i)))) => (c, .s2 i)
  | .inr (.inr (.inr (.inr (.inr i)))) => (fwd c i, .r2 c)

theorem payCell_inj (c : Dev nD) : Function.Injective (payCell c) := by
  intro a b h
  have hf : ∀ i j, fwd c i = fwd c j → i = j := fun i j => @fwd_inj c i j
  rcases a with a | a | a | a | a | a <;> rcases b with b | b | b | b | b | b <;>
    simp only [payCell, Prod.mk.injEq, Sum.inl.injEq, Sum.inr.injEq, reduceCtorEq, and_false, and_true, true_and] at h
  · rw [hf _ _ h]
  · rw [h]
  · rw [h]
  · rw [hf _ _ h]
  · rw [h]
  · rw [hf _ _ h]

/-- A duty token, named by its payer. -/
def tokOf (cj : Dev nD × J) : GSem nD τ sig × ℕ × Dev nD := (kcell (payCell cj.1 cj.2), 0, cj.1)

theorem tokOf_inj : Function.Injective tokOf := by
  rintro ⟨c, j⟩ ⟨c', j'⟩ h
  have h1 : c = c' := congrArg (fun x => x.2.2) h
  subst h1
  have h2 : j = j' := payCell_inj c (kcell_inj (congrArg (fun x => x.1) h))
  rw [h2]

def tokens : Finset (GSem nD τ sig × ℕ × Dev nD) := Finset.univ.map ⟨tokOf, tokOf_inj⟩

def u₀ : UU :=
  (initOf (Pipeline.cells cfgs cellOf_inj) (Pipeline.launchToks cfgs cellOf_inj), initOf cells tokens)

/-! ## What each device is dealt -/

/-- The tokens of the duties device `c` pays. -/
def payToks (c : Dev nD) : sProp 𝕄 := bigSep Finset.univ fun j : J => dutyTok ER (kcell (payCell c j)) 0 c
/-- Its positions at its own cells. -/
def places (c : Dev nD) : sProp 𝕄 := bigSep Finset.univ fun k : CK => atPos ER (kcell (c, k)) 0 ∅ 0

def G (c : Dev nD) : sProp 𝕄 :=
  iprop((bigSep Finset.univ fun k : CK => roundState ER (Rd I) (kcell (c, k)) 0)
    ∗ (bigSep Finset.univ fun k : CK => reached ER (kcell (c, k)) 0) ∗ places c ∗ payToks c)

theorem fund_cells : BI.own (ER (initOf cells tokens)) ⊢ (|==> bigSep Finset.univ (G I) : sProp 𝕄) := by
  have hX (Φ : GSem nD τ sig → sProp 𝕄) :
      bigSep cells Φ = bigSep Finset.univ fun c : Dev nD => bigSep Finset.univ fun k : CK => Φ (kcell (c, k)) := by
    unfold cells; rw [bigSep_map, bigSep_univ_prod]; rfl
  have hT : bigSep tokens (fun x => (dutyTok ER x.1 x.2.1 x.2.2 : sProp 𝕄)) = bigSep Finset.univ fun c : Dev nD => payToks c := by
    unfold tokens; rw [bigSep_map, bigSep_univ_prod]; rfl
  iintro HX
  imod (Rounds.fund ER (Rd I) cells tokens) $$ HX with ⟨Hst, Hr, Hat, Htok⟩
  imodintro
  ihave Hst := (Entails.of_eq (hX fun g => roundState ER (Rd I) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hr]; · iexact Hr
  isplitl [Hat]; · iexact Hat
  iexact Htok

/-- A device's semaphores at zero, the barrier's among them. -/
theorem unscopedSems_eq (c : Dev nD) : (unscopedSems0 c : sProp 𝕄) = semVal (kcell (c, .bar)) 0 := by
  unfold unscopedSems0; rw [bigSep_eq_bigSepL_of_eq [SemLoc.reg barS] (by decide +kernel) (by decide +kernel)]; rfl

/-- A family over a device's cells. -/
theorem all_kinds (Φ : CK → sProp 𝕄) : bigSep Finset.univ Φ
    = iprop(Φ .bar ∗ bigSep Finset.univ fun k : DK => Φ (.inr k)) := by
  refine (bigSep_univ_sum Φ).trans ?_
  rw [bigSep_univ_eq_bigSepL [()] (by decide) (by decide) (fun a => Φ (.inl a))]
  rfl

theorem sems_kinds (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [all_kinds, unscopedSems_eq]
  unfold Pipeline.ownSems0
  iintro ⟨Ho, Hb⟩
  isplitl [Hb]; · iexact Hb
  iexact Ho

theorem alloc_cells (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k => iprop(∃ κ : ℕ, cellInv ER (Rd I) κ (kcell (c, k))))
          ∗ (bigSep Finset.univ fun k : CK => reached ER (kcell (c, k)) 0) ∗ places c ∗ payToks c) := by
  unfold G
  iintro ⟨Hos, Hus, Hst, Hr, Hat, Htok⟩
  ihave Hv := (sems_kinds (F := F) c) $$ [Hos Hus]
  · isplitl [Hos] <;> iassumption
  imod (show iprop((bigSep Finset.univ fun k : CK => semVal (kcell (c, k)) 0) ∗ bigSep Finset.univ fun k : CK => roundState ER (Rd I) (kcell (c, k)) 0)
      ⊢ (|={Set.univ}=> bigSep Finset.univ fun k => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

/-- The records less the levels, which the launch hands over apart. -/
def opened (κ : Dev nD × CK → ℕ) : sProp 𝕄 :=
  iprop(bigSep Finset.univ (fun ck => cellInv ER (Rd I) (κ ck) (kcell ck))
    ∗ bigSep Finset.univ (fun ck => reached ER (kcell ck) 0))
instance opened_persistent (κ : Dev nD × CK → ℕ) : BI.Persistent (opened I κ) := by unfold opened; infer_instance

/-- What the global step gives each device. -/
def G' (c : Dev nD) : sProp 𝕄 := iprop((∃ κ, opened I κ) ∗ places c ∗ payToks c)

theorem share_opened : (bigSep Finset.univ fun c : Dev nD => iprop((bigSep Finset.univ fun k => iprop(∃ κ : ℕ, cellInv ER (Rd I) κ (kcell (c, k))))
          ∗ (bigSep Finset.univ fun k : CK => reached ER (kcell (c, k)) 0) ∗ places c ∗ payToks c) : sProp 𝕄)
      ⊢ bigSep Finset.univ (G' I) := by
  rw [bigSep_sep', bigSep_sep', ← bigSep_univ_prod (fun ck : Dev nD × CK => iprop(∃ κ : ℕ, cellInv ER (Rd I) κ (kcell ck))),
    ← bigSep_univ_prod (fun ck : Dev nD × CK => (reached ER (kcell ck) 0 : sProp 𝕄))]
  iintro ⟨HI, #HR, Hrest⟩
  ihave HK := (BI.bigSep_exists_pi Finset.univ (fun (ck : Dev nD × CK) (κ : ℕ) => (cellInv ER (Rd I) κ (kcell ck) : sProp 𝕄))) $$ HI
  icases HK with ⟨%κ, #HI⟩
  unfold G'
  rw [bigSep_sep' Finset.univ (fun _ : Dev nD => (iprop(∃ κ, opened I κ) : sProp 𝕄)) (fun c => iprop(places c ∗ payToks c))]
  isplitr
  · iapply (show opened I κ ⊢ bigSep Finset.univ (fun _ : Dev nD => (iprop(∃ κ, opened I κ) : sProp 𝕄)) from
      (BI.bigSep_of_persistent Finset.univ (opened I κ)).trans (bigSep_mono fun _ _ =>
        (show opened I κ ⊢ (iprop(∃ κ, opened I κ) : sProp 𝕄) from by iintro H; iexists κ; iexact H)))
    unfold opened
    isplitr; · iexact HI
    iexact HR
  · iexact Hrest

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => alloc_cells I c).trans (bigSep_fupd _ _)).trans (BI.fupd_mono (share_opened I))

/-! ## The launch credit -/

/-- The devices, moved by one offset. -/
def shift (i : Fin 31) : Dev nD ≃ Dev nD where
  toFun c := fwd c i
  invFun c := bwd c i
  left_inv c := bwd_fwd c i
  right_inv c := fwd_bwd c i

/-- What is owed device `c`, over its peers. -/
def owedTo (c : Dev nD) : CellTallies nD τ sig Unit :=
  ∑ i, tallyAt (kcell (c, .r2 (bwd c i))) () N + ∑ i, tallyAt (kcell (c, .r1 (bwd c i))) () N + tallyAt (kcell (c, .bar)) () 31

/-- What each owes its peers, summed, is what each is owed by its peers, summed. -/
theorem dues_turn (t : Dev nD → Fin 31 → CellTallies nD τ sig Unit) (s : Dev nD → Fin 31 → CellTallies nD τ sig Unit)
    (h : ∀ c i, t c i = s (fwd c i) i) : ∑ c, dues (t c) offs = ∑ c, ∑ i, s c i := by
  rw [Finset.sum_congr rfl fun c _ => dues_offs (t c), Finset.sum_comm, Finset.sum_comm (f := fun c i => s c i)]
  refine Finset.sum_congr rfl fun i _ => ?_
  rw [Finset.sum_congr rfl fun c _ => h c i]
  exact Equiv.sum_comp (shift i) (fun c => s c i)

theorem units (g : GSem nD τ sig) (n : ℕ) :
    ∑ _i : Fin n, (tallyAt g () 1 : CellTallies nD τ sig Unit) = tallyAt g () n := by
  induction n with
  | zero => rw [Finset.univ_eq_empty, Finset.sum_empty, tallyAt_zero]
  | succ n ih => rw [Fin.sum_univ_castSucc, ih, tallyAt_add]

theorem sum_O₀ : ∑ c, O₀ c = ∑ c, owedTo c := by
  unfold O₀ owedTo
  rw [Finset.sum_add_distrib, Finset.sum_add_distrib, Finset.sum_add_distrib, Finset.sum_add_distrib]
  refine congrArg₂ _ (congrArg₂ _ ?_ ?_) ?_
  · exact dues_turn tR2 (fun c i => tallyAt (kcell (c, .r2 (bwd c i))) () N) fun c i => by
      show tR2 c i = tallyAt (kcell (fwd c i, .r2 (bwd (fwd c i) i))) () N
      rw [bwd_fwd]; rfl
  · exact dues_turn tR1 (fun c i => tallyAt (kcell (c, .r1 (bwd c i))) () N) fun c i => by
      show tR1 c i = tallyAt (kcell (fwd c i, .r1 (bwd (fwd c i) i))) () N
      rw [bwd_fwd]; rfl
  · refine (dues_turn tB (fun c _ => tallyAt (kcell (c, .bar)) () 1) fun c i => rfl).trans ?_
    exact Finset.sum_congr rfl fun c _ => units _ 31

/-- A tally at cells of device `d` only. -/
def At (d : Dev nD) (T : CellTallies nD τ sig Unit) : Prop := ∀ g, T g ≠ 0 → g.1 = (d.tc : Thread nD τ)
theorem at_tally (d : Dev nD) (k : CK) (n : ℕ) : At d (tallyAt (kcell (d, k)) () n) := fun g h => by
  by_cases hg : g = kcell (d, k)
  · rw [hg]
  · exact absurd (tallyAt_ne_cell hg () n) h
theorem at_add (d : Dev nD) {T T' : CellTallies nD τ sig Unit} (h : At d T) (h' : At d T') : At d (T + T') := fun g hg => by
  by_cases h0 : T g = 0
  · exact h' g fun h1 => hg (by rw [Pi.add_apply, h0, h1, add_zero])
  · exact h g h0
theorem at_sum (d : Dev nD) (T : Fin 31 → CellTallies nD τ sig Unit) (h : ∀ i, At d (T i)) : At d (∑ i, T i) := by
  have : ∀ s : Finset (Fin 31), At d (∑ i ∈ s, T i) := fun s => by
    induction s using Finset.induction_on with
    | empty => intro g hg; exact absurd (by rw [Finset.sum_empty]; rfl) hg
    | insert a s ha ih => rw [Finset.sum_insert ha]; exact at_add d (h a) ih
  exact this _

theorem at_owedTo (d : Dev nD) : At d (owedTo d) :=
  at_add d (at_add d (at_sum d _ fun i => at_tally d _ N) (at_sum d _ fun i => at_tally d _ N)) (at_tally d _ 31)

theorem creds (c : Dev nD) : (Pipeline.launchCred O₀ c : sProp 𝕄)
    ⊢ iprop((perOff fun i => cred (tallyAt (kcell (c, .r2 (bwd c i))) () N))
      ∗ (perOff fun i => cred (tallyAt (kcell (c, .r1 (bwd c i))) () N)) ∗ cred (tallyAt (kcell (c, .bar)) () 31)) := by
  rw [Pipeline.launchCred_of_sum O₀ owedTo sum_O₀ at_owedTo c]
  unfold owedTo
  unfold perOff
  rw [← Pipeline.cred_finsetSum, ← Pipeline.cred_finsetSum]
  exact (cred_add _ _).1.trans ((sep_mono_left (cred_add _ _).1).trans sep_assoc.1)

/-! ## A device's resources assembled -/

theorem fin2_sep (Φ : Fin 2 → sProp 𝕄) : bigSep Finset.univ Φ = iprop(Φ 0 ∗ Φ 1) :=
  bigSep_univ_eq_bigSepL [0, 1] (by decide) (by decide) Φ

/-- A family over a device's own cells, by kind; the landing cells its own and by offset. -/
theorem own_kinds (c : Dev nD) (Φ : DK → sProp 𝕄) : bigSep Finset.univ Φ
    = iprop((Φ (.inl 0) ∗ Φ (.inl 1)) ∗ (perOff fun i => Φ (.inr (.inl i)))
      ∗ (Φ (.inr (.inr (.inl c))) ∗ perOff fun i => Φ (.inr (.inr (.inl (bwd c i)))))
      ∗ (perOff fun i => Φ (.inr (.inr (.inr (.inl i)))))
      ∗ (Φ (.inr (.inr (.inr (.inr c)))) ∗ perOff fun i => Φ (.inr (.inr (.inr (.inr (bwd c i)))))) ) := by
  rw [bigSep_univ_sum, fin2_sep, bigSep_univ_sum, bigSep_univ_sum, bigSep_univ_sum,
    all_bwd c (fun s => Φ (.inr (.inr (.inl s)))), all_bwd c (fun s => Φ (.inr (.inr (.inr (.inr s)))))]
  rfl

theorem toks_kinds (Φ : J → sProp 𝕄) : bigSep Finset.univ Φ
    = iprop((perOff fun i => Φ (.inl i)) ∗ (Φ (.inr (.inl 0)) ∗ Φ (.inr (.inl 1))) ∗ (perOff fun i => Φ (.inr (.inr (.inl i))))
      ∗ (perOff fun i => Φ (.inr (.inr (.inr (.inl i))))) ∗ (perOff fun i => Φ (.inr (.inr (.inr (.inr (.inl i))))))
      ∗ (perOff fun i => Φ (.inr (.inr (.inr (.inr (.inr i))))))) := by
  rw [bigSep_univ_sum, bigSep_univ_sum, fin2_sep, bigSep_univ_sum, bigSep_univ_sum, bigSep_univ_sum]
  rfl

theorem comm_intro (c : Dev nD) : iprop(places c ∗ payToks c ∗ Pipeline.launchCred O₀ c) ⊢ (commRes c : sProp 𝕄) := by
  unfold places payToks commRes barRes locRes exRes idleRes
  rw [all_kinds, own_kinds c, toks_kinds]
  iintro ⟨⟨Hab, ⟨Ha0, Ha1⟩, Has1, ⟨Hi1, Har1⟩, Has2, ⟨Hi2, Har2⟩⟩, ⟨Htb, ⟨Ht0, Ht1⟩, Hts1, Htr1, Hts2, Htr2⟩, Hc⟩
  ihave Hc := (creds (F := F) c) $$ Hc
  icases Hc with ⟨Hc2, Hc1, Hcb⟩
  isplitl [Htb Hcb Hab]
  · isplitl [Htb]; · iexact Htb
    isplitl [Hcb]; · iexact Hcb
    iexact Hab
  isplitl [Ht0 Ha0 Ht1 Ha1]
  · isplitl [Ht0 Ha0]
    · isplitl [Ht0]; · iexact Ht0
      iexact Ha0
    isplitl [Ht1]; · iexact Ht1
    iexact Ha1
  isplitr [Hi1 Hi2]
  · isplitl [Hts1 Htr1]
    · isplitl [Hts1]; · iexact Hts1
      iexact Htr1
    isplitl [Hts2 Htr2]
    · isplitl [Hts2]; · iexact Hts2
      iexact Htr2
    isplitl [Hc1 Har1]
    · isplitl [Hc1]; · iexact Hc1
      iexact Har1
    isplitl [Hc2 Har2]
    · isplitl [Hc2]; · iexact Hc2
      iexact Har2
    isplitl [Has1]; · iexact Has1
    iexact Has2
  isplitl [Hi1]; · iexact Hi1
  iexact Hi2

/-- All a device's semaphores, given back. -/
theorem sems_back (c : Dev nD) : allSems c
    ⊢ iprop(unscopedSems0 c ∗ Pipeline.ownSems0 (Ix := Unit) (Name := ℕ) (U := UU) (Lvl := ℕ) (Val := Elt F) (τ := τ) osem c) := by
  rw [unscopedSems_eq]
  unfold Pipeline.ownSems0 allSems exSems
  rw [own_kinds c]
  iintro ⟨Hb, ⟨H0, H1⟩, ⟨Hs1, Hr1, Hs2, Hr2⟩, Hc1, Hc2⟩
  isplitl [Hb]; · iexact Hb
  isplitl [H0 H1]
  · isplitl [H0]; · iexact H0
    iexact H1
  isplitl [Hs1]; · iexact Hs1
  isplitl [Hc1 Hr1]
  · isplitl [Hc1]; · iexact Hc1
    iexact Hr1
  isplitl [Hs2]; · iexact Hs2
  isplitl [Hc2]; · iexact Hc2
  iexact Hr2

end Cert.KernelIdeal.AllRed

end
-- ==== Proof.Run.lean ====
/- The run of the whole program, over any float values: it ends, every device's result is the gathered
   one, its arguments are as they were, and every semaphore is at zero. -/
module

public import proofs.«01_k».proof.Proof.Deal
public import Idealize.ShloMosaic.Lib.Pipeline.CollectiveSegs

@[expose] public section

set_option maxRecDepth 65536

noncomputable section

namespace Cert.KernelIdeal.AllRed

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

theorem share_full (c : Dev nD) (w : Fin cfg0.W) : (dats m 0 c).share w = fullShare := by
  unfold Dat.share; split <;> rfl

theorem kv_rest (c : Dev nD) :
    (Pipeline.unscopedRestP Pipeline.Prefetch.none cfg0.spec c (fun b => m ((c : Thread nD τ).loc b)) : sProp 𝕄)
      = kvBufs m c := by
  rw [Pipeline.unscopedRestP_none]; exact unscopedRest0_eq c _

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (insOf m) c)
      ⊢ |={Set.univ}=> iprop(start m c ∗ emp) := by
  rw [kv_rest]
  unfold G'
  iintro ⟨Hkv, Hlev, Hcr, -, ⟨⟨%κ, HI⟩, Hpl, Htk⟩⟩
  imodintro
  unfold start
  isplitl
  · isplitl [HI Hlev]
    · iexists κ
      unfold opened recs
      icases HI with ⟨HI, HR⟩
      isplitl [HI]; · iexact HI
      isplitl [HR]; · iexact HR
      iexact Hlev
    isplitr [Hkv]
    · iapply (comm_intro c)
      isplitl [Hpl]; · iexact Hpl
      isplitl [Htk]; · iexact Htk
      iexact Hcr
    iexact Hkv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl,
    show (Pipeline.scopedRest cfg0.spec c : sProp 𝕄) = scratchAny c from scopedRest0_eq c]
  unfold Φ₀
  iintro ⟨Hs, -, Hr⟩
  isplitl [Hs]; · iexact Hs
  iexact Hr

theorem phi1_exit (c : Dev nD) :
    (dats m 0 c).Φ (Fin.last cfg0.N)
      ⊢ iprop((kvBufs m c ∗ unscopedSems0 c) ∗ Pipeline.ownSems0 osem c ∗ Pipeline.scopedRest cfg0.spec c) := by
  rw [show (dats m 0 c).Φ (Fin.last cfg0.N) = Φ₁ m c from rfl,
    show (Pipeline.scopedRest cfg0.spec c : sProp 𝕄) = scratchAny c from scopedRest0_eq c]
  unfold Φ₁
  iintro ⟨Hr, Hkv, Hz⟩
  ihave Hz := (sems_back c) $$ Hz
  icases Hz with ⟨Hu, Ho⟩
  isplitl [Hkv Hu]
  · isplitl [Hkv] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (stage_lt w s) (by
      rcases t with ⟨_ | _, ht⟩
      · exact above_O₀ c
      · exact above_zero 0)

/-- What a window's array holds at the end. -/
def finalA (c : Dev nD) (w : Fin cfg0.W) : Buf (Elt F) ((cfg0.win w).arr.view.loc (c : Thread nD τ)) :=
  (dats m 0 c).arrAt w cfg0.N

/-- What is read of device `c`'s two other arguments, and of its barrier, at the end. -/
def QY (c : Dev nD) (s : MemSt nD τ sig (Elt F)) : Prop :=
  (∀ b ∈ Pipeline.restRefsP sig Pipeline.Prefetch.none cfg0.spec, s.mem ((c : Thread nD τ).loc b) = m ((c : Thread nD τ).loc b))
    ∧ ∀ sm : SemLoc sig, sm.isScoped .tc = false → s.sem ((c.tc : Thread nD τ), sm) = 0

theorem read_end (c : Dev nD) (s' : Phys nD τ sig (Elt F)) :
    iprop((kvBufs m c ∗ unscopedSems0 c) ∗ emp ∗ SI s') ⊢ |={Set.univ}=> (iprop(⌜QY m c s'.mem⌝ ∗ SI s') : sProp 𝕄) := by
  rw [← kv_rest]
  iintro ⟨⟨Hkv, Hu⟩, -, HSI⟩
  ihave H := (pointsTo_read_all (Pipeline.restRefsP sig Pipeline.Prefetch.none cfg0.spec) (fun b => (c.tc : Thread nD τ).loc b)
    (fun b => m ((c : Thread nD τ).loc b)) s') $$ [Hkv HSI]
  · isplitl [Hkv]
    · unfold Pipeline.unscopedRestP; iexact Hkv
    iexact HSI
  icases H with ⟨%h1, HSI⟩
  imod (Pipeline.unscopedSems0_read (X := (unscopedSems0 c : sProp 𝕄)) (c := c) fupd_intro s') $$ [Hu HSI] with ⟨%h2, HSI⟩
  · isplitl [Hu] <;> iassumption
  imodintro
  isplitr; · ipureintro; exact ⟨h1, h2⟩
  iexact HSI

theorem run_windows : θ_run defs (onTc (τ := τ) (main (F := F))) (s₀ m ρ) (fun r =>
    (∀ c : Dev nD, (∀ w : Fin cfg0.W, r.2.mem ((cfg0.win w).arr.view.loc (c : Thread nD τ)) = finalA m c w) ∧ QY m c r.2)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_full m)
    (hdistinct := winFacts0.arr_inj)
    (O₀ := O₀) (howed₀ := fun _ => rfl) (howedN := fun _ => rfl)
    (L := L) (lv := lv) (hL := L_of_ne) (hwaits := waits m)
    (G := G (insOf m)) (G' := G' (insOf m)) (u₀ := u₀)
    (hu₀ := by
      unfold u₀
      iintro Hu
      ihave H := (ownU_pair _ _) $$ Hu
      icases H with ⟨HP, HX⟩
      imod (fund_cells (insOf m)) $$ HX with HG
      imodintro
      isplitl [HP] <;> iassumption)
    (hglob := glob (insOf m))
    (hA := fun _ _ => rfl) (hpf := fun _ k => k.elim0)
    (X := start m) (Y := fun c => iprop(kvBufs m c ∗ unscopedSems0 c)) (Z := fun _ => iprop(emp))
    (hX := start_intro m ρ) (hin := phi0_intro m) (hout := phi1_exit m)
    (QY := QY m) (hY := read_end m)
    (hQ := fun _ h hs => ⟨fun c => ⟨(h c).1, (h c).2.2⟩, sem_eq_zero hs fun c => (h c).2.2.2⟩)

theorem final_arg0 (c : Dev nD) : finalA m c (0 : Fin 4) = m ((c : Thread nD τ).loc main_arg0) :=
  (dats m 0 c).arrAt_in (0 : Fin 4) rfl _
theorem final_arg1 (c : Dev nD) : finalA m c (1 : Fin 4) = m ((c : Thread nD τ).loc main_arg1) :=
  (dats m 0 c).arrAt_in (1 : Fin 4) rfl _
theorem final_arg4 (c : Dev nD) : finalA m c (2 : Fin 4) = m ((c : Thread nD τ).loc main_arg4) :=
  (dats m 0 c).arrAt_in (2 : Fin 4) rfl _

/-- The program's run: the results as the pipeline writes them back. -/
theorem run_main : θ_run defs (onTc (τ := τ) (main (F := F))) (s₀ m ρ) (fun r =>
    (∀ c : Dev nD, r.2.mem ((c.tc : Thread nD τ).loc main_v1) = finalA m c (3 : Fin 4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  refine (θ_run defs _ _).mono (fun r h => ⟨fun c => ?_, h.2⟩) (run_windows m ρ)
  obtain ⟨hw, hr, -⟩ := h.1 c
  refine ⟨hw (3 : Fin 4), (hw (0 : Fin 4)).trans (final_arg0 m c), (hw (1 : Fin 4)).trans (final_arg1 m c), ?_, ?_,
    (hw (2 : Fin 4)).trans (final_arg4 m c)⟩
  · exact hr main_arg2 (by decide +kernel)
  · exact hr main_arg3 (by decide +kernel)

end Cert.KernelIdeal.AllRed

end
-- ==== Proof.Frames.lean ====
/- Each program runs, leaves its arguments as they were, and ends with every semaphore at zero. -/
module

public import proofs.«01_k».proof.Defs
public import proofs.«01_k».proof.Proof.Run
public import proofs.«01_k».proof.Proof.Gen.Kernel
public import proofs.«01_k».proof.Proof.Gen.ReferenceIdeal.Run

@[expose] public section

set_option maxRecDepth 65536

noncomputable section

namespace Cert.Proof

open Idealize.ShloMosaic Idealize.SL.Sem

/-- The kernel's run with the results' values dropped, over any float values. -/
theorem run_frame {F : FTy → Type} [FloatOps F]
    (m : (ℓ : Loc Cert.KernelIdeal.nD Cert.KernelIdeal.τ Cert.KernelIdeal.sig) → Buf (Elt F) ℓ)
    (g : Dev Cert.KernelIdeal.nD → PrngReg) :
    θ_run (Cert.KernelIdeal.defs (F := F)) (onTc (τ := Cert.KernelIdeal.τ) (Cert.KernelIdeal.main (F := F)))
      ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c => (h.1 c).2, h.2⟩)
    (Cert.KernelIdeal.AllRed.run_main (F := F) m g)

theorem frame_kernelIdeal : Cert.quiescent_KernelIdeal (hKernelIdeal := Cert.KernelIdeal.Gen.facts) := fun m ρ _ =>
  run_frame m ρ

/-- The two printed kernels have one body. -/
theorem body_same {F : FTy → Type} [FloatOps F] : Cert.KernelIdeal.cc0_body (F := F) = Cert.Kernel.cc0_body (F := F) := rfl

/-- The two printed kernels have one body table. -/
theorem table_same {F : FTy → Type} [FloatOps F] :
    Cert.KernelIdeal.defs₀ (F := F) = Cert.Kernel.defs₀ (F := F) := by
  unfold Cert.KernelIdeal.defs₀ Cert.Kernel.defs₀
  congr 1
  funext i ts
  match i, ts with
  | 0, (t, s) => rfl

/-- The program as compiled is the same text over the machine's floats. -/
theorem frame_kernel : Cert.quiescent_Kernel (hKernel := Cert.Kernel.Gen.facts) := fun m ρ _ => by
  have h := run_frame (F := Bits) m ρ
  rw [show Cert.KernelIdeal.defs (F := Bits) = Cert.Kernel.defs (F := Bits) from
    congrArg (Pipeline.defs (Cert.Kernel.pcfgs (F := Bits))) table_same] at h
  exact h

/-- The reference is host operations alone: it declares no semaphore. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Maths.lean ====
/- One head's attention over the extended reals, and the sum over devices as one sum. -/
module

public import Idealize.ShloMosaic.PureOps.Ideal
public import Idealize.ShloMosaic.PureOps.Ideal.Laws

@[expose] public section

noncomputable section

namespace Cert.Attn

open Idealize.ShloMosaic

/-- A head's queries, keys or values: 128 positions of 64 numbers. -/
abbrev Rows := Fin 128 → Fin 64 → EReal

/-- The scaled product of query row `r` and key row `j`. -/
def score (q k : Rows) (r j : Fin 128) : EReal :=
  (∑ d : Fin 64, q r d * k j d) * Ideal.ofBits .f32 0x3E000000#32

/-- The greatest score of a row. -/
def top (q k : Rows) (r : Fin 128) : EReal :=
  Finset.univ.fold max (Ideal.ofBits .f32 0xFF800000#32) fun j => score q k r j

/-- A score's exponential, the row's greatest score taken off. -/
def weight (q k : Rows) (r j : Fin 128) : EReal := Ideal.exp (score q k r j - top q k r)

/-- The head's output: the values averaged with the normalised weights. -/
def attn (q k v : Rows) (r : Fin 128) (e : Fin 64) : EReal :=
  ∑ j : Fin 128, Ideal.div (weight q k r j) (∑ j' : Fin 128, weight q k r j') * v j e

/-- Eight thousand one hundred and ninety-two terms are 32 blocks of 256. -/
theorem sum_blocks (f : Fin 8192 → EReal) :
    ∑ k : Fin 8192, f k = ∑ c : Fin 32, ∑ i : Fin 256, f ⟨256 * c.val + i.val, by omega⟩ := by
  rw [← Fintype.sum_prod_type', ← Equiv.sum_comp (finProdFinEquiv (m := 32) (n := 256))]
  refine Finset.sum_congr rfl fun p _ => congrArg f (Fin.ext ?_)
  show p.2.val + 256 * p.1.val = 256 * p.1.val + p.2.val
  omega

end Cert.Attn

end
-- ==== Proof.Pay.lean ====
/- The kernel's vector expressions over the extended reals, read at an index. -/
module

public import proofs.«01_k».proof.Proof.Contents
public import proofs.«01_k».proof.Proof.Maths
public import Idealize.ShloMosaic.Lib.Pointwise

@[expose] public section

set_option maxRecDepth 65536

noncomputable section

namespace Cert.KernelIdeal.AllRed

open Idealize.ShloMosaic
open Cert.KernelIdeal.Gen Cert.Attn

/-- The queries: row `128 b + i` of the product is batch `b`, position `i`. -/
theorem queries_apply (x : Vec Ideal S2x128x512 .f32) (w : Vec Ideal S512x256 .f32) (b : Fin 2) (i : Fin 128)
    (l : Fin 256) :
    k0_pay1 x w (ix2 ⟨128 * b.val + i.val, by omega⟩ l) = ∑ k : Fin 512, x (ix3 b i k) * w (ix2 k l) := by
  pointwise [k0_pay1]

/-- The queries of batch `b`, head `h`, in the device's 256 × 256 buffer of queries. -/
def qRows (q : FVec Ideal S256x256 .f32) (b : Fin 2) (h : Fin 4) : Rows :=
  fun i d => q (ix2 ⟨128 * b.val + i.val, by omega⟩ ⟨64 * h.val + d.val, by omega⟩)

/-- The keys, or the values, of batch `b`, head `h`. -/
def kvRows (k : Vec Ideal S2x128x4x64 .f32) (b : Fin 2) (h : Fin 4) : Rows := fun j d => k (ix4 b j h d)

/-- Each of the eight contexts is its head's attention. -/
theorem headW_apply (q : FVec Ideal S256x256 .f32) (k v : Vec Ideal S2x128x4x64 .f32) (b : Fin 2) (h : Fin 4)
    (r : Fin 128) (e : Fin 64) :
    headW q k v b h (ix2 r e) = attn (qRows q b h) (kvRows k b h) (kvRows v b h) r e := by
  fin_cases b <;> fin_cases h <;>
  · simp only [attn, weight, top, score, qRows, kvRows]
    pointwise [headW, k0_pay2, k0_pay3, k0_pay4, k0_pay5, k0_pay6, k0_pay7, k0_pay8, k0_pay9, k0_pay10, k0_pay11,
      k0_pay12, k0_pay13, k0_pay14, k0_pay15]

/-- The partial product in chunks: entry `(n, s)` is row `8 n + s`. -/
theorem partial_apply (x : Vec Ideal S256x256 .f32) (w : Vec Ideal S256x512 .f32) (n : Fin 32) (s : Fin 8) (l : Fin 512) :
    k0_pay16 x w (ix3 n s l) = ∑ i : Fin 256, x (ix2 ⟨n.val * 8 + s.val, by omega⟩ i) * w (ix2 i l) := by
  pointwise [k0_pay16]

/-- The result: row `r` of batch `b` lies in chunk `16 b + r / 8`. -/
theorem result_apply (g : Vec Ideal S32x8x512 .bf16) (b : Fin 2) (r : Fin 128) (l : Fin 512) :
    k0_pay43 g (ix3 b r l) = g (ix3 ⟨b.val * 16 + r.val / 8, by omega⟩ ⟨r.val % 8, by omega⟩ l) := by
  pointwise [k0_pay43]

/-- A landed chunk, widened. -/
theorem asAcc_apply (v : Vec Ideal S1x8x512 .bf16) (s : Fin 8) (l : Fin 512) : asAcc v (ix2 s l) = v (ix3 0 s l) := by
  pointwise [asAcc]

/-- The reduced chunk, narrowed. -/
theorem asChunk_apply (a : FVec Ideal S8x512 .f32) (s : Fin 8) (l : Fin 512) : asChunk a (ix3 0 s l) = a (ix2 s l) := by
  pointwise [asChunk]

end Cert.KernelIdeal.AllRed

end
-- ==== Proof.Reduced.lean ====
/- The kernel's result over the extended reals: the sum over the devices of each device's heads
   through its rows of the output weights. -/
module

public import proofs.«01_k».proof.Proof.Pay

@[expose] public section

set_option maxRecDepth 65536

noncomputable section

namespace Cert.KernelIdeal.AllRed

open Idealize.ShloMosaic
open Cert.KernelIdeal.Gen Cert.Attn

variable (I : Ins Ideal)

/-- The accumulator adds up its start and the chunks of the offsets, in any order. -/
theorem accFrom_apply (c : Dev nD) (l : List (Fin 31)) (a : FVec Ideal S8x512 .f32) (s : Fin 8) (o : Fin 512) :
    accFrom I c l a (ix2 s o) = a (ix2 s o) + (l.map fun i => pC I (bwd c i) (ix3 c s o)).sum := by
  induction l generalizing a with
  | nil => exact (add_zero _).symm
  | cons i l ih =>
    refine (ih _).trans ?_
    have h1 : asAcc (slotV (rC I c) (bwd c i)) (ix2 s o) = pC I (bwd c i) (ix3 c s o) := by
      rw [asAcc_apply]
      exact congrArg (pC I (bwd c i)) (ix3_eq_valueIdx c s o).symm
    rw [List.map_cons, List.sum_cons, ← add_assoc]
    exact congrArg (· + _) (congrArg (a (ix2 s o) + ·) h1)

/-- The reduced chunk is the sum over all devices of their chunks for this one. -/
theorem accC_apply (c : Dev nD) (s : Fin 8) (o : Fin 512) :
    accC I c (ix2 s o) = ∑ d : Dev nD, pC I d (ix3 c s o) := by
  refine (accFrom_apply I c offs _ s o).trans ?_
  have h1 : asAcc (slotV (pC I c) c) (ix2 s o) = pC I c (ix3 c s o) := by
    rw [asAcc_apply]
    exact congrArg (pC I c) (ix3_eq_valueIdx c s o).symm
  rw [h1, ← List.sum_toFinset _ offs_nodup, ← offs_univ, ← Finset.add_sum_erase _ _ (Finset.mem_univ c), ← map_bwd c,
    Finset.sum_map]
  rfl

/-- Head `h` of device `c`, among all heads. -/
def headOf (c : Dev nD) (h : Fin 4) : Fin 128 :=
  ⟨4 * c.val + h.val, by have := c.isLt; change _ < 32 at this; omega⟩

theorem off1_eq : ∀ c : Dev nD, k0_off1 c = ![0, 0, 4 * c.val, 0] := by decide +kernel

/-- A device's four heads start at head `4 c`. -/
theorem src_emb (c : Dev nD) (b : Fin 2) (j : Fin 128) (h : Fin 4) (d : Fin 64) :
    (Rect.unit (s := S2x128x128x64) (k0_off1 c) S2x128x4x64.size (k0_off1_inb c)).emb (ix4 b j h d)
      = ix4 b j (headOf c h) d := by
  funext a
  refine Fin.ext ?_
  show k0_off1 c a + 1 * (ix4 b j h d a).val = _
  rw [off1_eq]
  match a with
  | ⟨0, _⟩ => show 0 + 1 * b.val = b.val; omega
  | ⟨1, _⟩ => show 0 + 1 * j.val = j.val; omega
  | ⟨2, _⟩ => show 4 * c.val + 1 * h.val = 4 * c.val + h.val; omega
  | ⟨3, _⟩ => show 0 + 1 * d.val = d.val; omega

/-- The keys, and the values, of a device's own heads. -/
theorem k_apply (c : Dev nD) (b : Fin 2) (j : Fin 128) (h : Fin 4) (d : Fin 64) :
    I.k c (ix4 b j h d) = I.kA c (ix4 b j (headOf c h) d) := congrArg (I.kA c) (src_emb c b j h d)
theorem v_apply (c : Dev nD) (b : Fin 2) (j : Fin 128) (h : Fin 4) (d : Fin 64) :
    I.v c (ix4 b j h d) = I.vA c (ix4 b j (headOf c h) d) := congrArg (I.vA c) (src_emb c b j h d)

/-- The queries of batch `b` and head `h` of device `c`. -/
def devQ (c : Dev nD) (b : Fin 2) (h : Fin 4) : Rows :=
  fun i d => ∑ k : Fin 512, I.x c (ix3 b i k) * I.wq c (ix2 k ⟨64 * h.val + d.val, by omega⟩)
/-- Its keys and values. -/
def devK (c : Dev nD) (b : Fin 2) (h : Fin 4) : Rows := fun j d => I.kA c (ix4 b j (headOf c h) d)
def devV (c : Dev nD) (b : Fin 2) (h : Fin 4) : Rows := fun j d => I.vA c (ix4 b j (headOf c h) d)

/-- A device's contexts: row `128 b + r`, column `64 h + e`. -/
theorem ctxC_apply (c : Dev nD) (b : Fin 2) (r : Fin 128) (i : Fin 256) :
    ctxC I c (ix2 ⟨128 * b.val + r.val, by omega⟩ i)
      = attn (devQ I c b ⟨i.val / 64, by omega⟩) (devK I c b ⟨i.val / 64, by omega⟩)
          (devV I c b ⟨i.val / 64, by omega⟩) r ⟨i.val % 64, by omega⟩ := by
  have hb : (⟨(128 * b.val + r.val) / 128, by omega⟩ : Fin 2) = b :=
    Fin.ext (show (128 * b.val + r.val) / 128 = b.val by omega)
  have hr : (⟨(128 * b.val + r.val) % 128, by omega⟩ : Fin 128) = r :=
    Fin.ext (show (128 * b.val + r.val) % 128 = r.val by omega)
  have h : ctxC I c (ix2 ⟨128 * b.val + r.val, by omega⟩ i)
      = headW (k0_pay1 (I.x c) (I.wq c)) (I.k c) (I.v c) ⟨(128 * b.val + r.val) / 128, by omega⟩ ⟨i.val / 64, by omega⟩
          (ix2 ⟨(128 * b.val + r.val) % 128, by omega⟩ ⟨i.val % 64, by omega⟩) :=
    congrArg (headW (k0_pay1 (I.x c) (I.wq c)) (I.k c) (I.v c) ⟨(128 * b.val + r.val) / 128, by omega⟩
      ⟨i.val / 64, by omega⟩) (ix2_eq_valueIdx _ _).symm
  rw [h, hb, hr, headW_apply]
  congr 1
  · funext a d
    exact queries_apply _ _ _ _ _
  · funext j d
    exact k_apply I c b j _ d
  · funext j d
    exact v_apply I c b j _ d

/-- The result: each device's heads through its rows of the output weights, summed over the devices. -/
theorem outC_apply (b : Fin 2) (r : Fin 128) (o : Fin 512) :
    outC I (ix3 b r o) = ∑ c : Dev nD, ∑ i : Fin 256,
      attn (devQ I c b ⟨i.val / 64, by omega⟩) (devK I c b ⟨i.val / 64, by omega⟩)
          (devV I c b ⟨i.val / 64, by omega⟩) r ⟨i.val % 64, by omega⟩ * I.wo c (ix2 i o) := by
  have h : gC I (ix3 ⟨b.val * 16 + r.val / 8, by omega⟩ ⟨r.val % 8, by omega⟩ o)
      = accC I (⟨b.val * 16 + r.val / 8, by omega⟩ : Fin 32) (ix2 ⟨r.val % 8, by omega⟩ o) :=
    (congrArg (asChunk (accC I (⟨b.val * 16 + r.val / 8, by omega⟩ : Fin 32))) (ix3_eq_valueIdx _ _ _).symm).trans
      (asChunk_apply _ _ _)
  unfold outC
  rw [result_apply, h, accC_apply]
  refine Finset.sum_congr rfl fun c _ => ?_
  unfold pC
  rw [partial_apply]
  refine Finset.sum_congr rfl fun i _ => ?_
  rw [show (⟨(b.val * 16 + r.val / 8) * 8 + r.val % 8, by omega⟩ : Fin 256) = ⟨128 * b.val + r.val, by omega⟩ from
    Fin.ext (show (b.val * 16 + r.val / 8) * 8 + r.val % 8 = 128 * b.val + r.val by omega), ctxC_apply]

end Cert.KernelIdeal.AllRed

end
-- ==== Proof.RefValue.lean ====
/- The reference over the extended reals, read at an index: every head's attention, then one
   product with the output weights over all heads at once. -/
module

public import proofs.«01_k».proof.Proof.Gen.ReferenceIdeal.Read
public import proofs.«01_k».proof.Proof.Maths
public import Idealize.ShloMosaic.Lib.Pointwise

@[expose] public section

set_option maxRecDepth 65536

noncomputable section

namespace Cert.ReferenceIdeal.Attn

open Idealize.ShloMosaic
open Cert.ReferenceIdeal Cert.ReferenceIdeal.Read Cert.Attn

/-- Two positions of 128 are never more than 128 apart. -/
theorem near_word : ∀ i j : Fin 128,
    IntOp.cmpi .sle (IntOp.absi (IntOp.subi (BitVec.ofNat 32 i.val) (BitVec.ofNat 32 j.val))) 128#32 = 1#1 := by
  decide +kernel

theorem mask_apply (i : S128x128.Idx) : val_main_v11 (F := Ideal) i = 1#1 := near_word (i 0) (i 1)

/-- Every row of the mask holds a one. -/
theorem keep_ix (i : Fin 128) : val_main_v22 (F := Ideal) (ix1 i) = 1#1 := by
  pointwise [val_main_v22, val_main_c_2, mask_apply]
  rw [Finset.fold_const _ (by decide), if_neg Finset.univ_nonempty.ne_empty]
  decide

theorem keep_apply (i : S128.Idx) : val_main_v22 (F := Ideal) i = 1#1 := by
  rw [show i = ix1 (i 0) from funext fun a => by fin_cases a; rfl]
  exact keep_ix _

variable (x : (⟨S2x128x512, .f32⟩ : BufTy).Contents (Elt Ideal)) (wq : (⟨S512x8192, .f32⟩ : BufTy).Contents (Elt Ideal))
  (k v : (⟨S2x128x128x64, .f32⟩ : BufTy).Contents (Elt Ideal)) (wo : (⟨S8192x512, .f32⟩ : BufTy).Contents (Elt Ideal))

/-- The queries of batch `b`, head `h`. -/
def refQ (b : Fin 2) (h : Fin 128) : Rows :=
  fun i d => ∑ l : Fin 512, x (ix3 b i l) * wq (ix2 l ⟨64 * h.val + d.val, by omega⟩)
/-- The keys, or the values, of batch `b`, head `h`. -/
def refK (k : (⟨S2x128x128x64, .f32⟩ : BufTy).Contents (Elt Ideal)) (b : Fin 2) (h : Fin 128) : Rows :=
  fun j d => k (ix4 b j h d)

theorem q_apply (b : Fin 2) (i h : Fin 128) (d : Fin 64) :
    val_main_v1 (F := Ideal) x wq (ix4 b i h d) = refQ x wq b h i d := by
  pointwise [val_main_v1, val_main_v0, refQ, Nat.mul_comm h.val 64]

theorem score_apply (b : Fin 2) (h i j : Fin 128) :
    val_main_v16 (F := Ideal) x wq k (ix4 b h i j) = score (refQ x wq b h) (refK k b h) i j := by
  rw [val_main_v16_apply, val_main_call0_v1_apply, val_main_v15_apply, mask_apply]
  pointwise [val_main_v14, val_main_v12, val_main_v13, val_main_cst, score, q_apply, refK]

theorem top_apply (b : Fin 2) (h i : Fin 128) :
    val_main_v17 (F := Ideal) x wq k (ix3 b h i) = top (refQ x wq b h) (refK k b h) i := by
  pointwise [val_main_v17, val_main_cst_1, top, score_apply]

theorem weight_apply (b : Fin 2) (h i j : Fin 128) :
    val_main_v21 (F := Ideal) x wq k (ix4 b h i j) = weight (refQ x wq b h) (refK k b h) i j := by
  pointwise [val_main_v21, val_main_v20, val_main_v19, val_main_v18, score_apply, top_apply, weight]

theorem sum_apply (b : Fin 2) (h i : Fin 128) :
    val_main_v24 (F := Ideal) x wq k (ix3 b h i) = ∑ j, weight (refQ x wq b h) (refK k b h) i j := by
  pointwise [val_main_v24, val_main_cst_3, weight_apply]

/-- Every row keeps at least one key, so its sum of weights is the divisor. -/
theorem divisor_apply (b : Fin 2) (h i : Fin 128) (z : Fin 1) :
    val_main_v26 (F := Ideal) x wq k (ix4 b h i z) = ∑ j, weight (refQ x wq b h) (refK k b h) i j := by
  rw [val_main_v26_apply, val_main_call1_v1_apply, val_main_v23_apply, keep_apply]
  pointwise [val_main_v25, sum_apply]

theorem share_apply (b : Fin 2) (h i j : Fin 128) :
    val_main_v30 (F := Ideal) x wq k (ix4 b h i j)
      = Ideal.div (weight (refQ x wq b h) (refK k b h) i j) (∑ j', weight (refQ x wq b h) (refK k b h) i j') := by
  rw [val_main_v30_apply, val_main_call2_v1_apply, val_main_v29_apply, keep_apply]
  pointwise [val_main_v28, val_main_v27, weight_apply, divisor_apply]

theorem head_apply (b : Fin 2) (h i : Fin 128) (e : Fin 64) :
    val_main_v31 (F := Ideal) x wq k v (ix4 b h e i) = attn (refQ x wq b h) (refK k b h) (refK v b h) i e := by
  pointwise [val_main_v31, share_apply, attn, refK]
  exact Finset.sum_congr rfl fun _ _ => mul_comm _ _

theorem ctx_apply (b : Fin 2) (i : Fin 128) (l : Fin 8192) :
    val_main_v33 (F := Ideal) x wq k v (ix3 b i l)
      = attn (refQ x wq b ⟨l.val / 64, by omega⟩) (refK k b ⟨l.val / 64, by omega⟩) (refK v b ⟨l.val / 64, by omega⟩) i
          ⟨l.val % 64, by omega⟩ := by
  pointwise [val_main_v33, val_main_v32, head_apply]

/-- The reference's result at an index. -/
theorem result_apply (b : Fin 2) (i : Fin 128) (o : Fin 512) :
    val_main_v34 (F := Ideal) x wq k v wo (ix3 b i o)
      = ∑ l : Fin 8192, attn (refQ x wq b ⟨l.val / 64, by omega⟩) (refK k b ⟨l.val / 64, by omega⟩)
          (refK v b ⟨l.val / 64, by omega⟩) i ⟨l.val % 64, by omega⟩ * wo (ix2 l o) := by
  pointwise [val_main_v34, ctx_apply]

end Cert.ReferenceIdeal.Attn

end
-- ==== Proof.Value.lean ====
/- The value claim: every device ends with the reference's whole result. -/
module

public import proofs.«01_k».proof.Proof.Frames
public import proofs.«01_k».proof.Proof.Reduced
public import proofs.«01_k».proof.Proof.RefValue
public import Idealize.ShloMosaic.Lib.Pipeline.ValueKit.Geometry
public import Idealize.ShloMosaic.Lib.Layout

@[expose] public section

set_option maxRecDepth 65536

noncomputable section

namespace Cert.KernelIdeal.AllRed

open Idealize.ShloMosaic
open Cert.KernelIdeal.Gen

variable (m : (ℓ : Loc nD τ sig) → Buf (Elt Ideal) ℓ)

/-- The one grid point writes the whole result back. -/
theorem final_out (c : Dev nD) : finalA m c (3 : Fin 4) = outC (insOf m) :=
  (dats m 0 c).arrAt_eq_of_after_last (3 : Fin 4) t0_0 (by decide +kernel) _ fun j => rfl

/-- What a device reads of a staged argument is the argument. -/
theorem ins_x (c : Dev nD) : (insOf m).x c = m ((c.tc : Thread nD τ).loc main_arg0) := by
  funext i
  show m ((c.tc : Thread nD τ).loc main_arg0) (((cfg0.win (0 : Fin 4)).blk t0_0).view.emb i) = _
  refine congrArg _ ?_
  blk_ext [show win0_0.index t0_0 = ![0, 0, 0] by decide +kernel]
theorem ins_wq (c : Dev nD) : (insOf m).wq c = m ((c.tc : Thread nD τ).loc main_arg1) := by
  funext i
  show m ((c.tc : Thread nD τ).loc main_arg1) (((cfg0.win (1 : Fin 4)).blk t0_0).view.emb i) = _
  refine congrArg _ ?_
  blk_ext [show win0_1.index t0_0 = ![0, 0] by decide +kernel]
theorem ins_wo (c : Dev nD) : (insOf m).wo c = m ((c.tc : Thread nD τ).loc main_arg4) := by
  funext i
  show m ((c.tc : Thread nD τ).loc main_arg4) (((cfg0.win (2 : Fin 4)).blk t0_0).view.emb i) = _
  refine congrArg _ ?_
  blk_ext [show win0_2.index t0_0 = ![0, 0] by decide +kernel]

end Cert.KernelIdeal.AllRed

namespace Cert.Proof

open Idealize.ShloMosaic Idealize.SL.Sem Cert.Attn Cert.KernelIdeal.AllRed
open Cert.ReferenceIdeal.Attn (refQ refK)

/-- Devices that hold copies of `x`, `k`, `v` and blocks of the two weights reduce to the reference's result. -/
theorem reduced_eq (I : Ins Ideal)
    (x : (⟨Cert.ReferenceIdeal.S2x128x512, .f32⟩ : BufTy).Contents (Elt Ideal))
    (wq : (⟨Cert.ReferenceIdeal.S512x8192, .f32⟩ : BufTy).Contents (Elt Ideal))
    (k v : (⟨Cert.ReferenceIdeal.S2x128x128x64, .f32⟩ : BufTy).Contents (Elt Ideal))
    (wo : (⟨Cert.ReferenceIdeal.S8192x512, .f32⟩ : BufTy).Contents (Elt Ideal))
    (hx : ∀ c, I.x c = x) (hk : ∀ c, I.kA c = k) (hv : ∀ c, I.vA c = v)
    (hq : ∀ c, I.wq c = Layout.block ⟨2, ![512, 256]⟩ ⟨2, ![512, 8192]⟩ 1 32 c wq)
    (hw : ∀ c, I.wo c = Layout.block ⟨2, ![256, 512]⟩ ⟨2, ![8192, 512]⟩ 0 32 c wo) :
    outC I = Cert.ReferenceIdeal.Read.val_main_v34 (F := Ideal) x wq k v wo := by
  have hh : ∀ (c : Fin 32) (i : Fin 256), headOf c ⟨i.val / 64, by omega⟩ = ⟨(256 * c.val + i.val) / 64, by omega⟩ :=
    fun c i => Fin.ext (show 4 * c.val + i.val / 64 = (256 * c.val + i.val) / 64 by omega)
  have hQ : ∀ (c : Fin 32) (b : Fin 2) (i : Fin 256),
      devQ I c b ⟨i.val / 64, by omega⟩ = refQ x wq b ⟨(256 * c.val + i.val) / 64, by omega⟩ := by
    intro c b i
    funext r d
    refine Finset.sum_congr rfl fun l _ => ?_
    rw [hx, hq]
    refine congrArg (x (ix3 b r l) * ·) (congrArg wq (funext fun a => Fin.ext ?_))
    match a with
    | ⟨0, _⟩ => rfl
    | ⟨1, _⟩ =>
      show c.val * 256 + (64 * (i.val / 64) + d.val) = 64 * ((256 * c.val + i.val) / 64) + d.val
      omega
  have hK : ∀ (c : Fin 32) (b : Fin 2) (i : Fin 256),
      devK I c b ⟨i.val / 64, by omega⟩ = refK k b ⟨(256 * c.val + i.val) / 64, by omega⟩ := by
    intro c b i
    funext j d
    unfold devK refK
    rw [hk, hh]
  have hV : ∀ (c : Fin 32) (b : Fin 2) (i : Fin 256),
      devV I c b ⟨i.val / 64, by omega⟩ = refK v b ⟨(256 * c.val + i.val) / 64, by omega⟩ := by
    intro c b i
    funext j d
    unfold devV refK
    rw [hv, hh]
  have hW : ∀ (c : Fin 32) (i : Fin 256) (o : Fin 512),
      I.wo c (ix2 i o) = wo (ix2 ⟨256 * c.val + i.val, by omega⟩ o) := by
    intro c i o
    rw [hw]
    refine congrArg wo (funext fun a => Fin.ext ?_)
    match a with
    | ⟨0, _⟩ => show c.val * 256 + i.val = 256 * c.val + i.val; omega
    | ⟨1, _⟩ => rfl
  funext i
  obtain ⟨b, r, o, rfl⟩ : ∃ b r o, i = ix3 b r o := ⟨i 0, i 1, i 2, funext fun a => by fin_cases a <;> rfl⟩
  rw [outC_apply, Cert.ReferenceIdeal.Attn.result_apply, sum_blocks]
  refine Finset.sum_congr rfl fun c _ => Finset.sum_congr rfl fun i _ => ?_
  rw [hQ, hK, hV, hW]
  refine congrArg (· * _) (congrArg _ (Fin.ext ?_))
  show i.val % 64 = (256 * c.val + i.val) % 64
  omega

theorem algebraic_kernelIdeal : Cert.algebraic_KernelIdeal_ReferenceIdeal
    (hKernelIdeal := Cert.KernelIdeal.Gen.facts) (hReferenceIdeal := Cert.ReferenceIdeal.Gen.facts) := by
  intro m g m' g' _ h
  have e : outC (insOf m) = Cert.ReferenceIdeal.Value.res_main_v34 (F := Ideal) m' 0 :=
    (reduced_eq (insOf m) _ _ _ _ _ (fun c => (ins_x m c).trans (h c).1) (fun c => (h c).2.2.1) (fun c => (h c).2.2.2.1)
      (fun c => (ins_wq m c).trans (h c).2.1) (fun c => (ins_wo m c).trans (h c).2.2.2.2)).trans
      (Cert.ReferenceIdeal.Read.val_main_v34_eq m' 0).symm
  refine ⟨Cert.ReferenceIdeal.Value.res_main_v34 (F := Ideal) m' 0, ?_, ?_⟩
  · exact (θ_run Cert.KernelIdeal.defs _ _).mono (fun r H c => ⟨(H.1 c).1.trans ((final_out m c).trans e), (H.1 c).2⟩)
      (run_main (F := Ideal) m g)
  · exact (θ_run Cert.ReferenceIdeal.defs _ _).mono (fun r H => H 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_referenceIdeal, trivial, algebraic_kernelIdeal⟩

end Cert.Proof

end
